-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_attention_inputs : Cert.Pre_attention_inputs.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_attention_inputs.lean ====
abbrev S16x2048x1024 : Shape := ⟨3, ![16, 2048, 1024]⟩
abbrev S16x256x1024 : Shape := ⟨3, ![16, 256, 1024]⟩
abbrev S16x16x64x128 : Shape := ⟨4, ![16, 16, 64, 128]⟩
abbrev S16x15x31 : Shape := ⟨3, ![16, 15, 31]⟩
abbrev S64x64 : Shape := ⟨2, ![64, 64]⟩
abbrev S_ : Shape := ⟨0, ![]⟩
abbrev S64x64x1 : Shape := ⟨3, ![64, 64, 1]⟩
abbrev S16x15x64x64 : Shape := ⟨4, ![16, 15, 64, 64]⟩
abbrev S16x16x64x64 : Shape := ⟨4, ![16, 16, 64, 64]⟩

class Facts : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64_S16x15x64x64_2_3 : S64x64.BroadcastsInDim S16x15x64x64 (![2, 3] : Fin 2 → Fin S16x15x64x64.rank)
  bcast_S_S16x15x64x64 : S_.BroadcastsInDim S16x15x64x64 (![] : Fin 0 → Fin S16x15x64x64.rank)
  pads_S16x15x64x64_S16x16x64x64_000_100_000_000 : S16x15x64x64.Pads (![0, 1, 0, 0] : Fin 4 → Nat) ![0, 0, 0, 0] ![0, 0, 0, 0] S16x16x64x64
  h_S_ : 0 < S_.numel
  pads_S16x15x64x64_S16x16x64x64_000_010_000_000 : S16x15x64x64.Pads (![0, 0, 0, 0] : Fin 4 → Nat) ![0, 1, 0, 0] ![0, 0, 0, 0] S16x16x64x64
  concatenates_S16x16x64x64_S16x16x64x64_S16x16x64x128_d3 : Shape.Concatenates [S16x16x64x64, S16x16x64x64] S16x16x64x128 3
  reducesTo_S16x16x64x128_S_d0_1_2_3 : S16x16x64x128.ReducesTo [0, 1, 2, 3] S_
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S16x256x1024 : S_.BroadcastsInDim S16x256x1024 (![] : Fin 0 → Fin S16x256x1024.rank)
  reducesTo_S16x256x1024_S_d0_1_2 : S16x256x1024.ReducesTo [0, 1, 2] S_
  bcast_S_S16x15x31 : S_.BroadcastsInDim S16x15x31 (![] : Fin 0 → Fin S16x15x31.rank)
  reducesTo_S16x15x31_S_d0_1_2 : S16x15x31.ReducesTo [0, 1, 2] S_
  gather_S16x15x31_S64x64x1_S16x15x64x64_01_2_n_n_2_2_16151_wf : GatherDims.WF S16x15x31 S64x64x1 S16x15x64x64 [0, 1] [2] [] [2] [] 2 ![16, 15, 1]

variable [Facts]

def gather_S16x15x31_S64x64x1_S16x15x64x64_01_2_n_n_2_2_16151 : GatherDims S16x15x31 S64x64x1 S16x15x64x64 where
  offsetDims := [0, 1]
  collapsedSliceDims := [2]
  operandBatchingDims := []
  startIndicesBatchingDims := []
  startIndexMap := [2]
  indexVectorDim := 2
  sliceSizes := ![16, 15, 1]
  wf := gather_S16x15x31_S64x64x1_S16x15x64x64_01_2_n_n_2_2_16151_wf
def fn_part3 {F : FTy → Type} [FloatOps F] (main_v27 : IVec S_ 1) (main_v50 : IVec S_ 1) (main_v51 : FVec F S16x15x31 .f32) (main_cst_17 : FVec F S_ .f32) : IVec S_ 1 :=
  let main_v52 : FVec F S16x15x31 .f32 := broadcastInDim S16x15x31 ![] bcast_S_S16x15x31 main_cst_17
  let main_v53 : IVec S16x15x31 1 := cmpf .olt main_v51 main_v52
  let main_c_18 : IVec S_ 1 := constantI S_ 1 1#1
  let main_v54 : IVec S_ 1 := (fun x v => Host.reduce IntOp.andi x v reducesTo_S16x15x31_S_d0_1_2 h_S_) main_v53 main_c_18
  let main_v55 : IVec S_ 1 := andi main_v50 main_v54
  let main_v56 : IVec S_ 1 := andi main_v55 main_v27
  main_v56

def fn_part2 {F : FTy → Type} [FloatOps F] (main_arg3 : FVec F S16x256x1024 .bf16) (main_arg4 : FVec F S16x256x1024 .bf16) (main_arg7 : FVec F S16x15x31 .f32) (main_v27 : IVec S_ 1) (main_v32 : IVec S_ 1) (main_v34 : FVec F S16x2048x1024 .f32) : IVec S_ 1 :=
  let main_cst_11 : FVec F S_ .f32 := constant S_ .f32 0x7F800000#32
  let main_v35 : FVec F S16x2048x1024 .f32 := broadcastInDim S16x2048x1024 ![] bcast_S_S16x2048x1024 main_cst_11
  let main_v36 : IVec S16x2048x1024 1 := cmpf .olt main_v34 main_v35
  let main_c_12 : IVec S_ 1 := constantI S_ 1 1#1
  let main_v37 : IVec S_ 1 := (fun x v => Host.reduce IntOp.andi x v reducesTo_S16x2048x1024_S_d0_1_2 h_S_) main_v36 main_c_12
  let main_v38 : IVec S_ 1 := andi main_v32 main_v37
  let main_v39 : FVec F S16x256x1024 .f32 := (extf .f32 · bitsLt_bf16_f32) main_arg3
  let main_v40 : FVec F S16x256x1024 .f32 := Host.absf main_v39
  let main_cst_13 : FVec F S_ .f32 := constant S_ .f32 0x7F800000#32
  let main_v41 : FVec F S16x256x1024 .f32 := broadcastInDim S16x256x1024 ![] bcast_S_S16x256x1024 main_cst_13
  let main_v42 : IVec S16x256x1024 1 := cmpf .olt main_v40 main_v41
  let main_c_14 : IVec S_ 1 := constantI S_ 1 1#1
  let main_v43 : IVec S_ 1 := (fun x v => Host.reduce IntOp.andi x v reducesTo_S16x256x1024_S_d0_1_2 h_S_) main_v42 main_c_14
  let main_v44 : IVec S_ 1 := andi main_v38 main_v43
  let main_v45 : FVec F S16x256x1024 .f32 := (extf .f32 · bitsLt_bf16_f32) main_arg4
  let main_v46 : FVec F S16x256x1024 .f32 := Host.absf main_v45
  let main_cst_15 : FVec F S_ .f32 := constant S_ .f32 0x7F800000#32
  let main_v47 : FVec F S16x256x1024 .f32 := broadcastInDim S16x256x1024 ![] bcast_S_S16x256x1024 main_cst_15
  let main_v48 : IVec S16x256x1024 1 := cmpf .olt main_v46 main_v47
  let main_c_16 : IVec S_ 1 := constantI S_ 1 1#1
  let main_v49 : IVec S_ 1 := (fun x v => Host.reduce IntOp.andi x v reducesTo_S16x256x1024_S_d0_1_2 h_S_) main_v48 main_c_16
  let main_v50 : IVec S_ 1 := andi main_v44 main_v49
  let main_v51 : FVec F S16x15x31 .f32 := Host.absf main_arg7
  let main_cst_17 : FVec F S_ .f32 := constant S_ .f32 0x7F800000#32
  fn_part3 (F := F) main_v27 main_v50 main_v51 main_cst_17

def fn_part1 {F : FTy → Type} [FloatOps F] (main_arg0 : FVec F S16x2048x1024 .bf16) (main_arg1 : FVec F S16x2048x1024 .bf16) (main_arg3 : FVec F S16x256x1024 .bf16) (main_arg4 : FVec F S16x256x1024 .bf16) (main_arg6 : FVec F S16x16x64x128 .f32) (main_arg7 : FVec F S16x15x31 .f32) (main_v7 : IVec S64x64 32) (main_v13 : IVec S64x64 1) (main_v16 : IVec S64x64 1) : IVec S_ 1 :=
  let main_v17 : IVec S64x64 1 := andi main_v13 main_v16
  let main_v18 : IVec S64x64x1 32 := broadcastInDim S64x64x1 ![0, 1] bcast_S64x64_S64x64x1_0_1 main_v7
  let main_v19 : FVec F S16x15x64x64 .f32 := (fun x i => Host.gather gather_S16x15x31_S64x64x1_S16x15x64x64_01_2_n_n_2_2_16151 x i) main_arg7 main_v18
  let main_v20 : IVec S16x15x64x64 1 := broadcastInDim S16x15x64x64 ![2, 3] bcast_S64x64_S16x15x64x64_2_3 main_v17
  let main_cst : FVec F S_ .f32 := constant S_ .f32 0xFF800000#32
  let main_v21 : FVec F S16x15x64x64 .f32 := broadcastInDim S16x15x64x64 ![] bcast_S_S16x15x64x64 main_cst
  let main_v22 : FVec F S16x15x64x64 .f32 := select main_v20 main_v19 main_v21
  let main_cst_6 : FVec F S_ .f32 := constant S_ .f32 0xFF800000#32
  let main_v23 : FVec F S16x16x64x64 .f32 := (fun x v => pad S16x16x64x64 ![0, 1, 0, 0] ![0, 0, 0, 0] ![0, 0, 0, 0] x v pads_S16x15x64x64_S16x16x64x64_000_100_000_000 h_S_) main_v22 main_cst_6
  let main_cst_7 : FVec F S_ .f32 := constant S_ .f32 0xFF800000#32
  let main_v24 : FVec F S16x16x64x64 .f32 := (fun x v => pad S16x16x64x64 ![0, 0, 0, 0] ![0, 1, 0, 0] ![0, 0, 0, 0] x v pads_S16x15x64x64_S16x16x64x64_000_010_000_000 h_S_) main_v22 main_cst_7
  let main_v25 : FVec F S16x16x64x128 .f32 := (fun a b => concatenate S16x16x64x128 3 [⟨S16x16x64x64, a⟩, ⟨S16x16x64x64, b⟩] concatenates_S16x16x64x64_S16x16x64x64_S16x16x64x128_d3) main_v23 main_v24
  let main_v26 : IVec S16x16x64x128 1 := cmpf .oeq main_arg6 main_v25
  let main_c_8 : IVec S_ 1 := constantI S_ 1 1#1
  let main_v27 : IVec S_ 1 := (fun x v => Host.reduce IntOp.andi x v reducesTo_S16x16x64x128_S_d0_1_2_3 h_S_) main_v26 main_c_8
  let main_v28 : FVec F S16x2048x1024 .f32 := (extf .f32 · bitsLt_bf16_f32) main_arg0
  let main_v29 : FVec F S16x2048x1024 .f32 := Host.absf main_v28
  let main_cst_9 : FVec F S_ .f32 := constant S_ .f32 0x7F800000#32
  let main_v30 : FVec F S16x2048x1024 .f32 := broadcastInDim S16x2048x1024 ![] bcast_S_S16x2048x1024 main_cst_9
  let main_v31 : IVec S16x2048x1024 1 := cmpf .olt main_v29 main_v30
  let main_c_10 : IVec S_ 1 := constantI S_ 1 1#1
  let main_v32 : IVec S_ 1 := (fun x v => Host.reduce IntOp.andi x v reducesTo_S16x2048x1024_S_d0_1_2 h_S_) main_v31 main_c_10
  let main_v33 : FVec F S16x2048x1024 .f32 := (extf .f32 · bitsLt_bf16_f32) main_arg1
  let main_v34 : FVec F S16x2048x1024 .f32 := Host.absf main_v33
  fn_part2 (F := F) main_arg3 main_arg4 main_arg7 main_v27 main_v32 main_v34

def fn {F : FTy → Type} [FloatOps F] (main_arg0 : FVec F S16x2048x1024 .bf16) (main_arg1 : FVec F S16x2048x1024 .bf16) (main_arg2 : FVec F S16x2048x1024 .bf16) (main_arg3 : FVec F S16x256x1024 .bf16) (main_arg4 : FVec F S16x256x1024 .bf16) (main_arg5 : FVec F S16x256x1024 .bf16) (main_arg6 : FVec F S16x16x64x128 .f32) (main_arg7 : FVec F S16x15x31 .f32) : IVec S_ 1 :=
  let main_v0 : IVec S64x64 32 := iotaInDim S64x64 32 0
  let main_v1 : IVec S64x64 32 := iotaInDim S64x64 32 1
  let main_v2 : IVec S64x64 32 := subi main_v1 main_v0
  let main_c : IVec S_ 32 := constantI S_ 32 15#32
  let main_v3 : IVec S64x64 32 := broadcastInDim S64x64 ![] bcast_S_S64x64 main_c
  let main_v4 : IVec S64x64 32 := addi main_v2 main_v3
  let main_c_0 : IVec S_ 32 := constantI S_ 32 0#32
  let main_c_1 : IVec S_ 32 := constantI S_ 32 30#32
  let main_v5 : IVec S64x64 32 := broadcastInDim S64x64 ![] bcast_S_S64x64 main_c_0
  let main_v6 : IVec S64x64 32 := broadcastInDim S64x64 ![] bcast_S_S64x64 main_c_1
  let main_v7 : IVec S64x64 32 := (fun lo x hi => minsi (maxsi x lo) hi) main_v5 main_v4 main_v6
  let main_c_2 : IVec S_ 32 := constantI S_ 32 8#32
  let main_v8 : IVec S64x64 32 := broadcastInDim S64x64 ![] bcast_S_S64x64 main_c_2
  let main_v9 : IVec S64x64 32 := subi main_v0 main_v8
  let main_c_3 : IVec S_ 32 := constantI S_ 32 0#32
  let main_c_4 : IVec S_ 32 := constantI S_ 32 48#32
  let main_v10 : IVec S64x64 32 := broadcastInDim S64x64 ![] bcast_S_S64x64 main_c_3
  let main_v11 : IVec S64x64 32 := broadcastInDim S64x64 ![] bcast_S_S64x64 main_c_4
  let main_v12 : IVec S64x64 32 := (fun lo x hi => minsi (maxsi x lo) hi) main_v10 main_v9 main_v11
  let main_v13 : IVec S64x64 1 := cmpi .sge main_v1 main_v12
  let main_c_5 : IVec S_ 32 := constantI S_ 32 16#32
  let main_v14 : IVec S64x64 32 := broadcastInDim S64x64 ![] bcast_S_S64x64 main_c_5
  let main_v15 : IVec S64x64 32 := addi main_v12 main_v14
  let main_v16 : IVec S64x64 1 := cmpi .slt main_v1 main_v15
  fn_part1 (F := F) main_arg0 main_arg1 main_arg3 main_arg4 main_arg6 main_arg7 main_v7 main_v13 main_v16
-- ==== Kernel.lean ====
abbrev S16x2048x1024 : Shape := ⟨3, ![16, 2048, 1024]⟩
abbrev S16x256x1024 : Shape := ⟨3, ![16, 256, 1024]⟩
abbrev S16x16x64x128 : Shape := ⟨4, ![16, 16, 64, 128]⟩
abbrev S16x15x31 : Shape := ⟨3, ![16, 15, 31]⟩
abbrev S1x2048x128 : Shape := ⟨3, ![1, 2048, 128]⟩
abbrev S1x256x128 : Shape := ⟨3, ![1, 256, 128]⟩
abbrev S2x16x64x128 : Shape := ⟨4, ![2, 16, 64, 128]⟩
abbrev S1x128 : Shape := ⟨2, ![1, 128]⟩
abbrev S1x768 : Shape := ⟨2, ![1, 768]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S256x256 : Shape := ⟨2, ![256, 256]⟩
abbrev S1x1x64x128 : Shape := ⟨4, ![1, 1, 64, 128]⟩
abbrev S64x128 : Shape := ⟨2, ![64, 128]⟩
abbrev S64x768 : Shape := ⟨2, ![64, 768]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x256x1024, .bf16⟩
  | .hbm, ⟨4, _⟩ => ⟨S16x256x1024, .bf16⟩
  | .hbm, ⟨5, _⟩ => ⟨S16x256x1024, .bf16⟩
  | .hbm, ⟨6, _⟩ => ⟨S16x16x64x128, .f32⟩
  | .hbm, ⟨7, _⟩ => ⟨S16x15x31, .f32⟩
  | .hbm, ⟨8, _⟩ => ⟨S16x2048x1024, .bf16⟩
  | .hbm, ⟨9, _⟩ => ⟨S16x256x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S2x16x64x128, .f32⟩
  | .local _ .vmem, ⟨13, _⟩ => ⟨S2x16x64x128, .f32⟩
  | .local _ .vmem, ⟨14, _⟩ => ⟨S1x2048x128, .bf16⟩
  | .local _ .vmem, ⟨15, _⟩ => ⟨S1x2048x128, .bf16⟩
  | .local _ .vmem, ⟨16, _⟩ => ⟨S1x256x128, .bf16⟩
  | .local _ .vmem, ⟨17, _⟩ => ⟨S1x256x128, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_11 : BitVec 32 := 0#32
  let c8_i32 : BitVec 32 := 8#32
  let v34 : BitVec 32 := Scalar.addi c0_i32_11 c8_i32
  let c1_i32_12 : BitVec 32 := 1#32
  ⟨c0_i32_11, v34, c1_i32_12⟩
def k0_mult1 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c256_i32 : BitVec 32 := 256#32
  let v88 : BitVec 32 := Scalar.muli arg11 c256_i32
  v88
def k0_mult2 (k0_t1 : Fin k0_t1_loop.trips) : BitVec 32 :=
  let c20_i32 : BitVec 32 := 20#32
  let c0_i32_33 : BitVec 32 := 0#32
  let c4_i32 : BitVec 32 := 4#32
  let c0_i32_11 : BitVec 32 := 0#32
  let c1_i32_12 : BitVec 32 := 1#32
  let arg11 : BitVec 32 := Scf.iv c0_i32_11 c1_i32_12 k0_t1
  let v84 : BitVec 32 := Scalar.muli c4_i32 arg11
  let c4_i32_32 : BitVec 32 := 4#32
  let v85 : BitVec 32 := Scalar.subi v84 c4_i32_32
  let v86 : BitVec 32 := Scalar.maxsi c0_i32_33 v85
  let v87 : BitVec 32 := Scalar.minsi c20_i32 v86
  let c64_i32_34 : BitVec 32 := 64#32
  let v90 : BitVec 32 := Scalar.muli v87 c64_i32_34
  v90
def k0_off1 (k0_t1 : Fin k0_t1_loop.trips) : Fin 3 → Nat :=
  let c0_35 : Index := 0#32
  let c0_i32_11 : BitVec 32 := 0#32
  let c1_i32_12 : BitVec 32 := 1#32
  let arg11 : BitVec 32 := Scf.iv c0_i32_11 c1_i32_12 k0_t1
  let c256_i32 : BitVec 32 := 256#32
  let v88 : BitVec 32 := Scalar.muli arg11 c256_i32
  let v89 : BitVec 32 := v88
  let v92 : Index := Scalar.indexCast v89
  let c0_36 : Index := 0#32
  ![0, v92.toNat, 0]
def k0_off2 (k0_t1 : Fin k0_t1_loop.trips) : Fin 3 → Nat :=
  let c0_37 : Index := 0#32
  let c20_i32 : BitVec 32 := 20#32
  let c0_i32_33 : BitVec 32 := 0#32
  let c4_i32 : BitVec 32 := 4#32
  let c0_i32_11 : BitVec 32 := 0#32
  let c1_i32_12 : BitVec 32 := 1#32
  let arg11 : BitVec 32 := Scf.iv c0_i32_11 c1_i32_12 k0_t1
  let v84 : BitVec 32 := Scalar.muli c4_i32 arg11
  let c4_i32_32 : BitVec 32 := 4#32
  let v85 : BitVec 32 := Scalar.subi v84 c4_i32_32
  let v86 : BitVec 32 := Scalar.maxsi c0_i32_33 v85
  let v87 : BitVec 32 := Scalar.minsi c20_i32 v86
  let c64_i32_34 : BitVec 32 := 64#32
  let v90 : BitVec 32 := Scalar.muli v87 c64_i32_34
  let v91 : BitVec 32 := v90
  let v95 : Index := Scalar.indexCast v91
  let c0_38 : Index := 0#32
  ![0, v95.toNat, 0]
def k0_off3 (k0_t1 : Fin k0_t1_loop.trips) (c0_i32_51 : BitVec 32) (c0_i32_47 : BitVec 32) : Fin 4 → Nat :=
  let c0_56 : Index := 0#32
  let c15_i32 : BitVec 32 := 15#32
  let c0_i32_55 : BitVec 32 := 0#32
  let c20_i32 : BitVec 32 := 20#32
  let c0_i32_33 : BitVec 32 := 0#32
  let c4_i32 : BitVec 32 := 4#32
  let c0_i32_11 : BitVec 32 := 0#32
  let c1_i32_12 : BitVec 32 := 1#32
  let arg11 : BitVec 32 := Scf.iv c0_i32_11 c1_i32_12 k0_t1
  let v84 : BitVec 32 := Scalar.muli c4_i32 arg11
  let c4_i32_32 : BitVec 32 := 4#32
  let v85 : BitVec 32 := Scalar.subi v84 c4_i32_32
  let v86 : BitVec 32 := Scalar.maxsi c0_i32_33 v85
  let v87 : BitVec 32 := Scalar.minsi c20_i32 v86
  let v122 : BitVec 32 := Scalar.addi v87 c0_i32_51
  let c4_i32_46 : BitVec 32 := 4#32
  let v110 : BitVec 32 := Scalar.muli c4_i32_46 arg11
  let v111 : BitVec 32 := Scalar.addi v110 c0_i32_47
  let v123 : BitVec 32 := Scalar.subi v122 v111
  let c8_i32_52 : BitVec 32 := 8#32
  let v124 : BitVec 32 := Scalar.addi v123 c8_i32_52
  let c1_i32_53 : BitVec 32 := 1#32
  let v125 : BitVec 32 := Scalar.subi v124 c1_i32_53
  let c1_i32_54 : BitVec 32 := 1#32
  let v126 : BitVec 32 := Scalar.addi v125 c1_i32_54
  let v127 : BitVec 32 := Scalar.maxsi c0_i32_55 v126
  let v128 : BitVec 32 := Scalar.minsi c15_i32 v127
  let v129 : Index := Scalar.indexCast v128
  let c0_57 : Index := 0#32
  let c0_58 : Index := 0#32
  ![0, v129.toNat, 0, 0]
def k0_off4 (k0_t1 : Fin k0_t1_loop.trips) (c0_i32_300 : BitVec 32) (c0_i32_295 : BitVec 32) : Fin 4 → Nat :=
  let c1 : Index := 1#32
  let c15_i32_305 : BitVec 32 := 15#32
  let c0_i32_304 : BitVec 32 := 0#32
  let c20_i32 : BitVec 32 := 20#32
  let c0_i32_33 : BitVec 32 := 0#32
  let c4_i32 : BitVec 32 := 4#32
  let c0_i32_11 : BitVec 32 := 0#32
  let c1_i32_12 : BitVec 32 := 1#32
  let arg11 : BitVec 32 := Scf.iv c0_i32_11 c1_i32_12 k0_t1
  let v84 : BitVec 32 := Scalar.muli c4_i32 arg11
  let c4_i32_32 : BitVec 32 := 4#32
  let v85 : BitVec 32 := Scalar.subi v84 c4_i32_32
  let v86 : BitVec 32 := Scalar.maxsi c0_i32_33 v85
  let v87 : BitVec 32 := Scalar.minsi c20_i32 v86
  let v473 : BitVec 32 := Scalar.addi v87 c0_i32_300
  let c4_i32_294 : BitVec 32 := 4#32
  let v461 : BitVec 32 := Scalar.muli c4_i32_294 arg11
  let v462 : BitVec 32 := Scalar.addi v461 c0_i32_295
  let v474 : BitVec 32 := Scalar.subi v473 v462
  let c8_i32_301 : BitVec 32 := 8#32
  let v475 : BitVec 32 := Scalar.addi v474 c8_i32_301
  let c1_i32_302 : BitVec 32 := 1#32
  let v476 : BitVec 32 := Scalar.subi v475 c1_i32_302
  let c1_i32_303 : BitVec 32 := 1#32
  let v477 : BitVec 32 := Scalar.addi v476 c1_i32_303
  let v478 : BitVec 32 := Scalar.maxsi c0_i32_304 v477
  let v479 : BitVec 32 := Scalar.minsi c15_i32_305 v478
  let v480 : Index := Scalar.indexCast v479
  let c0_306 : Index := 0#32
  let c0_307 : Index := 0#32
  ![1, v480.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x1024 : Shape := ⟨3, ![16, 2048, 1024]⟩
abbrev S16x256x1024 : Shape := ⟨3, ![16, 256, 1024]⟩
abbrev S16x16x64x128 : Shape := ⟨4, ![16, 16, 64, 128]⟩
abbrev S16x15x31 : Shape := ⟨3, ![16, 15, 31]⟩
abbrev S16x32x64x16x64 : Shape := ⟨5, ![16, 32, 64, 16, 64]⟩
abbrev S16x256x16x64 : Shape := ⟨4, ![16, 256, 16, 64]⟩
abbrev S32 : Shape := ⟨1, ![32]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x32x8x64x16x64 : Shape := ⟨6, ![16, 32, 8, 64, 16, 64]⟩
abbrev S16x32x8x31 : Shape := ⟨4, ![16, 32, 8, 31]⟩
abbrev S64x64x1 : Shape := ⟨3, ![64, 64, 1]⟩
abbrev S16x32x8x64x64 : Shape := ⟨5, ![16, 32, 8, 64, 64]⟩
abbrev S16x32x64x8x64 : Shape := ⟨5, ![16, 32, 64, 8, 64]⟩
abbrev S16x16x32x64x8x64 : Shape := ⟨6, ![16, 16, 32, 64, 8, 64]⟩
abbrev S1x16x32x64x8x64 : Shape := ⟨6, ![1, 16, 32, 64, 8, 64]⟩
abbrev S64x1x64 : Shape := ⟨3, ![64, 1, 64]⟩
abbrev S16x16x32x64x256 : Shape := ⟨5, ![16, 16, 32, 64, 256]⟩
abbrev S16x16x32x64x512 : Shape := ⟨5, ![16, 16, 32, 64, 512]⟩
abbrev S16x16x32x64x768 : Shape := ⟨5, ![16, 16, 32, 64, 768]⟩
abbrev S16x16x32x64 : Shape := ⟨4, ![16, 16, 32, 64]⟩
abbrev S16x16x32x64x1 : Shape := ⟨5, ![16, 16, 32, 64, 1]⟩
abbrev S16x32x16x64x64 : Shape := ⟨5, ![16, 32, 16, 64, 64]⟩
abbrev S16x16x64x32x64 : Shape := ⟨5, ![16, 16, 64, 32, 64]⟩
abbrev S16x16x256x256 : Shape := ⟨4, ![16, 16, 256, 256]⟩
abbrev S16x16x256 : Shape := ⟨3, ![16, 16, 256]⟩
abbrev S16x16x256x1 : Shape := ⟨4, ![16, 16, 256, 1]⟩
abbrev S16x16x64x256 : Shape := ⟨4, ![16, 16, 64, 256]⟩

abbrev nBuf : Space → Nat
  | .hbm => 189
  | .vmem => 0
  | .smem => 0
  | _ => 0

abbrev hbmTy0_0 (i : Nat) : BufTy := match i % 128 with
  | 0 => ⟨S16x2048x1024, .bf16⟩
  | 1 => ⟨S16x2048x1024, .bf16⟩
  | 2 => ⟨S16x2048x1024, .bf16⟩
  | 3 => ⟨S16x256x1024, .bf16⟩
  | 4 => ⟨S16x256x1024, .bf16⟩
  | 5 => ⟨S16x256x1024, .bf16⟩
  | 6 => ⟨S16x16x64x128, .f32⟩
  | 7 => ⟨S16x15x31, .f32⟩
  | 8 => ⟨S16x2048x1024, .f32⟩
  | 9 => ⟨S16x32x64x16x64, .f32⟩
  | 10 => ⟨S16x2048x1024, .f32⟩
  | 11 => ⟨S16x32x64x16x64, .f32⟩
  | 12 => ⟨S16x2048x1024, .f32⟩
  | 13 => ⟨S16x32x64x16x64, .f32⟩
  | 14 => ⟨S16x256x1024, .f32⟩
  | 15 => ⟨S16x256x16x64, .f32⟩
  | 16 => ⟨S16x256x1024, .f32⟩
  | 17 => ⟨S16x256x16x64, .f32⟩
  | 18 => ⟨S16x256x1024, .f32⟩
  | 19 => ⟨S16x256x16x64, .f32⟩
  | 20 => ⟨S32, .i32⟩
  | 21 => ⟨S_, .i32⟩
  | 22 => ⟨S32, .i32⟩
  | 23 => ⟨S32, .i32⟩
  | 24 => ⟨S_, .i32⟩
  | 25 => ⟨S_, .i32⟩
  | 26 => ⟨S_, .i32⟩
  | 27 => ⟨S32, .i32⟩
  | 28 => ⟨S32, .i32⟩
  | 29 => ⟨S_, .i32⟩
  | 30 => ⟨S32, .i32⟩
  | 31 => ⟨S32, .i32⟩
  | 32 => ⟨S64, .i32⟩
  | 33 => ⟨S_, .i32⟩
  | 34 => ⟨S64, .i32⟩
  | 35 => ⟨S64, .i32⟩
  | 36 => ⟨S_, .i32⟩
  | 37 => ⟨S_, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S1x64, .i32⟩
  | 45 => ⟨S64x1, .i32⟩
  | 46 => ⟨S64x64, .i32⟩
  | 47 => ⟨S64x64, .i32⟩
  | 48 => ⟨S64x64, .i1⟩
  | 49 => ⟨S1x64, .i32⟩
  | 50 => ⟨S64x1, .i32⟩
  | 51 => ⟨S_, .i32⟩
  | 52 => ⟨S64x1, .i32⟩
  | 53 => ⟨S64x1, .i32⟩
  | 54 => ⟨S64x64, .i32⟩
  | 55 => ⟨S64x64, .i32⟩
  | 56 => ⟨S64x64, .i1⟩
  | 57 => ⟨S64x64, .i1⟩
  | 58 => ⟨S1x64, .i32⟩
  | 59 => ⟨S64x1, .i32⟩
  | 60 => ⟨S64x64, .i32⟩
  | 61 => ⟨S64x64, .i32⟩
  | 62 => ⟨S64x64, .i32⟩
  | 63 => ⟨S_, .i32⟩
  | 64 => ⟨S64x64, .i32⟩
  | 65 => ⟨S64x64, .i32⟩
  | 66 => ⟨S_, .i32⟩
  | 67 => ⟨S64x64, .i32⟩
  | 68 => ⟨S64x64, .i32⟩
  | 69 => ⟨S_, .i32⟩
  | 70 => ⟨S_, .i32⟩
  | 71 => ⟨S_, .i32⟩
  | 72 => ⟨S64x64, .i32⟩
  | 73 => ⟨S64x64, .i32⟩
  | 74 => ⟨S_, .i32⟩
  | 75 => ⟨S64x64, .i32⟩
  | 76 => ⟨S64x64, .i32⟩
  | 77 => ⟨S32x1, .i32⟩
  | 78 => ⟨S8, .i32⟩
  | 79 => ⟨S1x8, .i32⟩
  | 80 => ⟨S32x8, .i32⟩
  | 81 => ⟨S32x8, .i32⟩
  | 82 => ⟨S32x8, .i32⟩
  | 83 => ⟨S_, .i32⟩
  | 84 => ⟨S32x8, .i32⟩
  | 85 => ⟨S32x8, .i1⟩
  | 86 => ⟨S_, .i32⟩
  | 87 => ⟨S32x8, .i32⟩
  | 88 => ⟨S32x8, .i32⟩
  | 89 => ⟨S32x8, .i32⟩
  | 90 => ⟨S32x8x1, .i32⟩
  | 91 => ⟨S16x32x8x64x16x64, .f32⟩
  | 92 => ⟨S_, .i32⟩
  | 93 => ⟨S32x8, .i32⟩
  | 94 => ⟨S32x8, .i1⟩
  | 95 => ⟨S_, .i32⟩
  | 96 => ⟨S32x8, .i32⟩
  | 97 => ⟨S32x8, .i32⟩
  | 98 => ⟨S32x8, .i32⟩
  | 99 => ⟨S32x8x1, .i32⟩
  | 100 => ⟨S16x32x8x64x16x64, .f32⟩
  | 101 => ⟨S32, .i32⟩
  | 102 => ⟨S32x1, .i32⟩
  | 103 => ⟨S32x8, .i32⟩
  | 104 => ⟨S32x8, .i32⟩
  | 105 => ⟨S_, .i32⟩
  | 106 => ⟨S32x8, .i32⟩
  | 107 => ⟨S32x8, .i32⟩
  | 108 => ⟨S_, .i32⟩
  | 109 => ⟨S32x8, .i32⟩
  | 110 => ⟨S32x8, .i32⟩
  | 111 => ⟨S_, .i32⟩
  | 112 => ⟨S32x8, .i32⟩
  | 113 => ⟨S32x8, .i1⟩
  | 114 => ⟨S_, .i32⟩
  | 115 => ⟨S32x8, .i32⟩
  | 116 => ⟨S32x8, .i32⟩
  | 117 => ⟨S32x8, .i32⟩
  | 118 => ⟨S32x8x1, .i32⟩
  | 119 => ⟨S16x32x8x31, .f32⟩
  | 120 => ⟨S_, .i32⟩
  | 121 => ⟨S64x64, .i32⟩
  | 122 => ⟨S64x64, .i1⟩
  | 123 => ⟨S_, .i32⟩
  | 124 => ⟨S64x64, .i32⟩
  | 125 => ⟨S64x64, .i32⟩
  | 126 => ⟨S64x64, .i32⟩
  | 127 => ⟨S64x64x1, .i32⟩
  | _ => ⟨S16x2048x1024, .bf16⟩

abbrev hbmTy0_1 (i : Nat) : BufTy := match i % 128 with
  | 0 => ⟨S16x32x8x64x64, .f32⟩
  | 1 => ⟨S16x32x64x8x64, .f32⟩
  | 2 => ⟨S16x16x32x64x8x64, .f32⟩
  | 3 => ⟨S_, .f32⟩
  | 4 => ⟨S16x16x32x64x8x64, .f32⟩
  | 5 => ⟨S16x16x32x64x8x64, .f32⟩
  | 6 => ⟨S1x16x32x64x8x64, .f32⟩
  | 7 => ⟨S16x16x32x64x8x64, .f32⟩
  | 8 => ⟨S16x16x32x64x8x64, .f32⟩
  | 9 => ⟨S64x1x64, .i1⟩
  | 10 => ⟨S_, .f32⟩
  | 11 => ⟨S_, .f32⟩
  | 12 => ⟨S16x16x32x64x8x64, .i1⟩
  | 13 => ⟨S16x16x32x64x8x64, .f32⟩
  | 14 => ⟨S16x16x32x64x8x64, .f32⟩
  | 15 => ⟨S16x16x32x64x256, .f32⟩
  | 16 => ⟨S_, .f32⟩
  | 17 => ⟨S16x16x32x64x256, .f32⟩
  | 18 => ⟨S16x16x32x64x256, .f32⟩
  | 19 => ⟨S16x16x32x64x512, .f32⟩
  | 20 => ⟨S16x16x32x64x768, .f32⟩
  | 21 => ⟨S_, .f32⟩
  | 22 => ⟨S16x16x32x64, .f32⟩
  | 23 => ⟨S16x16x32x64x1, .f32⟩
  | 24 => ⟨S16x16x32x64x768, .f32⟩
  | 25 => ⟨S16x16x32x64x768, .f32⟩
  | 26 => ⟨S16x16x32x64x768, .f32⟩
  | 27 => ⟨S_, .f32⟩
  | 28 => ⟨S16x16x32x64, .f32⟩
  | 29 => ⟨S16x16x32x64x1, .f32⟩
  | 30 => ⟨S16x16x32x64x768, .f32⟩
  | 31 => ⟨S16x16x32x64x768, .f32⟩
  | 32 => ⟨S16x16x32x64x512, .f32⟩
  | 33 => ⟨S16x16x32x64x8x64, .f32⟩
  | 34 => ⟨S16x32x16x64x64, .f32⟩
  | 35 => ⟨S16x32x64x16x64, .f32⟩
  | 36 => ⟨S16x16x32x64x256, .f32⟩
  | 37 => ⟨S16x16x64x32x64, .f32⟩
  | 38 => ⟨S16x32x64x16x64, .f32⟩
  | 39 => ⟨S16x32x64x16x64, .f32⟩
  | 40 => ⟨S16x16x256x256, .f32⟩
  | 41 => ⟨S_, .f32⟩
  | 42 => ⟨S16x16x256x256, .f32⟩
  | 43 => ⟨S16x16x256x256, .f32⟩
  | 44 => ⟨S_, .f32⟩
  | 45 => ⟨S16x16x256, .f32⟩
  | 46 => ⟨S16x16x256x1, .f32⟩
  | 47 => ⟨S16x16x256x256, .f32⟩
  | 48 => ⟨S16x16x256x256, .f32⟩
  | 49 => ⟨S16x16x256x256, .f32⟩
  | 50 => ⟨S_, .f32⟩
  | 51 => ⟨S16x16x256, .f32⟩
  | 52 => ⟨S16x16x256x1, .f32⟩
  | 53 => ⟨S16x16x256x256, .f32⟩
  | 54 => ⟨S16x16x256x256, .f32⟩
  | 55 => ⟨S16x16x64x256, .f32⟩
  | 56 => ⟨S16x256x16x64, .f32⟩
  | 57 => ⟨S16x2048x1024, .f32⟩
  | 58 => ⟨S16x2048x1024, .bf16⟩
  | 59 => ⟨S16x256x1024, .f32⟩
  | 60 => ⟨S16x256x1024, .bf16⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_c_9 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_10 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_12 : Ref sig .tc := ⟨.hbm, 92, rfl⟩
abbrev main_v56 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_c_15 : Ref sig .tc := ⟨.hbm, 108, rfl⟩
abbrev main_v69 : Ref sig .tc := ⟨.hbm, 109, rfl⟩
abbrev main_v70 : Ref sig .tc := ⟨.hbm, 110, rfl⟩
abbrev main_c_16 : Ref sig .tc := ⟨.hbm, 111, rfl⟩
abbrev main_v71 : Ref sig .tc := ⟨.hbm, 112, rfl⟩
abbrev main_v72 : Ref sig .tc := ⟨.hbm, 113, rfl⟩
abbrev main_c_17 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_18 : Ref sig .tc := ⟨.hbm, 120, rfl⟩
abbrev main_v78 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v93 : Ref sig .tc := ⟨.hbm, 142, rfl⟩
abbrev main_v94 : Ref sig .tc := ⟨.hbm, 143, rfl⟩
abbrev main_cst_21 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_22 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_23 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_24 : Ref sig .tc := ⟨.hbm, 169, rfl⟩
abbrev main_v117 : Ref sig .tc := ⟨.hbm, 170, rfl⟩
abbrev main_v118 : Ref sig .tc := ⟨.hbm, 171, rfl⟩
abbrev main_cst_25 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_26 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S16x2x1024 : Shape := ⟨3, ![16, 2, 1024]⟩
abbrev S1024x5152 : Shape := ⟨2, ![1024, 5152]⟩
abbrev S1024x32 : Shape := ⟨2, ![1024, 32]⟩
abbrev S1024x2x4x4 : Shape := ⟨4, ![1024, 2, 4, 4]⟩
abbrev S1024x4x2x4 : Shape := ⟨4, ![1024, 4, 2, 4]⟩
abbrev S1024x4x8 : Shape := ⟨3, ![1024, 4, 8]⟩
abbrev S_ : Shape := ⟨0, ![]⟩
abbrev S1024x4x128 : Shape := ⟨3, ![1024, 4, 128]⟩
abbrev S1024x2048 : Shape := ⟨2, ![1024, 2048]⟩
abbrev S1024x512 : Shape := ⟨2, ![1024, 512]⟩
abbrev S1024x1024 : Shape := ⟨2, ![1024, 1024]⟩
abbrev S16x2048x2048 : Shape := ⟨3, ![16, 2048, 2048]⟩
abbrev S16x2048x512 : Shape := ⟨3, ![16, 2048, 512]⟩
abbrev S1x512x1024 : Shape := ⟨3, ![1, 512, 1024]⟩
abbrev S1x2x1024 : Shape := ⟨3, ![1, 2, 1024]⟩
abbrev S1x512x2048 : Shape := ⟨3, ![1, 512, 2048]⟩
abbrev S1x512x512 : Shape := ⟨3, ![1, 512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 26
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x2x1024, .f32⟩
  | .hbm, ⟨3, _⟩ => ⟨S1024x5152, .f32⟩
  | .hbm, ⟨4, _⟩ => ⟨S1024x32, .f32⟩
  | .hbm, ⟨5, _⟩ => ⟨S1024x2x4x4, .f32⟩
  | .hbm, ⟨6, _⟩ => ⟨S1024x4x2x4, .f32⟩
  | .hbm, ⟨7, _⟩ => ⟨S1024x4x8, .f32⟩
  | .hbm, ⟨8, _⟩ => ⟨S_, .i32⟩
  | .hbm, ⟨9, _⟩ => ⟨S_, .f32⟩
  | .hbm, ⟨10, _⟩ => ⟨S1024x4x128, .f32⟩
  | .hbm, ⟨11, _⟩ => ⟨S1024x2048, .f32⟩
  | .hbm, ⟨12, _⟩ => ⟨S1024x2048, .bf16⟩
  | .hbm, ⟨13, _⟩ => ⟨S1024x512, .f32⟩
  | .hbm, ⟨14, _⟩ => ⟨S1024x512, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S16x2048x2048, .bf16⟩
  | .hbm, ⟨22, _⟩ => ⟨S16x2048x512, .f32⟩
  | .hbm, ⟨23, _⟩ => ⟨S16x2048x1024, .bf16⟩
  | .hbm, ⟨24, _⟩ => ⟨S16x2048x1024, .bf16⟩
  | .hbm, ⟨25, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x2x1024, .f32⟩
  | .local _ .vmem, ⟨4, _⟩ => ⟨S1x2x1024, .f32⟩
  | .local _ .vmem, ⟨5, _⟩ => ⟨S1024x2048, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x512, .f32⟩
  | .local _ .vmem, ⟨13, _⟩ => ⟨S1x512x512, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S1x1024 : Shape := ⟨2, ![1, 1024]⟩
abbrev S16x2x1024 : Shape := ⟨3, ![16, 2, 1024]⟩
abbrev S1024x5152 : Shape := ⟨2, ![1024, 5152]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5152 : Shape := ⟨3, ![16, 2048, 5152]⟩
abbrev S16x2048x2048 : Shape := ⟨3, ![16, 2048, 2048]⟩
abbrev S16x2048x32 : Shape := ⟨3, ![16, 2048, 32]⟩
abbrev S16x2048x2x4x4 : Shape := ⟨5, ![16, 2048, 2, 4, 4]⟩
abbrev S16x2048x4x2x4 : Shape := ⟨5, ![16, 2048, 4, 2, 4]⟩
abbrev S16x2048x4x8 : Shape := ⟨4, ![16, 2048, 4, 8]⟩
abbrev S16x2048x4x120 : Shape := ⟨4, ![16, 2048, 4, 120]⟩
abbrev S16x2048x4x128 : Shape := ⟨4, ![16, 2048, 4, 128]⟩
abbrev S16x2048x512 : Shape := ⟨3, ![16, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x2x1024, .f32⟩
  | .hbm, ⟨3, _⟩ => ⟨S1024x5152, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x1x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x5152, .f32⟩
  | .hbm, ⟨31, _⟩ => ⟨S16x2048x2048, .f32⟩
  | .hbm, ⟨32, _⟩ => ⟨S16x2048x32, .f32⟩
  | .hbm, ⟨33, _⟩ => ⟨S16x2048x2x4x4, .f32⟩
  | .hbm, ⟨34, _⟩ => ⟨S16x2048x4x2x4, .f32⟩
  | .hbm, ⟨35, _⟩ => ⟨S16x2048x4x8, .f32⟩
  | .hbm, ⟨36, _⟩ => ⟨S_, .f32⟩
  | .hbm, ⟨37, _⟩ => ⟨S16x2048x4x120, .f32⟩
  | .hbm, ⟨38, _⟩ => ⟨S16x2048x4x128, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x2048, .bf16⟩
  | .hbm, ⟨43, _⟩ => ⟨S16x2048x512, .f32⟩
  | .hbm, ⟨44, _⟩ => ⟨S16x2048x1024, .bf16⟩
  | .hbm, ⟨45, _⟩ => ⟨S16x2048x1024, .bf16⟩
  | .hbm, ⟨46, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S16x2x1024 : Shape := ⟨3, ![16, 2, 1024]⟩
abbrev S1024x3072 : Shape := ⟨2, ![1024, 3072]⟩
abbrev S64 : Shape := ⟨1, ![64]⟩
abbrev S1024x1024 : Shape := ⟨2, ![1024, 1024]⟩
abbrev S1x64 : Shape := ⟨2, ![1, 64]⟩
abbrev S16x64 : Shape := ⟨2, ![16, 64]⟩
abbrev S1024 : Shape := ⟨1, ![1024]⟩
abbrev S1x512x1024 : Shape := ⟨3, ![1, 512, 1024]⟩
abbrev S1x2x1024 : Shape := ⟨3, ![1, 2, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x256 : Shape := ⟨2, ![256, 256]⟩
abbrev S1x256 : Shape := ⟨2, ![1, 256]⟩
abbrev S1x512x256 : Shape := ⟨3, ![1, 512, 256]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x2x1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1024x3072, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S1x1024, .f32⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S16x2048x1024, .bf16⟩
  | .hbm, ⟨19, _⟩ => ⟨S16x2048x1024, .bf16⟩
  | .hbm, ⟨20, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x2x1024, .f32⟩
  | .local _ .vmem, ⟨4, _⟩ => ⟨S1x2x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S1x1024 : Shape := ⟨2, ![1, 1024]⟩
abbrev S16x2x1024 : Shape := ⟨3, ![16, 2, 1024]⟩
abbrev S1024x3072 : Shape := ⟨2, ![1024, 3072]⟩
abbrev S64 : Shape := ⟨1, ![64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3072 : Shape := ⟨3, ![16, 2048, 3072]⟩
abbrev S16x2048x3x16x64 : Shape := ⟨5, ![16, 2048, 3, 16, 64]⟩
abbrev S16x2048x1x16x64 : Shape := ⟨5, ![16, 2048, 1, 16, 64]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x2x1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x1x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x3072, .f32⟩
  | .hbm, ⟨33, _⟩ => ⟨S16x2048x3x16x64, .f32⟩
  | .hbm, ⟨34, _⟩ => ⟨S16x2048x1x16x64, .f32⟩
  | .hbm, ⟨35, _⟩ => ⟨S16x2048x16x64, .f32⟩
  | .hbm, ⟨36, _⟩ => ⟨S16x2048x16x64, .f32⟩
  | .hbm, ⟨37, _⟩ => ⟨S_, .f32⟩
  | .hbm, ⟨38, _⟩ => ⟨S16x2048x16, .f32⟩
  | .hbm, ⟨39, _⟩ => ⟨S16x2048x16x1, .f32⟩
  | .hbm, ⟨40, _⟩ => ⟨S_, .f32⟩
  | .hbm, ⟨41, _⟩ => ⟨S16x2048x16x1, .f32⟩
  | .hbm, ⟨42, _⟩ => ⟨S16x2048x16x1, .f32⟩
  | .hbm, ⟨43, _⟩ => ⟨S_, .f32⟩
  | .hbm, ⟨44, _⟩ => ⟨S16x2048x16x1, .f32⟩
  | .hbm, ⟨45, _⟩ => ⟨S16x2048x16x1, .f32⟩
  | .hbm, ⟨46, _⟩ => ⟨S16x2048x16x1, .f32⟩
  | .hbm, ⟨47, _⟩ => ⟨S16x2048x16x64, .f32⟩
  | .hbm, ⟨48, _⟩ => ⟨S16x2048x16x64, .f32⟩
  | .hbm, ⟨49, _⟩ => ⟨S1x1x1x64, .f32⟩
  | .hbm, ⟨50, _⟩ => ⟨S16x2048x16x64, .f32⟩
  | .hbm, ⟨51, _⟩ => ⟨S16x2048x16x64, .f32⟩
  | .hbm, ⟨52, _⟩ => ⟨S16x2048x1x16x64, .f32⟩
  | .hbm, ⟨53, _⟩ => ⟨S16x2048x16x64, .f32⟩
  | .hbm, ⟨54, _⟩ => ⟨S16x2048x16x64, .f32⟩
  | .hbm, ⟨55, _⟩ => ⟨S_, .f32⟩
  | .hbm, ⟨56, _⟩ => ⟨S16x2048x16, .f32⟩
  | .hbm, ⟨57, _⟩ => ⟨S16x2048x16x1, .f32⟩
  | .hbm, ⟨58, _⟩ => ⟨S_, .f32⟩
  | .hbm, ⟨59, _⟩ => ⟨S16x2048x16x1, .f32⟩
  | .hbm, ⟨60, _⟩ => ⟨S16x2048x16x1, .f32⟩
  | .hbm, ⟨61, _⟩ => ⟨S_, .f32⟩
  | .hbm, ⟨62, _⟩ => ⟨S16x2048x16x1, .f32⟩
  | .hbm, ⟨63, _⟩ => ⟨S16x2048x16x1, .f32⟩
  | .hbm, ⟨64, _⟩ => ⟨S16x2048x16x1, .f32⟩
  | .hbm, ⟨65, _⟩ => ⟨S16x2048x16x64, .f32⟩
  | .hbm, ⟨66, _⟩ => ⟨S16x2048x16x64, .f32⟩
  | .hbm, ⟨67, _⟩ => ⟨S1x1x1x64, .f32⟩
  | .hbm, ⟨68, _⟩ => ⟨S16x2048x16x64, .f32⟩
  | .hbm, ⟨69, _⟩ => ⟨S16x2048x16x64, .f32⟩
  | .hbm, ⟨70, _⟩ => ⟨S16x2048x1x16x64, .f32⟩
  | .hbm, ⟨71, _⟩ => ⟨S16x2048x16x64, .f32⟩
  | .hbm, ⟨72, _⟩ => ⟨S16x2048x1024, .f32⟩
  | .hbm, ⟨73, _⟩ => ⟨S16x2048x1024, .bf16⟩
  | .hbm, ⟨74, _⟩ => ⟨S16x2048x1024, .f32⟩
  | .hbm, ⟨75, _⟩ => ⟨S16x2048x1024, .bf16⟩
  | .hbm, ⟨76, _⟩ => ⟨S16x2048x1024, .f32⟩
  | .hbm, ⟨77, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel4.lean ====
abbrev S16x2048x1024 : Shape := ⟨3, ![16, 2048, 1024]⟩
abbrev S2048x1024 : Shape := ⟨2, ![2048, 1024]⟩
abbrev S16x3x1024 : Shape := ⟨3, ![16, 3, 1024]⟩
abbrev S1x1024 : Shape := ⟨2, ![1, 1024]⟩
abbrev S1024x1024 : Shape := ⟨2, ![1024, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S2048x1024, .f32⟩
  | .hbm, ⟨3, _⟩ => ⟨S16x2048x1024, .f32⟩
  | .hbm, ⟨4, _⟩ => ⟨S16x3x1024, .f32⟩
  | .hbm, ⟨5, _⟩ => ⟨S1x1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S16x2048x1024, .f32⟩
  | .hbm, ⟨10, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x3x1024, .f32⟩
  | .local _ .vmem, ⟨9, _⟩ => ⟨S1x3x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S16x2048x1024 : Shape := ⟨3, ![16, 2048, 1024]⟩
abbrev S2048x1024 : Shape := ⟨2, ![2048, 1024]⟩
abbrev S16x3x1024 : Shape := ⟨3, ![16, 3, 1024]⟩
abbrev S1x1024 : Shape := ⟨2, ![1, 1024]⟩
abbrev S16x2048x2048 : Shape := ⟨3, ![16, 2048, 2048]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S2048x1024, .f32⟩
  | .hbm, ⟨3, _⟩ => ⟨S16x2048x1024, .f32⟩
  | .hbm, ⟨4, _⟩ => ⟨S16x3x1024, .f32⟩
  | .hbm, ⟨5, _⟩ => ⟨S1x1024, .f32⟩
  | .hbm, ⟨6, _⟩ => ⟨S16x2048x1024, .f32⟩
  | .hbm, ⟨7, _⟩ => ⟨S16x2048x1024, .f32⟩
  | .hbm, ⟨8, _⟩ => ⟨S16x2048x2048, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x1x1024, .f32⟩
  | .hbm, ⟨32, _⟩ => ⟨S16x1x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024x1024 : Shape := ⟨2, ![1024, 1024]⟩
abbrev S16x3x1024 : Shape := ⟨3, ![16, 3, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S1x1024, .f32⟩
  | .hbm, ⟨5, _⟩ => ⟨S1024x1024, .bf16⟩
  | .hbm, ⟨6, _⟩ => ⟨S16x2048x1024, .f32⟩
  | .hbm, ⟨7, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .bf16⟩
  | .local _ .vmem, ⟨11, _⟩ => ⟨S1x512x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16x2048x1024 : Shape := ⟨3, ![16, 2048, 1024]⟩
abbrev S1024x1024 : Shape := ⟨2, ![1024, 1024]⟩
abbrev S16x3x1024 : Shape := ⟨3, ![16, 3, 1024]⟩
abbrev S1x1024 : Shape := ⟨2, ![1, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S1x1024, .f32⟩
  | .hbm, ⟨5, _⟩ => ⟨S16x1x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S16x1x1024, .f32⟩
  | .hbm, ⟨29, _⟩ => ⟨S16x1x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel6.lean ====
abbrev S16x2048x1024 : Shape := ⟨3, ![16, 2048, 1024]⟩
abbrev S1024x2048 : Shape := ⟨2, ![1024, 2048]⟩
abbrev S8x2x128x128 : Shape := ⟨4, ![8, 2, 128, 128]⟩
abbrev S1024x8x256 : Shape := ⟨3, ![1024, 8, 256]⟩
abbrev S8x1024x256 : Shape := ⟨3, ![8, 1024, 256]⟩
abbrev S16x128x128 : Shape := ⟨3, ![16, 128, 128]⟩
abbrev S16x16x64x2048 : Shape := ⟨4, ![16, 16, 64, 2048]⟩
abbrev S16x1024x2048 : Shape := ⟨3, ![16, 1024, 2048]⟩
abbrev S1x1024x1024 : Shape := ⟨3, ![1, 1024, 1024]⟩
abbrev S1x16x64x1024 : Shape := ⟨4, ![1, 16, 64, 1024]⟩
abbrev S2x2x128x256 : Shape := ⟨4, ![2, 2, 128, 256]⟩
abbrev S2x16x256 : Shape := ⟨3, ![2, 16, 256]⟩
abbrev S128x256 : Shape := ⟨2, ![128, 256]⟩
abbrev S1x256 : Shape := ⟨2, ![1, 256]⟩
abbrev S1x256x1024 : Shape := ⟨3, ![1, 256, 1024]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S1x128x128 : Shape := ⟨3, ![1, 128, 128]⟩
abbrev S128x128 : Shape := ⟨2, ![128, 128]⟩
abbrev S256x128 : Shape := ⟨2, ![256, 128]⟩
abbrev S1x1x128x256 : Shape := ⟨4, ![1, 1, 128, 256]⟩
abbrev S16x256 : Shape := ⟨2, ![16, 256]⟩
abbrev S256 : Shape := ⟨1, ![256]⟩
abbrev S8x256 : Shape := ⟨2, ![8, 256]⟩
abbrev S80x256 : Shape := ⟨2, ![80, 256]⟩
abbrev S1x16x256 : Shape := ⟨3, ![1, 16, 256]⟩
abbrev S1x1x256 : Shape := ⟨3, ![1, 1, 256]⟩
abbrev S1 : Shape := ⟨1, ![1]⟩
abbrev S1x1x1 : Shape := ⟨3, ![1, 1, 1]⟩
abbrev S1x1x8x256 : Shape := ⟨4, ![1, 1, 8, 256]⟩
abbrev S1x128x256 : Shape := ⟨3, ![1, 128, 256]⟩

abbrev nBuf : Space → Nat
  | .hbm => 12
  | .vmem => 17
  | .smem => 0
  | _ => 0

abbrev bufTy : (tb : Table) → Fin (tcTables nBuf tb) → BufTy
  | .hbm, ⟨0, _⟩ => ⟨S16x2048x1024, .bf16⟩
  | .hbm, ⟨1, _⟩ => ⟨S1024x2048, .f32⟩
  | .hbm, ⟨2, _⟩ => ⟨S8x2x128x128, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S16x128x128, .f32⟩
  | .hbm, ⟨7, _⟩ => ⟨S16x128x128, .bf16⟩
  | .hbm, ⟨8, _⟩ => ⟨S16x16x64x2048, .f32⟩
  | .hbm, ⟨9, _⟩ => ⟨S16x1024x2048, .bf16⟩
  | .hbm, ⟨10, _⟩ => ⟨S16x16x64x2048, .f32⟩
  | .hbm, ⟨11, _⟩ => ⟨S16x1024x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S8x1024x256, .bf16⟩
  | .local _ .vmem, ⟨3, _⟩ => ⟨S16x128x128, .bf16⟩
  | .local _ .vmem, ⟨4, _⟩ => ⟨S1x16x64x1024, .f32⟩
  | .local _ .vmem, ⟨5, _⟩ => ⟨S1x16x64x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x16x64x1024, .f32⟩
  | .local _ .vmem, ⟨9, _⟩ => ⟨S1x16x64x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S2x2x128x256, .f32⟩
  | .local _ .vmem, ⟨13, _⟩ => ⟨S2x16x256, .f32⟩
  | .local _ .vmem, ⟨14, _⟩ => ⟨S128x256, .f32⟩
  | .local _ .vmem, ⟨15, _⟩ => ⟨S128x256, .f32⟩
  | .local _ .vmem, ⟨16, _⟩ => ⟨S1x256, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_mult1 : BitVec 32 :=
  let c0_i32_5 : BitVec 32 := 0#32
  let c4_i32_6 : BitVec 32 := 4#32
  let c0_i32_7 : BitVec 32 := 0#32
  let v17 : BitVec 1 := Scalar.cmpi .eq c4_i32_6 c0_i32_7
  let c1_i32_8 : BitVec 32 := 1#32
  let v18 : BitVec 32 := Scalar.select v17 c1_i32_8 c4_i32_6
  let v19 : BitVec 32 := Scalar.remsi c0_i32_5 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  v27
def k0_off1 : Fin 3 → Nat :=
  let c0 : Index := 0#32
  let c0_i32_5 : BitVec 32 := 0#32
  let c4_i32_6 : BitVec 32 := 4#32
  let c0_i32_7 : BitVec 32 := 0#32
  let v17 : BitVec 1 := Scalar.cmpi .eq c4_i32_6 c0_i32_7
  let c1_i32_8 : BitVec 32 := 1#32
  let v18 : BitVec 32 := Scalar.select v17 c1_i32_8 c4_i32_6
  let v19 : BitVec 32 := Scalar.remsi c0_i32_5 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v29 : Index := Scalar.indexCast v28
  let c0_12 : Index := 0#32
  ![0, v29.toNat, 0]
def k0_off2 : Fin 3 → Nat :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c4_i32 : BitVec 32 := 4#32
  let c0_i32_2 : BitVec 32 := 0#32
  let v6 : BitVec 1 := Scalar.cmpi .sgt c4_i32 c0_i32_2
  let v7 : BitVec 32 := Scalar.extui v6
  let c0_i32_3 : BitVec 32 := 0#32
  let v8 : BitVec 1 := Scalar.cmpi .slt c4_i32 c0_i32_3
  let v9 : BitVec 32 := Scalar.extui v8
  let v10 : BitVec 32 := Scalar.subi v7 v9
  let v11 : BitVec 1 := Scalar.cmpi .ne v5 v10
  let v12 : BitVec 32 := Scalar.remsi c0_i32 c4_i32
  let c0_i32_4 : BitVec 32 := 0#32
  let v13 : BitVec 1 := Scalar.cmpi .ne v12 c0_i32_4
  let v14 : BitVec 1 := Scalar.andi v11 v13
  let v0 : BitVec 32 := Scalar.divsi c0_i32 c4_i32
  let c1_i32 : BitVec 32 := 1#32
  let v15 : BitVec 32 := Scalar.subi v0 c1_i32
  let v16 : BitVec 32 := Scalar.select v14 v15 v0
  let v32 : Index := Scalar.indexCast v16
  let c0_13 : Index := 0#32
  let c0_14 : Index := 0#32
  ![v32.toNat, 0, 0]
def k0_off3 (c0_i32_15 : BitVec 32) : Fin 3 → Nat :=
  let c2_i32 : BitVec 32 := 2#32
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c4_i32 : BitVec 32 := 4#32
  let c0_i32_2 : BitVec 32 := 0#32
  let v6 : BitVec 1 := Scalar.cmpi .sgt c4_i32 c0_i32_2
  let v7 : BitVec 32 := Scalar.extui v6
  let c0_i32_3 : BitVec 32 := 0#32
  let v8 : BitVec 1 := Scalar.cmpi .slt c4_i32 c0_i32_3
  let v9 : BitVec 32 := Scalar.extui v8
  let v10 : BitVec 32 := Scalar.subi v7 v9
  let v11 : BitVec 1 := Scalar.cmpi .ne v5 v10
  let v12 : BitVec 32 := Scalar.remsi c0_i32 c4_i32
  let c0_i32_4 : BitVec 32 := 0#32
  let v13 : BitVec 1 := Scalar.cmpi .ne v12 c0_i32_4
  let v14 : BitVec 1 := Scalar.andi v11 v13
  let v0 : BitVec 32 := Scalar.divsi c0_i32 c4_i32
  let c1_i32 : BitVec 32 := 1#32
  let v15 : BitVec 32 := Scalar.subi v0 c1_i32
  let v16 : BitVec 32 := Scalar.select v14 v15 v0
  let v37 : BitVec 32 := Scalar.muli c2_i32 v16
  let v38 : BitVec 32 := Scalar.addi v37 c0_i32_15
  let v39 : Index := Scalar.indexCast v38
  let c0_16 : Index := 0#32
  let c0_17 : Index := 0#32
  ![v39.toNat, 0, 0]
def k0_off4 (c0_i32_19 : BitVec 32) : Fin 4 → Nat :=
  let c2_i32_20 : BitVec 32 := 2#32
  let c0_i32_21 : BitVec 32 := 0#32
  let v44 : BitVec 1 := Scalar.cmpi .eq c2_i32_20 c0_i32_21
  let c1_i32_22 : BitVec 32 := 1#32
  let v45 : BitVec 32 := Scalar.select v44 c1_i32_22 c2_i32_20
  let v46 : BitVec 32 := Scalar.remsi c0_i32_19 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : Index := Scalar.indexCast v53
  let c0_26 : Index := 0#32
  let c0_27 : Index := 0#32
  let c0_28 : Index := 0#32
  ![v54.toNat, 0, 0, 0]
def k0_off5 (c0_i32_34 : BitVec 32) : Fin 4 → Nat :=
  let c2_i32_35 : BitVec 32 := 2#32
  let c0_i32_36 : BitVec 32 := 0#32
  let v65 : BitVec 1 := Scalar.cmpi .eq c2_i32_35 c0_i32_36
  let c1_i32_37 : BitVec 32 := 1#32
  let v66 : BitVec 32 := Scalar.select v65 c1_i32_37 c2_i32_35
  let v67 : BitVec 32 := Scalar.remsi c0_i32_34 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let v75 : Index := Scalar.indexCast v74
  let c1 : Index := 1#32
  let c0_41 : Index := 0#32
  let c0_42 : Index := 0#32
  ![v75.toNat, 1, 0, 0]
@[reducible] def k0_t1_loop : Scf.Loop 32 :=
  let c0_i32_43 : BitVec 32 := 0#32
  let c31_i32 : BitVec 32 := 31#32
  let v79 : BitVec 32 := Scalar.addi c0_i32_43 c31_i32
  let c1_i32_44 : BitVec 32 := 1#32
  ⟨c0_i32_43, v79, c1_i32_44⟩
def k0_mult2 (k0_t1 : Fin k0_t1_loop.trips) : BitVec 32 :=
  let c0_i32_43 : BitVec 32 := 0#32
  let c1_i32_44 : BitVec 32 := 1#32
  let arg14 : BitVec 32 := Scf.iv c0_i32_43 c1_i32_44 k0_t1
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  v1099
def k0_off6 (k0_t1 : Fin k0_t1_loop.trips) : Fin 4 → Nat :=
  let c0_i32_43 : BitVec 32 := 0#32
  let c1_i32_44 : BitVec 32 := 1#32
  let arg14 : BitVec 32 := Scf.iv c0_i32_43 c1_i32_44 k0_t1
  let c2_i32_338 : BitVec 32 := 2#32
  let c0_i32_339 : BitVec 32 := 0#32
  let v1101 : BitVec 1 := Scalar.cmpi .eq c2_i32_338 c0_i32_339
  let c1_i32_340 : BitVec 32 := 1#32
  let v1102 : BitVec 32 := Scalar.select v1101 c1_i32_340 c2_i32_338
  let v1103 : BitVec 32 := Scalar.remsi arg14 v1102
  let c0_i32_342 : BitVec 32 := 0#32
  let v1105 : BitVec 1 := Scalar.cmpi .slt v1103 c0_i32_342
  let c0_i32_343 : BitVec 32 := 0#32
  let v1106 : BitVec 1 := Scalar.cmpi .slt v1102 c0_i32_343
  let v1107 : BitVec 1 := Scalar.xori v1105 v1106
  let c0_i32_341 : BitVec 32 := 0#32
  let v1104 : BitVec 1 := Scalar.cmpi .ne v1103 c0_i32_341
  let v1108 : BitVec 1 := Scalar.andi v1107 v1104
  let v1109 : BitVec 32 := Scalar.addi v1103 v1102
  let v1110 : BitVec 32 := Scalar.select v1108 v1109 v1103
  let v1111 : Index := Scalar.indexCast v1110
  let c0_344 : Index := 0#32
  let c0_345 : Index := 0#32
  let c0_346 : Index := 0#32
  ![v1111.toNat, 0, 0, 0]
def k0_off7 (k0_t1 : Fin k0_t1_loop.trips) : Fin 4 → Nat :=
  let c0_i32_43 : BitVec 32 := 0#32
  let c1_i32_44 : BitVec 32 := 1#32
  let arg14 : BitVec 32 := Scf.iv c0_i32_43 c1_i32_44 k0_t1
  let c2_i32_347 : BitVec 32 := 2#32
  let c0_i32_348 : BitVec 32 := 0#32
  let v1114 : BitVec 1 := Scalar.cmpi .eq c2_i32_347 c0_i32_348
  let c1_i32_349 : BitVec 32 := 1#32
  let v1115 : BitVec 32 := Scalar.select v1114 c1_i32_349 c2_i32_347
  let v1116 : BitVec 32 := Scalar.remsi arg14 v1115
  let c0_i32_351 : BitVec 32 := 0#32
  let v1118 : BitVec 1 := Scalar.cmpi .slt v1116 c0_i32_351
  let c0_i32_352 : BitVec 32 := 0#32
  let v1119 : BitVec 1 := Scalar.cmpi .slt v1115 c0_i32_352
  let v1120 : BitVec 1 := Scalar.xori v1118 v1119
  let c0_i32_350 : BitVec 32 := 0#32
  let v1117 : BitVec 1 := Scalar.cmpi .ne v1116 c0_i32_350
  let v1121 : BitVec 1 := Scalar.andi v1120 v1117
  let v1122 : BitVec 32 := Scalar.addi v1116 v1115
  let v1123 : BitVec 32 := Scalar.select v1121 v1122 v1116
  let v1124 : Index := Scalar.indexCast v1123
  let c1_353 : Index := 1#32
  let c0_354 : Index := 0#32
  let c0_355 : Index := 0#32
  ![v1124.toNat, 1, 0, 0]
def k0_mult3 (k0_t1 : Fin k0_t1_loop.trips) : BitVec 32 :=
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c4_i32_364 : BitVec 32 := 4#32
  let c0_i32_365 : BitVec 32 := 0#32
  let v1145 : BitVec 1 := Scalar.cmpi .eq c4_i32_364 c0_i32_365
  let c1_i32_366 : BitVec 32 := 1#32
  let v1146 : BitVec 32 := Scalar.select v1145 c1_i32_366 c4_i32_364
  let v1147 : BitVec 32 := Scalar.remsi v1127 v1146
  let c0_i32_368 : BitVec 32 := 0#32
  let v1149 : BitVec 1 := Scalar.cmpi .slt v1147 c0_i32_368
  let c0_i32_369 : BitVec 32 := 0#32
  let v1150 : BitVec 1 := Scalar.cmpi .slt v1146 c0_i32_369
  let v1151 : BitVec 1 := Scalar.xori v1149 v1150
  let c0_i32_367 : BitVec 32 := 0#32
  let v1148 : BitVec 1 := Scalar.cmpi .ne v1147 c0_i32_367
  let v1152 : BitVec 1 := Scalar.andi v1151 v1148
  let v1153 : BitVec 32 := Scalar.addi v1147 v1146
  let v1154 : BitVec 32 := Scalar.select v1152 v1153 v1147
  let c256_i32_370 : BitVec 32 := 256#32
  let v1155 : BitVec 32 := Scalar.muli v1154 c256_i32_370
  v1155
def k0_off8 (k0_t1 : Fin k0_t1_loop.trips) : Fin 3 → Nat :=
  let c0_371 : Index := 0#32
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c4_i32_364 : BitVec 32 := 4#32
  let c0_i32_365 : BitVec 32 := 0#32
  let v1145 : BitVec 1 := Scalar.cmpi .eq c4_i32_364 c0_i32_365
  let c1_i32_366 : BitVec 32 := 1#32
  let v1146 : BitVec 32 := Scalar.select v1145 c1_i32_366 c4_i32_364
  let v1147 : BitVec 32 := Scalar.remsi v1127 v1146
  let c0_i32_368 : BitVec 32 := 0#32
  let v1149 : BitVec 1 := Scalar.cmpi .slt v1147 c0_i32_368
  let c0_i32_369 : BitVec 32 := 0#32
  let v1150 : BitVec 1 := Scalar.cmpi .slt v1146 c0_i32_369
  let v1151 : BitVec 1 := Scalar.xori v1149 v1150
  let c0_i32_367 : BitVec 32 := 0#32
  let v1148 : BitVec 1 := Scalar.cmpi .ne v1147 c0_i32_367
  let v1152 : BitVec 1 := Scalar.andi v1151 v1148
  let v1153 : BitVec 32 := Scalar.addi v1147 v1146
  let v1154 : BitVec 32 := Scalar.select v1152 v1153 v1147
  let c256_i32_370 : BitVec 32 := 256#32
  let v1155 : BitVec 32 := Scalar.muli v1154 c256_i32_370
  let v1156 : BitVec 32 := v1155
  let v1157 : Index := Scalar.indexCast v1156
  let c0_372 : Index := 0#32
  ![0, v1157.toNat, 0]
def k0_off9 (k0_t1 : Fin k0_t1_loop.trips) : Fin 3 → Nat :=
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c0_i32_358 : BitVec 32 := 0#32
  let v1129 : BitVec 1 := Scalar.cmpi .sgt v1127 c0_i32_358
  let v1130 : BitVec 32 := Scalar.extui v1129
  let c0_i32_359 : BitVec 32 := 0#32
  let v1131 : BitVec 1 := Scalar.cmpi .slt v1127 c0_i32_359
  let v1132 : BitVec 32 := Scalar.extui v1131
  let v1133 : BitVec 32 := Scalar.subi v1130 v1132
  let c4_i32_357 : BitVec 32 := 4#32
  let c0_i32_360 : BitVec 32 := 0#32
  let v1134 : BitVec 1 := Scalar.cmpi .sgt c4_i32_357 c0_i32_360
  let v1135 : BitVec 32 := Scalar.extui v1134
  let c0_i32_361 : BitVec 32 := 0#32
  let v1136 : BitVec 1 := Scalar.cmpi .slt c4_i32_357 c0_i32_361
  let v1137 : BitVec 32 := Scalar.extui v1136
  let v1138 : BitVec 32 := Scalar.subi v1135 v1137
  let v1139 : BitVec 1 := Scalar.cmpi .ne v1133 v1138
  let v1140 : BitVec 32 := Scalar.remsi v1127 c4_i32_357
  let c0_i32_362 : BitVec 32 := 0#32
  let v1141 : BitVec 1 := Scalar.cmpi .ne v1140 c0_i32_362
  let v1142 : BitVec 1 := Scalar.andi v1139 v1141
  let v1128 : BitVec 32 := Scalar.divsi v1127 c4_i32_357
  let c1_i32_363 : BitVec 32 := 1#32
  let v1143 : BitVec 32 := Scalar.subi v1128 c1_i32_363
  let v1144 : BitVec 32 := Scalar.select v1142 v1143 v1128
  let v1160 : Index := Scalar.indexCast v1144
  let c0_373 : Index := 0#32
  let c0_374 : Index := 0#32
  ![v1160.toNat, 0, 0]
def k0_off10 (k0_t1 : Fin k0_t1_loop.trips) (c0_i32_377 : BitVec 32) : Fin 3 → Nat :=
  let c2_i32_376 : BitVec 32 := 2#32
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c0_i32_358 : BitVec 32 := 0#32
  let v1129 : BitVec 1 := Scalar.cmpi .sgt v1127 c0_i32_358
  let v1130 : BitVec 32 := Scalar.extui v1129
  let c0_i32_359 : BitVec 32 := 0#32
  let v1131 : BitVec 1 := Scalar.cmpi .slt v1127 c0_i32_359
  let v1132 : BitVec 32 := Scalar.extui v1131
  let v1133 : BitVec 32 := Scalar.subi v1130 v1132
  let c4_i32_357 : BitVec 32 := 4#32
  let c0_i32_360 : BitVec 32 := 0#32
  let v1134 : BitVec 1 := Scalar.cmpi .sgt c4_i32_357 c0_i32_360
  let v1135 : BitVec 32 := Scalar.extui v1134
  let c0_i32_361 : BitVec 32 := 0#32
  let v1136 : BitVec 1 := Scalar.cmpi .slt c4_i32_357 c0_i32_361
  let v1137 : BitVec 32 := Scalar.extui v1136
  let v1138 : BitVec 32 := Scalar.subi v1135 v1137
  let v1139 : BitVec 1 := Scalar.cmpi .ne v1133 v1138
  let v1140 : BitVec 32 := Scalar.remsi v1127 c4_i32_357
  let c0_i32_362 : BitVec 32 := 0#32
  let v1141 : BitVec 1 := Scalar.cmpi .ne v1140 c0_i32_362
  let v1142 : BitVec 1 := Scalar.andi v1139 v1141
  let v1128 : BitVec 32 := Scalar.divsi v1127 c4_i32_357
  let c1_i32_363 : BitVec 32 := 1#32
  let v1143 : BitVec 32 := Scalar.subi v1128 c1_i32_363
  let v1144 : BitVec 32 := Scalar.select v1142 v1143 v1128
  let v1165 : BitVec 32 := Scalar.muli c2_i32_376 v1144
  let v1166 : BitVec 32 := Scalar.addi v1165 c0_i32_377
  let v1167 : Index := Scalar.indexCast v1166
  let c0_378 : Index := 0#32
  let c0_379 : Index := 0#32
  ![v1167.toNat, 0, 0]
def k0_off11 (k0_t1 : Fin k0_t1_loop.trips) : Fin 4 → Nat :=
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c2_i32_381 : BitVec 32 := 2#32
  let c0_i32_382 : BitVec 32 := 0#32
  let v1172 : BitVec 1 := Scalar.cmpi .eq c2_i32_381 c0_i32_382
  let c1_i32_383 : BitVec 32 := 1#32
  let v1173 : BitVec 32 := Scalar.select v1172 c1_i32_383 c2_i32_381
  let v1174 : BitVec 32 := Scalar.remsi v1127 v1173
  let c0_i32_385 : BitVec 32 := 0#32
  let v1176 : BitVec 1 := Scalar.cmpi .slt v1174 c0_i32_385
  let c0_i32_386 : BitVec 32 := 0#32
  let v1177 : BitVec 1 := Scalar.cmpi .slt v1173 c0_i32_386
  let v1178 : BitVec 1 := Scalar.xori v1176 v1177
  let c0_i32_384 : BitVec 32 := 0#32
  let v1175 : BitVec 1 := Scalar.cmpi .ne v1174 c0_i32_384
  let v1179 : BitVec 1 := Scalar.andi v1178 v1175
  let v1180 : BitVec 32 := Scalar.addi v1174 v1173
  let v1181 : BitVec 32 := Scalar.select v1179 v1180 v1174
  let v1182 : Index := Scalar.indexCast v1181
  let c0_387 : Index := 0#32
  let c0_388 : Index := 0#32
  let c0_389 : Index := 0#32
  ![v1182.toNat, 0, 0, 0]
def k0_off12 (k0_t1 : Fin k0_t1_loop.trips) : Fin 4 → Nat :=
  let c0_i32_43 : BitVec 32 := 0#32
  let c1_i32_44 : BitVec 32 := 1#32
  let arg14 : BitVec 32 := Scf.iv c0_i32_43 c1_i32_44 k0_t1
  let c1_i32_356 : BitVec 32 := 1#32
  let v1127 : BitVec 32 := Scalar.addi arg14 c1_i32_356
  let c2_i32_395 : BitVec 32 := 2#32
  let c0_i32_396 : BitVec 32 := 0#32
  let v1193 : BitVec 1 := Scalar.cmpi .eq c2_i32_395 c0_i32_396
  let c1_i32_397 : BitVec 32 := 1#32
  let v1194 : BitVec 32 := Scalar.select v1193 c1_i32_397 c2_i32_395
  let v1195 : BitVec 32 := Scalar.remsi v1127 v1194
  let c0_i32_399 : BitVec 32 := 0#32
  let v1197 : BitVec 1 := Scalar.cmpi .slt v1195 c0_i32_399
  let c0_i32_400 : BitVec 32 := 0#32
  let v1198 : BitVec 1 := Scalar.cmpi .slt v1194 c0_i32_400
  let v1199 : BitVec 1 := Scalar.xori v1197 v1198
  let c0_i32_398 : BitVec 32 := 0#32
  let v1196 : BitVec 1 := Scalar.cmpi .ne v1195 c0_i32_398
  let v1200 : BitVec 1 := Scalar.andi v1199 v1196
  let v1201 : BitVec 32 := Scalar.addi v1195 v1194
  let v1202 : BitVec 32 := Scalar.select v1200 v1201 v1195
  let v1203 : Index := Scalar.indexCast v1202
  let c1_401 : Index := 1#32
  let c0_402 : Index := 0#32
  let c0_403 : Index := 0#32
  ![v1203.toNat, 1, 0, 0]
def k0_mult4 (k0_t1 : Fin k0_t1_loop.trips) : BitVec 32 :=
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  v1930
def k0_mult5 (k0_t1 : Fin k0_t1_loop.trips) : BitVec 32 :=
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c128_i32_601 : BitVec 32 := 128#32
  let v1932 : BitVec 32 := Scalar.muli v1088 c128_i32_601
  v1932
def k0_off13 (k0_t1 : Fin k0_t1_loop.trips) : Fin 4 → Nat :=
  let c0_602 : Index := 0#32
  let c0_603 : Index := 0#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1935 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1936 : Index := Scalar.indexCast v1100
  ![0, 0, v1935.toNat, v1936.toNat]
def k0_off14 (k0_t1 : Fin k0_t1_loop.trips) : Fin 4 → Nat :=
  let c0_606 : Index := 0#32
  let c1_607 : Index := 1#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1947 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1948 : Index := Scalar.indexCast v1100
  ![0, 1, v1947.toNat, v1948.toNat]
def k0_off15 (k0_t1 : Fin k0_t1_loop.trips) : Fin 4 → Nat :=
  let c0_610 : Index := 0#32
  let c2_611 : Index := 2#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1959 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1960 : Index := Scalar.indexCast v1100
  ![0, 2, v1959.toNat, v1960.toNat]
def k0_off16 (k0_t1 : Fin k0_t1_loop.trips) : Fin 4 → Nat :=
  let c0_614 : Index := 0#32
  let c3_615 : Index := 3#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1971 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1972 : Index := Scalar.indexCast v1100
  ![0, 3, v1971.toNat, v1972.toNat]
def k0_off17 (k0_t1 : Fin k0_t1_loop.trips) : Fin 4 → Nat :=
  let c0_618 : Index := 0#32
  let c4_619 : Index := 4#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1983 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1984 : Index := Scalar.indexCast v1100
  ![0, 4, v1983.toNat, v1984.toNat]
def k0_off18 (k0_t1 : Fin k0_t1_loop.trips) : Fin 4 → Nat :=
  let c0_622 : Index := 0#32
  let c5_623 : Index := 5#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v1995 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v1996 : Index := Scalar.indexCast v1100
  ![0, 5, v1995.toNat, v1996.toNat]
def k0_off19 (k0_t1 : Fin k0_t1_loop.trips) : Fin 4 → Nat :=
  let c0_626 : Index := 0#32
  let c6_627 : Index := 6#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2007 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2008 : Index := Scalar.indexCast v1100
  ![0, 6, v2007.toNat, v2008.toNat]
def k0_off20 (k0_t1 : Fin k0_t1_loop.trips) : Fin 4 → Nat :=
  let c0_630 : Index := 0#32
  let c7_631 : Index := 7#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2019 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2020 : Index := Scalar.indexCast v1100
  ![0, 7, v2019.toNat, v2020.toNat]
def k0_off21 (k0_t1 : Fin k0_t1_loop.trips) : Fin 4 → Nat :=
  let c0_634 : Index := 0#32
  let c8_635 : Index := 8#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2031 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2032 : Index := Scalar.indexCast v1100
  ![0, 8, v2031.toNat, v2032.toNat]
def k0_off22 (k0_t1 : Fin k0_t1_loop.trips) : Fin 4 → Nat :=
  let c0_638 : Index := 0#32
  let c9_639 : Index := 9#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2043 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2044 : Index := Scalar.indexCast v1100
  ![0, 9, v2043.toNat, v2044.toNat]
def k0_off23 (k0_t1 : Fin k0_t1_loop.trips) : Fin 4 → Nat :=
  let c0_642 : Index := 0#32
  let c10_643 : Index := 10#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2055 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2056 : Index := Scalar.indexCast v1100
  ![0, 10, v2055.toNat, v2056.toNat]
def k0_off24 (k0_t1 : Fin k0_t1_loop.trips) : Fin 4 → Nat :=
  let c0_646 : Index := 0#32
  let c11_647 : Index := 11#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2067 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2068 : Index := Scalar.indexCast v1100
  ![0, 11, v2067.toNat, v2068.toNat]
def k0_off25 (k0_t1 : Fin k0_t1_loop.trips) : Fin 4 → Nat :=
  let c0_650 : Index := 0#32
  let c12_651 : Index := 12#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2079 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2080 : Index := Scalar.indexCast v1100
  ![0, 12, v2079.toNat, v2080.toNat]
def k0_off26 (k0_t1 : Fin k0_t1_loop.trips) : Fin 4 → Nat :=
  let c0_654 : Index := 0#32
  let c13_655 : Index := 13#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2091 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2092 : Index := Scalar.indexCast v1100
  ![0, 13, v2091.toNat, v2092.toNat]
def k0_off27 (k0_t1 : Fin k0_t1_loop.trips) : Fin 4 → Nat :=
  let c0_658 : Index := 0#32
  let c14_659 : Index := 14#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2103 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2104 : Index := Scalar.indexCast v1100
  ![0, 14, v2103.toNat, v2104.toNat]
def k0_off28 (k0_t1 : Fin k0_t1_loop.trips) : Fin 4 → Nat :=
  let c0_662 : Index := 0#32
  let c15_663 : Index := 15#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c8_i32_600 : BitVec 32 := 8#32
  let v1930 : BitVec 32 := Scalar.muli v1088 c8_i32_600
  let v1931 : BitVec 32 := v1930
  let v2115 : Index := Scalar.indexCast v1931
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2116 : Index := Scalar.indexCast v1100
  ![0, 15, v2115.toNat, v2116.toNat]
def k0_off29 (k0_t1 : Fin k0_t1_loop.trips) : Fin 3 → Nat :=
  let c0_668 : Index := 0#32
  let c0_i32_43 : BitVec 32 := 0#32
  let c1_i32_44 : BitVec 32 := 1#32
  let arg14 : BitVec 32 := Scf.iv c0_i32_43 c1_i32_44 k0_t1
  let c0_i32_325 : BitVec 32 := 0#32
  let v1073 : BitVec 1 := Scalar.cmpi .sgt arg14 c0_i32_325
  let v1074 : BitVec 32 := Scalar.extui v1073
  let c0_i32_326 : BitVec 32 := 0#32
  let v1075 : BitVec 1 := Scalar.cmpi .slt arg14 c0_i32_326
  let v1076 : BitVec 32 := Scalar.extui v1075
  let v1077 : BitVec 32 := Scalar.subi v1074 v1076
  let c4_i32_324 : BitVec 32 := 4#32
  let c0_i32_327 : BitVec 32 := 0#32
  let v1078 : BitVec 1 := Scalar.cmpi .sgt c4_i32_324 c0_i32_327
  let v1079 : BitVec 32 := Scalar.extui v1078
  let c0_i32_328 : BitVec 32 := 0#32
  let v1080 : BitVec 1 := Scalar.cmpi .slt c4_i32_324 c0_i32_328
  let v1081 : BitVec 32 := Scalar.extui v1080
  let v1082 : BitVec 32 := Scalar.subi v1079 v1081
  let v1083 : BitVec 1 := Scalar.cmpi .ne v1077 v1082
  let v1084 : BitVec 32 := Scalar.remsi arg14 c4_i32_324
  let c0_i32_329 : BitVec 32 := 0#32
  let v1085 : BitVec 1 := Scalar.cmpi .ne v1084 c0_i32_329
  let v1086 : BitVec 1 := Scalar.andi v1083 v1085
  let v1072 : BitVec 32 := Scalar.divsi arg14 c4_i32_324
  let c1_i32_330 : BitVec 32 := 1#32
  let v1087 : BitVec 32 := Scalar.subi v1072 c1_i32_330
  let v1088 : BitVec 32 := Scalar.select v1086 v1087 v1072
  let c128_i32_601 : BitVec 32 := 128#32
  let v1932 : BitVec 32 := Scalar.muli v1088 c128_i32_601
  let v1933 : BitVec 32 := v1932
  let v2128 : Index := Scalar.indexCast v1933
  let c4_i32_331 : BitVec 32 := 4#32
  let c0_i32_332 : BitVec 32 := 0#32
  let v1089 : BitVec 1 := Scalar.cmpi .eq c4_i32_331 c0_i32_332
  let c1_i32_333 : BitVec 32 := 1#32
  let v1090 : BitVec 32 := Scalar.select v1089 c1_i32_333 c4_i32_331
  let v1091 : BitVec 32 := Scalar.remsi arg14 v1090
  let c0_i32_335 : BitVec 32 := 0#32
  let v1093 : BitVec 1 := Scalar.cmpi .slt v1091 c0_i32_335
  let c0_i32_336 : BitVec 32 := 0#32
  let v1094 : BitVec 1 := Scalar.cmpi .slt v1090 c0_i32_336
  let v1095 : BitVec 1 := Scalar.xori v1093 v1094
  let c0_i32_334 : BitVec 32 := 0#32
  let v1092 : BitVec 1 := Scalar.cmpi .ne v1091 c0_i32_334
  let v1096 : BitVec 1 := Scalar.andi v1095 v1092
  let v1097 : BitVec 32 := Scalar.addi v1091 v1090
  let v1098 : BitVec 32 := Scalar.select v1096 v1097 v1091
  let c256_i32_337 : BitVec 32 := 256#32
  let v1099 : BitVec 32 := Scalar.muli v1098 c256_i32_337
  let v1100 : BitVec 32 := v1099
  let v2129 : Index := Scalar.indexCast v1100
  ![0, v2128.toNat, v2129.toNat]
def k0_mult6 : BitVec 32 :=
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  v107
def k0_mult7 : BitVec 32 :=
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  v858
def k0_mult8 : BitVec 32 :=
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c128_i32 : BitVec 32 := 128#32
  let v860 : BitVec 32 := Scalar.muli v96 c128_i32
  v860
def k0_off30 : Fin 4 → Nat :=
  let c0_267 : Index := 0#32
  let c0_268 : Index := 0#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v863 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v864 : Index := Scalar.indexCast v108
  ![0, 0, v863.toNat, v864.toNat]
def k0_off31 : Fin 4 → Nat :=
  let c0_271 : Index := 0#32
  let c1_272 : Index := 1#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v875 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v876 : Index := Scalar.indexCast v108
  ![0, 1, v875.toNat, v876.toNat]
def k0_off32 : Fin 4 → Nat :=
  let c0_275 : Index := 0#32
  let c2 : Index := 2#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v887 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v888 : Index := Scalar.indexCast v108
  ![0, 2, v887.toNat, v888.toNat]
def k0_off33 : Fin 4 → Nat :=
  let c0_278 : Index := 0#32
  let c3 : Index := 3#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v899 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v900 : Index := Scalar.indexCast v108
  ![0, 3, v899.toNat, v900.toNat]
def k0_off34 : Fin 4 → Nat :=
  let c0_281 : Index := 0#32
  let c4 : Index := 4#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v911 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v912 : Index := Scalar.indexCast v108
  ![0, 4, v911.toNat, v912.toNat]
def k0_off35 : Fin 4 → Nat :=
  let c0_284 : Index := 0#32
  let c5 : Index := 5#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v923 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v924 : Index := Scalar.indexCast v108
  ![0, 5, v923.toNat, v924.toNat]
def k0_off36 : Fin 4 → Nat :=
  let c0_287 : Index := 0#32
  let c6 : Index := 6#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v935 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v936 : Index := Scalar.indexCast v108
  ![0, 6, v935.toNat, v936.toNat]
def k0_off37 : Fin 4 → Nat :=
  let c0_290 : Index := 0#32
  let c7 : Index := 7#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v947 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v948 : Index := Scalar.indexCast v108
  ![0, 7, v947.toNat, v948.toNat]
def k0_off38 : Fin 4 → Nat :=
  let c0_293 : Index := 0#32
  let c8 : Index := 8#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v959 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v960 : Index := Scalar.indexCast v108
  ![0, 8, v959.toNat, v960.toNat]
def k0_off39 : Fin 4 → Nat :=
  let c0_296 : Index := 0#32
  let c9 : Index := 9#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v971 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v972 : Index := Scalar.indexCast v108
  ![0, 9, v971.toNat, v972.toNat]
def k0_off40 : Fin 4 → Nat :=
  let c0_299 : Index := 0#32
  let c10 : Index := 10#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v983 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v984 : Index := Scalar.indexCast v108
  ![0, 10, v983.toNat, v984.toNat]
def k0_off41 : Fin 4 → Nat :=
  let c0_302 : Index := 0#32
  let c11 : Index := 11#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v995 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v996 : Index := Scalar.indexCast v108
  ![0, 11, v995.toNat, v996.toNat]
def k0_off42 : Fin 4 → Nat :=
  let c0_305 : Index := 0#32
  let c12 : Index := 12#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v1007 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v1008 : Index := Scalar.indexCast v108
  ![0, 12, v1007.toNat, v1008.toNat]
def k0_off43 : Fin 4 → Nat :=
  let c0_308 : Index := 0#32
  let c13 : Index := 13#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v1019 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v1020 : Index := Scalar.indexCast v108
  ![0, 13, v1019.toNat, v1020.toNat]
def k0_off44 : Fin 4 → Nat :=
  let c0_311 : Index := 0#32
  let c14 : Index := 14#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v1031 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v1032 : Index := Scalar.indexCast v108
  ![0, 14, v1031.toNat, v1032.toNat]
def k0_off45 : Fin 4 → Nat :=
  let c0_314 : Index := 0#32
  let c15 : Index := 15#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c8_i32_266 : BitVec 32 := 8#32
  let v858 : BitVec 32 := Scalar.muli v96 c8_i32_266
  let v859 : BitVec 32 := v858
  let v1043 : Index := Scalar.indexCast v859
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v1044 : Index := Scalar.indexCast v108
  ![0, 15, v1043.toNat, v1044.toNat]
def k0_off46 : Fin 3 → Nat :=
  let c0_319 : Index := 0#32
  let c31_i32_46 : BitVec 32 := 31#32
  let c0_i32_48 : BitVec 32 := 0#32
  let v81 : BitVec 1 := Scalar.cmpi .sgt c31_i32_46 c0_i32_48
  let v82 : BitVec 32 := Scalar.extui v81
  let c0_i32_49 : BitVec 32 := 0#32
  let v83 : BitVec 1 := Scalar.cmpi .slt c31_i32_46 c0_i32_49
  let v84 : BitVec 32 := Scalar.extui v83
  let v85 : BitVec 32 := Scalar.subi v82 v84
  let c4_i32_47 : BitVec 32 := 4#32
  let c0_i32_50 : BitVec 32 := 0#32
  let v86 : BitVec 1 := Scalar.cmpi .sgt c4_i32_47 c0_i32_50
  let v87 : BitVec 32 := Scalar.extui v86
  let c0_i32_51 : BitVec 32 := 0#32
  let v88 : BitVec 1 := Scalar.cmpi .slt c4_i32_47 c0_i32_51
  let v89 : BitVec 32 := Scalar.extui v88
  let v90 : BitVec 32 := Scalar.subi v87 v89
  let v91 : BitVec 1 := Scalar.cmpi .ne v85 v90
  let v92 : BitVec 32 := Scalar.remsi c31_i32_46 c4_i32_47
  let c0_i32_52 : BitVec 32 := 0#32
  let v93 : BitVec 1 := Scalar.cmpi .ne v92 c0_i32_52
  let v94 : BitVec 1 := Scalar.andi v91 v93
  let v80 : BitVec 32 := Scalar.divsi c31_i32_46 c4_i32_47
  let c1_i32_53 : BitVec 32 := 1#32
  let v95 : BitVec 32 := Scalar.subi v80 c1_i32_53
  let v96 : BitVec 32 := Scalar.select v94 v95 v80
  let c128_i32 : BitVec 32 := 128#32
  let v860 : BitVec 32 := Scalar.muli v96 c128_i32
  let v861 : BitVec 32 := v860
  let v1056 : Index := Scalar.indexCast v861
  let c31_i32_54 : BitVec 32 := 31#32
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi c31_i32_54 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c256_i32_61 : BitVec 32 := 256#32
  let v107 : BitVec 32 := Scalar.muli v106 c256_i32_61
  let v108 : BitVec 32 := v107
  let v1057 : Index := Scalar.indexCast v108
  ![0, v1056.toNat, v1057.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16x2048x1024 : Shape := ⟨3, ![16, 2048, 1024]⟩
abbrev S1024x2048 : Shape := ⟨2, ![1024, 2048]⟩
abbrev S8x2x128x128 : Shape := ⟨4, ![8, 2, 128, 128]⟩
abbrev S32768x1024 : Shape := ⟨2, ![32768, 1024]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S32768x8x1x128 : Shape := ⟨4, ![32768, 8, 1, 128]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S16x1024x2048 : Shape := ⟨3, ![16, 1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x2048, .f32⟩
  | .hbm, ⟨2, _⟩ => ⟨S8x2x128x128, .f32⟩
  | .hbm, ⟨3, _⟩ => ⟨S16x2048x1024, .f32⟩
  | .hbm, ⟨4, _⟩ => ⟨S32768x1024, .f32⟩
  | .hbm, ⟨5, _⟩ => ⟨S32768x2048, .f32⟩
  | .hbm, ⟨6, _⟩ => ⟨S32768x8x2x128, .f32⟩
  | .hbm, ⟨7, _⟩ => ⟨S8x2x128x32768, .f32⟩
  | .hbm, ⟨8, _⟩ => ⟨S32768x8x2x128, .f32⟩
  | .hbm, ⟨9, _⟩ => ⟨S32768x8x1x128, .f32⟩
  | .hbm, ⟨10, _⟩ => ⟨S32768x8x128, .f32⟩
  | .hbm, ⟨11, _⟩ => ⟨S_, .f32⟩
  | .hbm, ⟨12, _⟩ => ⟨S32768x8, .f32⟩
  | .hbm, ⟨13, _⟩ => ⟨S32768x8x1, .f32⟩
  | .hbm, ⟨14, _⟩ => ⟨S32768x8x128, .f32⟩
  | .hbm, ⟨15, _⟩ => ⟨S32768x8x128, .f32⟩
  | .hbm, ⟨16, _⟩ => ⟨S32768x8x128, .f32⟩
  | .hbm, ⟨17, _⟩ => ⟨S16x2048x1024, .f32⟩
  | .hbm, ⟨18, _⟩ => ⟨S16x1024x2048, .f32⟩
  | .hbm, ⟨19, _⟩ => ⟨S16x1024x2048, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.NA.Trip.lean ====
/- What one trip of the kernel's loop over blocks of four image rows computes, as one term over the loaded vectors:
   the queries' block, the twelve key and value rows of its window, the context keys and values, and the
   twenty-four blocks of the bias table. -/
module

public import proofs.«01_k».proof.Proof.Gen.KernelIdeal.Value
public import Idealize.ShloMosaic.Lib.Pipeline.ValueKit

@[expose] public section

set_option maxRecDepth 16384
noncomputable section

namespace Cert.KernelIdeal.NA

open Cert.KernelIdeal Cert.KernelIdeal.Gen Idealize.ShloMosaic Idealize.ShloMosaic.TcCoe Idealize.SL.Sem Idealize.ShloMosaic.Tactic

variable {F : FTy → Type} [FloatOps F] [Named F]

/-- The first of the twelve key rows that trip `k` looks at, as a word. -/
def winWord (k : Fin k0_t1_loop.trips) : BitVec 32 :=
  Scalar.minsi 20#32 (Scalar.maxsi 0#32 (Scalar.subi (Scalar.muli 4#32 (Scf.iv 0#32 1#32 k)) 4#32))

/-- The first key row that query row `rq` of trip `k` attends to, counted from the window's first row, as a word. -/
def loWord (k : Fin k0_t1_loop.trips) (rq : BitVec 32) : BitVec 32 :=
  Scalar.subi (Scalar.minsi 24#32 (Scalar.maxsi 0#32 (Scalar.subi (Scalar.addi (Scalar.muli 4#32 (Scf.iv 0#32 1#32 k)) rq) 4#32))) (winWord k)

/-- Which of the window's keys lie in one of the eight rows that query row `rq` attends to. -/
def rowValid (k : Fin k0_t1_loop.trips) (rq : BitVec 32) : IVec S1x768 1 :=
  andi (cmpi .sge k0_pay69 (broadcast S1x768 (loWord k rq))) (cmpi .slt k0_pay69 (broadcast S1x768 (Scalar.addi (loWord k rq) 8#32)))

/-- The biased and masked scores of one query row: its slice of the products, plus six blocks of the table side by
    side, the mask's constant outside the rows attended to. -/
def rowScores (S : FVec F S256x768 .f32) (o : Fin 2 → ℕ) (hs : S256x768.Slices o S64x768) (k : Fin k0_t1_loop.trips) (rq : BitVec 32)
    (t : Fin 6 → Vec F S1x1x64x128 .f32) : FVec F S64x768 .f32 :=
  select (broadcastTo S64x768 (shapeCast S1x768 (rowValid k rq) shapeCasts_S1x768_S1x768) broadcasts_S1x768_S64x768)
    (addf (extractStridedSlice S64x768 o S hs)
      (concatenate S64x768 1 [⟨S64x128, shapeCast S64x128 (t 0) shapeCasts_S1x1x64x128_S64x128⟩, ⟨S64x128, shapeCast S64x128 (t 1) shapeCasts_S1x1x64x128_S64x128⟩, ⟨S64x128, shapeCast S64x128 (t 2) shapeCasts_S1x1x64x128_S64x128⟩, ⟨S64x128, shapeCast S64x128 (t 3) shapeCasts_S1x1x64x128_S64x128⟩, ⟨S64x128, shapeCast S64x128 (t 4) shapeCasts_S1x1x64x128_S64x128⟩, ⟨S64x128, shapeCast S64x128 (t 5) shapeCasts_S1x1x64x128_S64x128⟩] concatenates_S64x128_S64x128_S64x128_S64x128_S64x128_S64x128_S64x768_d1))
    (broadcast S64x768 (Named.named κ "mask" 0xF149F2CA#32))

/-- The scores of the four query rows, one under another. -/
def blockScores (S : FVec F S256x768 .f32) (k : Fin k0_t1_loop.trips) (t : Fin 6 → Fin 4 → Vec F S1x1x64x128 .f32) : FVec F S256x768 .f32 :=
  concatenate S256x768 0 [⟨S64x768, rowScores S ![0, 0] slices_S256x768_o0_0_S64x768 k 0#32 (fun ip => t ip 0)⟩,
    ⟨S64x768, rowScores S ![64, 0] slices_S256x768_o64_0_S64x768 k 1#32 (fun ip => t ip 1)⟩,
    ⟨S64x768, rowScores S ![128, 0] slices_S256x768_o128_0_S64x768 k 2#32 (fun ip => t ip 2)⟩,
    ⟨S64x768, rowScores S ![192, 0] slices_S256x768_o192_0_S64x768 k 3#32 (fun ip => t ip 3)⟩] concatenates_S64x768_S64x768_S64x768_S64x768_S256x768_d0

/-- The softmax over the window's and the context's scores together, applied to the values: both products over the sum
    of both denominators, after subtraction of the larger of both maxima. -/
def jointSoftmax (A : FVec F S256x768 .f32) (B : FVec F S256x256 .f32) (vv : FVec F S768x128 .bf16) (vc : FVec F S256x128 .bf16) :
    FVec F S256x128 .f32 :=
  have mx : FVec F S256x1 .f32 := maximumf (shapeCast S256x1 (multiReduction .maximumf [1] S256 A 0xFF800000#32 reduces_S256x768_S256 (.inl rfl) rfl) shapeCasts_S256_S256x1)
    (shapeCast S256x1 (multiReduction .maximumf [1] S256 B 0xFF800000#32 reduces_S256x256_S256 (.inl rfl) rfl) shapeCasts_S256_S256x1)
  have eA : FVec F S256x768 .f32 := exp (subf A (broadcastTo S256x768 mx broadcasts_S256x1_S256x768))
  have eB : FVec F S256x256 .f32 := exp (subf B (broadcastTo S256x256 mx broadcasts_S256x1_S256x256))
  divf (addf (matmul dot_S256x768_S768x128_S256x128_1_0_0_1_n_n none (truncf .bf16 eA bitsLt_bf16_f32) vv (constant S256x128 .f32 0x00000000#32))
        (matmul dot_S256x256_S256x128_S256x128_1_0_0_1_n_n none (truncf .bf16 eB bitsLt_bf16_f32) vc (constant S256x128 .f32 0x00000000#32)))
    (broadcastTo S256x128 (addf (shapeCast S256x1 (multiReduction .add [1] S256 eA 0x00000000#32 reduces_S256x768_S256 (.inl rfl) rfl) shapeCasts_S256_S256x1)
        (shapeCast S256x1 (multiReduction .add [1] S256 eB 0x00000000#32 reduces_S256x256_S256 (.inl rfl) rfl) shapeCasts_S256_S256x1)) broadcasts_S256x1_S256x128)

/-- The queries' products with the window's keys. -/
def prodWin (sel : IVec S1x128 1) (q : Vec F S1x256x128 .bf16) (kk : Vec F S1x768x128 .bf16) : FVec F S256x768 .f32 :=
  matmul dot_S256x128_S768x128_S256x768_1_1_0_0_n_n none (k0_pay6 sel q) (k0_pay3 kk) (constant S256x768 .f32 0x00000000#32)

/-- The queries' products with the context's keys. -/
def prodCtx (sel : IVec S1x128 1) (q : Vec F S1x256x128 .bf16) (kc : Vec F S1x256x128 .bf16) : FVec F S256x256 .f32 :=
  matmul dot_S256x128_S256x128_S256x256_1_1_0_0_n_n none (k0_pay6 sel q) (k0_pay70 kc) (constant S256x256 .f32 0x00000000#32)

/-- One head of the trip: its lanes of the queries, against all lanes of the keys. -/
def headOut (sel : IVec S1x128 1) (q : Vec F S1x256x128 .bf16) (kk vv : Vec F S1x768x128 .bf16) (kc vc : Vec F S1x256x128 .bf16)
    (k : Fin k0_t1_loop.trips) (t : Fin 6 → Fin 4 → Vec F S1x1x64x128 .f32) : FVec F S256x128 .f32 :=
  jointSoftmax (blockScores (prodWin sel q kk) k t) (prodCtx sel q kc) (k0_pay4 vv) (k0_pay71 vc)

/-- The block the trip stores: each head's own lanes of its output. -/
def tripOut (q : Vec F S1x256x128 .bf16) (kk vv : Vec F S1x768x128 .bf16) (kc vc : Vec F S1x256x128 .bf16)
    (k : Fin k0_t1_loop.trips) (t : Fin 2 → Fin 6 → Fin 4 → Vec F S1x1x64x128 .f32) : FVec F S1x256x128 .bf16 :=
  k0_pay72
    (select (broadcastTo S256x128 (shapeCast S1x128 k0_pay67 shapeCasts_S1x128_S1x128) broadcasts_S1x128_S256x128)
      (headOut k0_pay67 q kk vv kc vc k (t 0)) k0_pay5)
    (headOut k0_pay68 q kk vv kc vc k (t 1)) (k0_pay66 k0_pay68)

/-- The place in the table's block that trip `k` loads for head `hh` of the pair, pair `ip` of key rows and query row
    `rq`. -/
def tabOff (k : Fin k0_t1_loop.trips) (hh : Fin 2) (ip : Fin 6) (rq : Fin 4) : Fin 4 → ℕ :=
  match hh with
  | 0 => k0_off3 k (BitVec.ofNat 32 (2 * ip.val)) (BitVec.ofNat 32 rq.val)
  | 1 => k0_off4 k (BitVec.ofNat 32 (2 * ip.val)) (BitVec.ofNat 32 rq.val)

/-- That place lies in the block. -/
theorem tabOff_inb (k : Fin k0_t1_loop.trips) (hh : Fin 2) (ip : Fin 6) (rq : Fin 4) :
    ∀ a, tabOff k hh ip rq a + S1x1x64x128.size a ≤ S2x16x64x128.size a :=
  match hh with
  | 0 => k0_off3_inb k ip rq
  | 1 => k0_off4_inb k ip rq

/-- The rectangle of that load. -/
def tabRect (k : Fin k0_t1_loop.trips) (hh : Fin 2) (ip : Fin 6) (rq : Fin 4) : Rect S2x16x64x128 :=
  Rect.unit (s := S2x16x64x128) (tabOff k hh ip rq) S1x1x64x128.size (tabOff_inb k hh ip rq)

/-- One trip's stores, at any contents of the buffers it loads from: one block of 256 queries. -/
theorem trip_term (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x16x64x128 .f32) (harg8 : arg8.IsWhole) (arg9 : Memref sig .tc .vmem S1x2048x128 .bf16) (harg9 : arg9.IsWhole) (arg10 : Memref sig .tc .vmem S1x256x128 .bf16) (harg10 : arg10.IsWhole)
    (v30 v32 : Vec F S1x256x128 .bf16) (X0 : BufTy.Contents (Elt F) arg2.view.ty) (X1 : BufTy.Contents (Elt F) arg3.view.ty)
    (X2 : BufTy.Contents (Elt F) arg4.view.ty) (X6 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v30 v32 X0 X1 X2 X6 k
      = [⟨Rect.unit (s := S1x2048x128) (k0_off1 k) S1x256x128.size (k0_off1_inb k),
          tripOut (View.readAt (Elt F) arg2.view (Rect.unit (s := S1x2048x128) (k0_off1 k) S1x256x128.size (k0_off1_inb k)).toLoadRect X0)
            (View.readAt (Elt F) arg3.view (Rect.unit (s := S1x2048x128) (k0_off2 k) S1x768x128.size (k0_off2_inb k)).toLoadRect X1)
            (View.readAt (Elt F) arg4.view (Rect.unit (s := S1x2048x128) (k0_off2 k) S1x768x128.size (k0_off2_inb k)).toLoadRect X2)
            v30 v32 k
            (fun hh ip rq => View.readAt (Elt F) arg8.view (tabRect k hh ip rq).toLoadRect X6)⟩] := by
  unfold tripL_k0_t1 trip_k0_t1
  rfl

/-- One trip's stores, at the blocks' values. -/
theorem trip_pieces (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x16x64x128 .f32) (harg8 : arg8.IsWhole) (arg9 : Memref sig .tc .vmem S1x2048x128 .bf16) (harg9 : arg9.IsWhole) (arg10 : Memref sig .tc .vmem S1x256x128 .bf16) (harg10 : arg10.IsWhole)
    (v30 v32 : Vec F S1x256x128 .bf16) (x0 x1 x2 : Vec F S1x2048x128 .bf16) (x6 : Vec F S2x16x64x128 .f32) (k : Fin k0_t1_loop.trips) :
    tripL_k0_t1 (F := F) 𝒱 c bd i arg2 harg2 arg3 harg3 arg4 harg4 arg5 harg5 arg6 harg6 arg7 harg7 arg8 harg8 arg9 harg9 arg10 harg10 v30 v32 (harg2.unread x0) (harg3.unread x1) (harg4.unread x2) (harg8.unread x6) k
      = [⟨Rect.unit (s := S1x2048x128) (k0_off1 k) S1x256x128.size (k0_off1_inb k),
          tripOut (View.ld x0 (Rect.unit (s := S1x2048x128) (k0_off1 k) S1x256x128.size (k0_off1_inb k)))
            (View.ld x1 (Rect.unit (s := S1x2048x128) (k0_off2 k) S1x768x128.size (k0_off2_inb k)))
            (View.ld x2 (Rect.unit (s := S1x2048x128) (k0_off2 k) S1x768x128.size (k0_off2_inb k)))
            v30 v32 k (fun hh ip rq => View.ld x6 (tabRect k hh ip rq))⟩] := by
  rw [trip_term]
  simp only [View.readAt_eq_ld, Memref.IsWhole.read_unread]

end Cert.KernelIdeal.NA
-- ==== Proof.NA.Spec.lean ====
/- What the attention computes, as plain functions of its inputs over the extended reals: the token and channel
   numbering, the keys that a query attends to, its scores, and the softmax-weighted mean of the values. The kernel's
   and the reference's results are both shown to be these functions. -/
module

public import Idealize.ShloMosaic.PureOps.Ideal.Laws
public import Idealize.ShloMosaic.Lib.IdealHost

@[expose] public section

noncomputable section

namespace Cert.NA

open Idealize.ShloMosaic

/-- The token at row `r`, column `c` of the 32 × 64 image. -/
def tok (r : Fin 32) (c : Fin 64) : Fin 2048 := ⟨r.val * 64 + c.val, by omega⟩

/-- Channel `d` of head `h`. -/
def chan (h : Fin 16) (d : Fin 64) : Fin 1024 := ⟨h.val * 64 + d.val, by omega⟩

/-- The `i`-th of the eight key rows that image row `r` attends to: eight rows around it, moved inside the image. -/
def keyRow (r : Fin 32) (i : Fin 8) : Fin 32 := ⟨min (r.val - 4) 24 + i.val, by omega⟩

/-- Whether query column `q` attends to key column `c`: sixteen columns around it, moved inside the image. -/
abbrev inWin (q c : Fin 64) : Prop := min (q.val - 8) 48 ≤ c.val ∧ c.val < min (q.val - 8) 48 + 16

/-- The bias table's row for the distance between an image row and its `i`-th key row. -/
def biasRow (r : Fin 32) (i : Fin 8) : Fin 15 := ⟨min (r.val - 4) 24 + i.val + 7 - r.val, by omega⟩

/-- The bias table's column for the distance between two image columns. -/
def biasCol (q c : Fin 64) : Fin 31 := ⟨min (c.val + 15 - q.val) 30, by omega⟩

/-- The scale 1/8 of the scores, as the programs' constant spells it. -/
def scale : EReal := Ideal.ofBits .f32 0x3E000000#32

/-- The scaled product of query `s` and key `s'` of head `h`. -/
def score {n n' : ℕ} (Q : Fin 16 → Fin n → Fin 1024 → EReal) (K : Fin 16 → Fin n' → Fin 1024 → EReal) (b h : Fin 16)
    (s : Fin n) (s' : Fin n') : EReal :=
  (∑ d, Q b s (chan h d) * K b s' (chan h d)) * scale

/-- The score of the query at row `r`, column `q` against its key row `i`, column `c`: minus infinity outside the
    window of columns, else the scaled product and the bias. -/
def locScore (Q K : Fin 16 → Fin 2048 → Fin 1024 → EReal) (R : Fin 16 → Fin 15 → Fin 31 → EReal) (b h : Fin 16)
    (r : Fin 32) (q : Fin 64) (j : Fin 8 × Fin 64) : EReal :=
  if inWin q j.2 then score Q K b h (tok r q) (tok (keyRow r j.1) j.2) + R h (biasRow r j.1) (biasCol q j.2) else ⊥

/-- The mean of the values `V` and `W` weighted by the exponentials of the scores `L` and `C`. -/
def attend {κ γ : Type} [Fintype κ] [Fintype γ] (L : κ → EReal) (C : γ → EReal) (V : κ → EReal) (W : γ → EReal) : EReal :=
  Ideal.div
    ((∑ b, Ideal.exp (L b - max (Finset.univ.sup L) (Finset.univ.sup C)) * V b)
      + ∑ x, Ideal.exp (C x - max (Finset.univ.sup L) (Finset.univ.sup C)) * W x)
    ((∑ b, Ideal.exp (L b - max (Finset.univ.sup L) (Finset.univ.sup C)))
      + ∑ x, Ideal.exp (C x - max (Finset.univ.sup L) (Finset.univ.sup C)))

/-- The mean of the values `W` weighted by the exponentials of the scores `C`. -/
def attendOne {γ : Type} [Fintype γ] (C : γ → EReal) (W : γ → EReal) : EReal :=
  Ideal.div (∑ x, Ideal.exp (C x - Finset.univ.sup C) * W x) (∑ x, Ideal.exp (C x - Finset.univ.sup C))

/-- The attention of the image's queries: over the window and the context together. -/
def image (Q K V : Fin 16 → Fin 2048 → Fin 1024 → EReal) (KC VC : Fin 16 → Fin 256 → Fin 1024 → EReal)
    (R : Fin 16 → Fin 15 → Fin 31 → EReal) (b h : Fin 16) (r : Fin 32) (q d : Fin 64) : EReal :=
  attend (locScore Q K R b h r q) (fun x => score Q KC b h (tok r q) x)
    (fun j => V b (tok (keyRow r j.1) j.2) (chan h d)) (fun x => VC b x (chan h d))

/-- The attention of the context's queries: over the context. -/
def context (QC KC VC : Fin 16 → Fin 256 → Fin 1024 → EReal) (b h : Fin 16) (s : Fin 256) (d : Fin 64) : EReal :=
  attendOne (fun x => score QC KC b h s x) (fun x => VC b x (chan h d))

end Cert.NA
-- ==== Proof.NA.Words.lean ====
/- The kernel's integer arithmetic in closed form: where a trip's window of key rows begins, which of its keys a query
   row attends to, and which entries of the table it loads. -/
module

public import proofs.«01_k».proof.Proof.NA.Trip
public import proofs.«01_k».proof.Proof.NA.Spec
public import Idealize.ShloMosaic.Lib.Pointwise

@[expose] public section

set_option maxRecDepth 16384
noncomputable section

namespace Cert.KernelIdeal.NA

open Cert.NA Cert.KernelIdeal Cert.KernelIdeal.Gen Idealize.ShloMosaic Idealize.ShloMosaic.TcCoe Idealize.SL.Sem Idealize.ShloMosaic.Tactic

/-- The loop makes eight trips. -/
theorem trips_eq : k0_t1_loop.trips = 8 := by decide +kernel

/-- The first key row of trip `k`'s window. -/
def winRow (k : Fin k0_t1_loop.trips) : ℕ := min (4 * k.val - 4) 20

/-- The first key row that query row `rq` of trip `k` attends to, counted from the window's first. -/
def loRow (k : Fin k0_t1_loop.trips) (rq : Fin 4) : ℕ := min (4 * k.val + rq.val - 4) 24 - min (4 * k.val - 4) 20

/-- The word of `loRow`. -/
theorem loWord_eq (k : Fin k0_t1_loop.trips) (rq : Fin 4) : loWord k (BitVec.ofNat 32 rq.val) = BitVec.ofNat 32 (loRow k rq) := by
  revert k rq; decide +kernel

/-- The offset of the queries' load and of the store. -/
theorem off1_eq (k : Fin k0_t1_loop.trips) : k0_off1 k = ![0, 256 * k.val, 0] := by
  revert k; decide +kernel

/-- The offset of the keys' and the values' load. -/
theorem off2_eq (k : Fin k0_t1_loop.trips) : k0_off2 k = ![0, 64 * winRow k, 0] := by
  revert k; decide +kernel

/-- The offset of the table's loads. -/
theorem tabOff_eq (k : Fin k0_t1_loop.trips) (hh : Fin 2) (ip : Fin 6) (rq : Fin 4) :
    tabOff k hh ip rq = ![hh.val, min (winRow k + 2 * ip.val + 8 - (4 * k.val + rq.val)) 15, 0, 0] := by
  revert k hh ip rq; decide +kernel

/-- The key row of a window's key. -/
theorem keyOf_eq (j : Fin 768) : k0_pay69 (ix2 0 j) = BitVec.ofNat 32 (j.val / 64) := by
  revert j; decide +kernel

/-- Which of the window's keys a query row attends to. -/
theorem rowValid_eq (k : Fin k0_t1_loop.trips) (rq : Fin 4) (j : Fin 768) :
    rowValid k (BitVec.ofNat 32 rq.val) (ix2 0 j) = BitVec.ofBool (decide (loRow k rq ≤ j.val / 64 ∧ j.val / 64 < loRow k rq + 8)) := by
  have hw : ∀ (k : Fin k0_t1_loop.trips) (rq : Fin 4) (a : Fin 12),
      IntOp.andi (IntOp.cmpi .sge (BitVec.ofNat 32 a.val) (BitVec.ofNat 32 (loRow k rq)))
          (IntOp.cmpi .slt (BitVec.ofNat 32 a.val) (Scalar.addi (BitVec.ofNat 32 (loRow k rq)) 8#32))
        = BitVec.ofBool (decide (loRow k rq ≤ a.val ∧ a.val < loRow k rq + 8)) := by decide +kernel
  pointwise [rowValid]
  rw [keyOf_eq, loWord_eq]
  exact hw k rq ⟨j.val / 64, by omega⟩

/-- The lanes of a pair's first head. -/
theorem lanes0_eq (l : Fin 128) : k0_pay67 (ix2 0 l) = BitVec.ofBool (decide (l.val / 64 = 0)) := by
  revert l; decide +kernel

/-- The lanes of a pair's second head. -/
theorem lanes1_eq (l : Fin 128) : k0_pay68 (ix2 0 l) = BitVec.ofBool (decide (l.val / 64 = 1)) := by
  revert l; decide +kernel

end Cert.KernelIdeal.NA
-- ==== Proof.NA.Mean.lean ====
/- Two ways to write a softmax-weighted mean over the extended reals that agree with `attend`: with the keys among
   others that are masked to minus infinity, and with the weights divided before the products are summed. -/
module

public import proofs.«01_k».proof.Proof.NA.Spec

@[expose] public section

noncomputable section

namespace Cert.NA

open Idealize.ShloMosaic

variable {ι κ γ : Type} [Fintype ι] [Fintype κ] [Fintype γ]

/-- The weight of a key masked to minus infinity is zero. -/
theorem exp_bot_sub (M : EReal) : Ideal.exp (⊥ - M) = 0 := by
  rw [sub_eq_add_neg, EReal.bot_add]; rfl

/-- A sum over more keys than `κ`, the others' terms zero, is the sum over `κ`. -/
theorem sum_embed (e : κ → ι) (he : Function.Injective e) (f : ι → EReal) (g : κ → EReal) (hfg : ∀ b, f (e b) = g b)
    (h0 : ∀ a, (∀ b, e b ≠ a) → f a = 0) : ∑ a, f a = ∑ b, g b := by
  classical
  rw [← Finset.sum_congr rfl fun b _ => hfg b]
  rw [← Finset.sum_image (s := Finset.univ) (g := e) (f := f) (fun x _ y _ h => he h)]
  symm
  refine Finset.sum_subset (Finset.subset_univ _) fun a _ ha => h0 a fun b hb => ha ?_
  exact Finset.mem_image.2 ⟨b, Finset.mem_univ _, hb⟩

/-- The supremum over more keys than `κ`, the others masked, is the supremum over `κ`. -/
theorem sup_embed (e : κ → ι) (A : ι → EReal) (L : κ → EReal) (hA : ∀ b, A (e b) = L b)
    (h0 : ∀ a, (∀ b, e b ≠ a) → A a = ⊥) : Finset.univ.sup A = Finset.univ.sup L := by
  apply le_antisymm
  · refine Finset.sup_le fun a _ => ?_
    by_cases h : ∃ b, e b = a
    · obtain ⟨b, rfl⟩ := h
      rw [hA]; exact Finset.le_sup (Finset.mem_univ b)
    · rw [h0 a fun b hb => h ⟨b, hb⟩]; exact bot_le
  · refine Finset.sup_le fun b _ => ?_
    rw [← hA]; exact Finset.le_sup (Finset.mem_univ (e b))

/-- The mean over more keys than `κ`, the others masked to minus infinity, is the mean over `κ`. -/
theorem attend_embed (e : κ → ι) (he : Function.Injective e) (A : ι → EReal) (L : κ → EReal) (C : γ → EReal)
    (V' : ι → EReal) (V : κ → EReal) (W : γ → EReal) (hA : ∀ b, A (e b) = L b) (h0 : ∀ a, (∀ b, e b ≠ a) → A a = ⊥)
    (hV : ∀ b, V' (e b) = V b) : attend A C V' W = attend L C V W := by
  have hs := sup_embed e A L hA h0
  unfold attend
  rw [hs]
  generalize max (Finset.univ.sup L) (Finset.univ.sup C) = M
  rw [sum_embed e he (fun a => Ideal.exp (A a - M) * V' a) (fun b => Ideal.exp (L b - M) * V b) (fun b => by rw [hA, hV])
      (fun a ha => by rw [h0 a ha, exp_bot_sub, zero_mul]),
    sum_embed e he (fun a => Ideal.exp (A a - M)) (fun b => Ideal.exp (L b - M)) (fun b => by rw [hA])
      (fun a ha => by rw [h0 a ha, exp_bot_sub])]

/-- A factor that is neither negative nor infinite goes into a sum. -/
theorem sum_mul_of_nonneg (f : ι → EReal) (c : EReal) (h0 : 0 ≤ c) (ht : c ≠ ⊤) : (∑ a, f a) * c = ∑ a, f a * c := by
  classical
  induction (Finset.univ : Finset ι) using Finset.induction_on with
  | empty => simp
  | insert a s ha ih => rw [Finset.sum_insert ha, Finset.sum_insert ha, EReal.right_distrib_of_nonneg_of_ne_top h0 ht, ih]

/-- An exponential is not negative. -/
theorem exp_nonneg (x : EReal) : 0 ≤ Ideal.exp x := by
  induction x with
  | bot => exact le_refl _
  | top => exact le_top
  | coe r => rw [Ideal.exp_coe]; exact_mod_cast (Real.exp_pos r).le

/-- The exponential of what is not plus infinity isn't either. -/
theorem exp_ne_top {x : EReal} (h : x ≠ ⊤) : Ideal.exp x ≠ ⊤ := by
  induction x with
  | bot => simp
  | top => exact absurd rfl h
  | coe r => rw [Ideal.exp_coe]; exact EReal.coe_ne_top _

/-- The exponential of a real number is positive. -/
theorem exp_pos {x : EReal} (h : x ≠ ⊥) : 0 < Ideal.exp x := by
  induction x with
  | bot => exact absurd rfl h
  | top => exact EReal.zero_lt_top
  | coe r => rw [Ideal.exp_coe]; exact_mod_cast Real.exp_pos r

/-- A finite sum of terms neither of which is plus infinity isn't plus infinity, when none is negative. -/
theorem sum_ne_top (s : Finset ι) (f : ι → EReal) (h0 : ∀ a, 0 ≤ f a) (h : ∀ a, f a ≠ ⊤) : ∑ a ∈ s, f a ≠ ⊤ := by
  classical
  induction s using Finset.induction_on with
  | empty => simp
  | insert a s ha ih =>
    rw [Finset.sum_insert ha]
    exact EReal.add_ne_top (h a) ih

/-- A supremum of scores neither of which is plus infinity isn't plus infinity. -/
theorem sup_ne_top (f : ι → EReal) (h : ∀ a, f a ≠ ⊤) : Finset.univ.sup f ≠ ⊤ := by
  refine ne_of_lt ?_
  exact (Finset.sup_lt_iff bot_lt_top).2 fun a _ => lt_top_iff_ne_top.2 (h a)

/-- The difference of what is not plus infinity and a maximum that is not minus infinity isn't plus infinity. -/
theorem sub_ne_top {a M : EReal} (ha : a ≠ ⊤) (hM : M ≠ ⊥) : a - M ≠ ⊤ := by
  rw [sub_eq_add_neg]
  exact EReal.add_ne_top ha (by simpa using hM)

/-- Division by a denominator that is positive and finite goes into the weights of a sum. -/
theorem div_sum (e V : ι → EReal) (D : EReal) (hD : 0 < D) (ht : D ≠ ⊤) :
    Ideal.div (∑ a, e a * V a) D = ∑ a, V a * Ideal.div (e a) D := by
  have hb : D ≠ ⊥ := (lt_of_le_of_lt bot_le hD).ne'
  lift D to ℝ using ⟨ht, hb⟩
  have hr : (0 : ℝ) < D := by exact_mod_cast hD
  rw [Ideal.div_coe hr.ne', sum_mul_of_nonneg _ _ (by exact_mod_cast (one_div_pos.2 hr).le) (EReal.coe_ne_top _)]
  refine Finset.sum_congr rfl fun a _ => ?_
  rw [Ideal.div_coe hr.ne', mul_comm (V a), mul_assoc, mul_assoc, mul_comm (V a)]

/-- The same for a sum of two sums. -/
theorem div_sum_add (e V : ι → EReal) (f W : γ → EReal) (D : EReal) (hD : 0 < D) (ht : D ≠ ⊤) :
    Ideal.div ((∑ a, e a * V a) + ∑ x, f x * W x) D = (∑ a, V a * Ideal.div (e a) D) + ∑ x, W x * Ideal.div (f x) D := by
  rw [← div_sum e V D hD ht, ← div_sum f W D hD ht]
  have hb : D ≠ ⊥ := (lt_of_le_of_lt bot_le hD).ne'
  lift D to ℝ using ⟨ht, hb⟩
  have hr : (0 : ℝ) < D := by exact_mod_cast hD
  rw [Ideal.div_coe hr.ne', Ideal.div_coe hr.ne', Ideal.div_coe hr.ne',
    EReal.right_distrib_of_nonneg_of_ne_top (by exact_mod_cast (one_div_pos.2 hr).le) (EReal.coe_ne_top _)]

/-- The sum of exponentials of scores of which none is plus infinity and one is a real number, the maximum taken off,
    is positive and finite. -/
theorem denom_pos (f : ι → EReal) (h : ∀ a, f a ≠ ⊤) (x : ι) (hx : f x ≠ ⊥) :
    0 < ∑ a, Ideal.exp (f a - Finset.univ.sup f) ∧ ∑ a, Ideal.exp (f a - Finset.univ.sup f) ≠ ⊤ := by
  have hM : Finset.univ.sup f ≠ ⊥ := fun e => hx (le_bot_iff.1 (e ▸ Finset.le_sup (Finset.mem_univ x)))
  have hMt := sup_ne_top f h
  refine ⟨lt_of_lt_of_le (exp_pos (x := f x - Finset.univ.sup f) ?_)
    (Finset.single_le_sum (f := fun a => Ideal.exp (f a - Finset.univ.sup f)) (fun a _ => exp_nonneg _) (Finset.mem_univ x)),
    sum_ne_top _ _ (fun a => exp_nonneg _) fun a => exp_ne_top (sub_ne_top (h a) hM)⟩
  rw [sub_eq_add_neg, ne_eq, EReal.add_eq_bot_iff, not_or]
  exact ⟨hx, by simpa using hMt⟩

/-- The mean with the weights divided first, the scores of both kinds in one list. -/
theorem attend_joined (g : κ ⊕ γ ≃ ι) (Z : ι → EReal) (L : κ → EReal) (C : γ → EReal) (V : κ → EReal) (W : γ → EReal)
    (hL : ∀ b, Z (g (.inl b)) = L b) (hC : ∀ x, Z (g (.inr x)) = C x) (hLt : ∀ b, L b ≠ ⊤) (hCt : ∀ x, C x ≠ ⊤)
    (x : γ) (hx : C x ≠ ⊥) :
    (∑ b, V b * Ideal.div (Ideal.exp (L b - Finset.univ.sup Z)) (∑ j, Ideal.exp (Z j - Finset.univ.sup Z)))
      + ∑ x, W x * Ideal.div (Ideal.exp (C x - Finset.univ.sup Z)) (∑ j, Ideal.exp (Z j - Finset.univ.sup Z))
      = attend L C V W := by
  have hZt : ∀ a, Z a ≠ ⊤ := fun a => by
    obtain ⟨s, rfl⟩ := g.surjective a
    cases s with
    | inl b => rw [hL]; exact hLt b
    | inr y => rw [hC]; exact hCt y
  have hp := denom_pos Z hZt (g (.inr x)) (by rw [hC]; exact hx)
  have hsup : Finset.univ.sup Z = max (Finset.univ.sup L) (Finset.univ.sup C) := by
    apply le_antisymm
    · refine Finset.sup_le fun a _ => ?_
      obtain ⟨s, rfl⟩ := g.surjective a
      cases s with
      | inl b => rw [hL]; exact le_max_of_le_left (Finset.le_sup (Finset.mem_univ b))
      | inr y => rw [hC]; exact le_max_of_le_right (Finset.le_sup (Finset.mem_univ y))
    · refine max_le (Finset.sup_le fun b _ => ?_) (Finset.sup_le fun y _ => ?_)
      · rw [← hL]; exact Finset.le_sup (Finset.mem_univ _)
      · rw [← hC]; exact Finset.le_sup (Finset.mem_univ _)
  have hsum : ∑ j, Ideal.exp (Z j - Finset.univ.sup Z)
      = (∑ b, Ideal.exp (L b - Finset.univ.sup Z)) + ∑ y, Ideal.exp (C y - Finset.univ.sup Z) := by
    rw [← Equiv.sum_comp g, Fintype.sum_sum_type]
    simp only [hL, hC]
  rw [← div_sum_add _ _ _ _ _ hp.1 hp.2, hsum, hsup]
  rfl

/-- The mean over one kind of keys with the weights divided first. -/
theorem attendOne_divided (C W : γ → EReal) (hCt : ∀ x, C x ≠ ⊤) (x : γ) (hx : C x ≠ ⊥) :
    ∑ x, W x * Ideal.div (Ideal.exp (C x - Finset.univ.sup C)) (∑ j, Ideal.exp (C j - Finset.univ.sup C)) = attendOne C W := by
  have hp := denom_pos C hCt x hx
  rw [← div_sum _ _ _ hp.1 hp.2]
  rfl

end Cert.NA
-- ==== Proof.NA.Real.lean ====
/- Real numbers among the extended reals: finite inputs make finite scores. -/
module

public import proofs.«01_k».proof.Proof.NA.Spec

@[expose] public section

noncomputable section

namespace Cert.NA

open Idealize.ShloMosaic

/-- The extended real `x` is a real number. -/
def IsReal (x : EReal) : Prop := ∃ r : ℝ, x = (r : EReal)

/-- A real number isn't plus infinity. -/
theorem IsReal.ne_top {x : EReal} (h : IsReal x) : x ≠ ⊤ := by obtain ⟨r, rfl⟩ := h; exact EReal.coe_ne_top r

/-- A real number isn't minus infinity. -/
theorem IsReal.ne_bot {x : EReal} (h : IsReal x) : x ≠ ⊥ := by obtain ⟨r, rfl⟩ := h; exact EReal.coe_ne_bot r

/-- Sums of real numbers are real. -/
theorem IsReal.add {x y : EReal} (h : IsReal x) (h' : IsReal y) : IsReal (x + y) := by
  obtain ⟨r, rfl⟩ := h; obtain ⟨s, rfl⟩ := h'; exact ⟨r + s, (EReal.coe_add r s).symm⟩

/-- Products of real numbers are real. -/
theorem IsReal.mul {x y : EReal} (h : IsReal x) (h' : IsReal y) : IsReal (x * y) := by
  obtain ⟨r, rfl⟩ := h; obtain ⟨s, rfl⟩ := h'; exact ⟨r * s, (EReal.coe_mul r s).symm⟩

/-- Finite sums of real numbers are real. -/
theorem IsReal.sum {ι : Type} (s : Finset ι) (f : ι → EReal) (h : ∀ a, IsReal (f a)) : IsReal (∑ a ∈ s, f a) := by
  classical
  induction s using Finset.induction_on with
  | empty => exact ⟨0, by simp⟩
  | insert a s ha ih => rw [Finset.sum_insert ha]; exact (h a).add ih

/-- The scale is one eighth. -/
theorem scale_eq : scale = ((1 / 8 : ℝ) : EReal) := by
  unfold scale
  simp [Ideal.ofBits, Ideal.ieee, -EReal.coe_mul]; norm_num

/-- The same constant in bf16. -/
theorem ofBits_scale_bf16 : Ideal.ofBits .bf16 0x3E00#16 = scale := by
  rw [scale_eq]
  simp [Ideal.ofBits, Ideal.ieee, -EReal.coe_mul]; norm_num

/-- The f32 pattern of minus infinity. -/
theorem ofBits_bot_f32 : Ideal.ofBits .f32 0xFF800000#32 = ⊥ := by
  simp [Ideal.ofBits, Ideal.ieee]

/-- The f32 pattern of plus infinity. -/
theorem ofBits_top_f32 : Ideal.ofBits .f32 0x7F800000#32 = ⊤ := by
  simp [Ideal.ofBits, Ideal.ieee]

/-- Finite queries and keys have finite scores. -/
theorem score_real {n n' : ℕ} (Q : Fin 16 → Fin n → Fin 1024 → EReal) (K : Fin 16 → Fin n' → Fin 1024 → EReal)
    (hQ : ∀ b s c, IsReal (Q b s c)) (hK : ∀ b s c, IsReal (K b s c)) (b h : Fin 16) (s : Fin n) (s' : Fin n') :
    IsReal (score Q K b h s s') :=
  (IsReal.sum _ _ fun d => (hQ _ _ _).mul (hK _ _ _)).mul ⟨_, scale_eq⟩

/-- Finite queries, keys and biases have no score of plus infinity. -/
theorem locScore_ne_top (Q K : Fin 16 → Fin 2048 → Fin 1024 → EReal) (R : Fin 16 → Fin 15 → Fin 31 → EReal)
    (hQ : ∀ b s c, IsReal (Q b s c)) (hK : ∀ b s c, IsReal (K b s c)) (hR : ∀ h i j, IsReal (R h i j)) (b h : Fin 16)
    (r : Fin 32) (q : Fin 64) (j : Fin 8 × Fin 64) : locScore Q K R b h r q j ≠ ⊤ := by
  unfold locScore
  split
  · exact ((score_real Q K hQ hK _ _ _ _).add (hR _ _ _)).ne_top
  · exact bot_ne_top

end Cert.NA
-- ==== Proof.NA.Read.lean ====
/- The parts of a trip at one index: the products of one head's lanes, the masked and biased scores of a window's key,
   the softmax over window and context together, and the head whose lanes an output lane belongs to. -/
module

public import proofs.«01_k».proof.Proof.NA.Words
public import proofs.«01_k».proof.Proof.NA.Mean
public import proofs.«01_k».proof.Proof.NA.Real

@[expose] public section

set_option maxRecDepth 16384
noncomputable section

namespace Cert.KernelIdeal.NA

open Cert.NA Cert.KernelIdeal Cert.KernelIdeal.Gen Idealize.ShloMosaic Idealize.ShloMosaic.TcCoe Idealize.SL.Sem Idealize.ShloMosaic.Tactic

/-- Lane `d` of head `hh` of a pair. -/
def lane (hh : Fin 2) (d : Fin 64) : Fin 128 := ⟨hh.val * 64 + d.val, by omega⟩

/-- A selection by a decided condition. -/
theorem select_decide {α : Type} (p : Prop) [Decidable p] (x y : α) : Scalar.select (BitVec.ofBool (decide p)) x y = if p then x else y := by
  by_cases h : p <;> simp [Scalar.select, h]

/-- The mask's constant is minus infinity. -/
theorem mask_eq : (Named.named κ "mask" 0xF149F2CA#32 : Ideal .f32) = ⊥ :=
  IdealRules.named_const.ideal_named_scalar _ _ _ _ rfl

/-- A sum over all lanes, the other head's set to zero, is the sum over the head's lanes. -/
theorem lanes_sum (hh : Fin 2) (sel : IVec S1x128 1) (hs : ∀ l : Fin 128, sel (ix2 0 l) = BitVec.ofBool (decide (l.val / 64 = hh.val)))
    (f : Fin 128 → EReal) : ∑ x, Scalar.select (sel (ix2 0 x)) (f x) 0 = ∑ d, f (lane hh d) := by
  refine sum_embed (lane hh) (fun a b h => Fin.ext (by have := congrArg Fin.val h; simp only [lane] at this; omega)) _ _ (fun d => ?_) fun a ha => ?_
  · rw [hs, select_decide, if_pos (by simp only [lane]; omega)]
  · rw [hs, select_decide, if_neg]
    intro h
    exact ha ⟨a.val % 64, by omega⟩ (Fin.ext (by simp only [lane]; omega))

/-- The products of one head's lanes, its queries scaled beforehand, are the scaled products. -/
theorem head_product (hh : Fin 2) (sel : IVec S1x128 1) (hs : ∀ l : Fin 128, sel (ix2 0 l) = BitVec.ofBool (decide (l.val / 64 = hh.val)))
    (f g : Fin 128 → EReal) :
    ∑ x, Scalar.select (sel (ix2 0 x)) (f x * Ideal.ofBits .bf16 15872#16 * g x) 0 = (∑ d, f (lane hh d) * g (lane hh d)) * scale := by
  rw [sum_mul_of_nonneg _ _ (by rw [scale_eq]; exact_mod_cast (by norm_num : (0:ℝ) ≤ 1/8)) (by rw [scale_eq]; exact EReal.coe_ne_top _),
    lanes_sum hh sel hs fun x => f x * Ideal.ofBits .bf16 15872#16 * g x]
  refine Finset.sum_congr rfl fun x _ => ?_
  rw [show Ideal.ofBits .bf16 15872#16 = scale from ofBits_scale_bf16]
  exact mul_right_comm _ _ _

/-- The queries' products with the window's keys. -/
theorem prodWin_at (hh : Fin 2) (sel : IVec S1x128 1) (hs : ∀ l : Fin 128, sel (ix2 0 l) = BitVec.ofBool (decide (l.val / 64 = hh.val)))
    (q : Vec Ideal S1x256x128 .bf16) (kk : Vec Ideal S1x768x128 .bf16) (i : Fin 256) (j : Fin 768) :
    prodWin (F := Ideal) sel q kk (ix2 i j) = (∑ d, q (ix3 0 i (lane hh d)) * kk (ix3 0 j (lane hh d))) * scale := by
  refine Eq.trans ?_ (head_product hh sel hs (fun x => q (ix3 0 i x)) fun x => kk (ix3 0 j x))
  pointwise [prodWin, k0_pay6, k0_pay3, k0_pay2]

/-- The queries' products with the context's keys. -/
theorem prodCtx_at (hh : Fin 2) (sel : IVec S1x128 1) (hs : ∀ l : Fin 128, sel (ix2 0 l) = BitVec.ofBool (decide (l.val / 64 = hh.val)))
    (q : Vec Ideal S1x256x128 .bf16) (kc : Vec Ideal S1x256x128 .bf16) (i j : Fin 256) :
    prodCtx (F := Ideal) sel q kc (ix2 i j) = (∑ d, q (ix3 0 i (lane hh d)) * kc (ix3 0 j (lane hh d))) * scale := by
  refine Eq.trans ?_ (head_product hh sel hs (fun x => q (ix3 0 i x)) fun x => kc (ix3 0 j x))
  pointwise [prodCtx, k0_pay6, k0_pay70, k0_pay2]

/-- The score of one query of a query row against one key of the window. -/
theorem rowScores_at (S : FVec Ideal S256x768 .f32) (rq : Fin 4) (hs : S256x768.Slices ![64 * rq.val, 0] S64x768) (k : Fin k0_t1_loop.trips)
    (t : Fin 6 → Vec Ideal S1x1x64x128 .f32) (i : Fin 64) (j : Fin 768) :
    rowScores (F := Ideal) S ![64 * rq.val, 0] hs k (BitVec.ofNat 32 rq.val) t (ix2 i j)
      = if loRow k rq ≤ j.val / 64 ∧ j.val / 64 < loRow k rq + 8 then
          S (ix2 ⟨64 * rq.val + i.val, by omega⟩ j) + t ⟨j.val / 128, by omega⟩ (ix4 0 0 i ⟨j.val % 128, by omega⟩)
        else ⊥ := by
  pointwise [rowScores]
  rw [rowValid_eq, select_decide, show (Named.named κ "mask" 4048155338#32 : Ideal .f32) = ⊥ from mask_eq]
  refine if_congr Iff.rfl (congrArg₂ HAdd.hAdd rfl ?_) rfl
  have key : ∀ (p : Fin 6) (c : Fin 128), p.val = j.val / 128 → c.val = j.val % 128 →
      t p (ix4 0 0 i c) = t ⟨j.val / 128, by omega⟩ (ix4 0 0 i ⟨j.val % 128, by omega⟩) := by
    intro p c hp hc
    rw [show p = ⟨j.val / 128, by omega⟩ from Fin.ext hp, show c = ⟨j.val % 128, by omega⟩ from Fin.ext hc]
  split_ifs <;> refine key _ _ ?_ ?_ <;> simp <;> omega

/-- The score of one of the four rows' queries against one key of the window. -/
theorem blockScores_at (S : FVec Ideal S256x768 .f32) (k : Fin k0_t1_loop.trips) (t : Fin 6 → Fin 4 → Vec Ideal S1x1x64x128 .f32)
    (rq : Fin 4) (i : Fin 64) (j : Fin 768) :
    blockScores S k t (ix2 ⟨64 * rq.val + i.val, by omega⟩ j)
      = if loRow k rq ≤ j.val / 64 ∧ j.val / 64 < loRow k rq + 8 then
          S (ix2 ⟨64 * rq.val + i.val, by omega⟩ j) + t ⟨j.val / 128, by omega⟩ rq (ix4 0 0 i ⟨j.val % 128, by omega⟩)
        else ⊥ := by
  have hi := i.isLt
  match rq with
  | 0 =>
    refine Eq.trans ?_ (rowScores_at S 0 slices_S256x768_o0_0_S64x768 k (fun ip => t ip 0) i j)
    pointwise [blockScores]
  | 1 =>
    refine Eq.trans ?_ (rowScores_at S 1 slices_S256x768_o64_0_S64x768 k (fun ip => t ip 1) i j)
    pointwise [blockScores]
  | 2 =>
    refine Eq.trans ?_ (rowScores_at S 2 slices_S256x768_o128_0_S64x768 k (fun ip => t ip 2) i j)
    pointwise [blockScores]
    rw [dif_neg (by omega), dif_neg (by omega), dif_pos (by omega)]
    exact congrArg (fun a : Fin 64 => rowScores S ![128, 0] slices_S256x768_o128_0_S64x768 k 2#32 (fun ip => t ip 2) (ix2 a j)) (Fin.ext (by show 128 + i.val - 64 - 64 = i.val; omega))
  | 3 =>
    refine Eq.trans ?_ (rowScores_at S 3 slices_S256x768_o192_0_S64x768 k (fun ip => t ip 3) i j)
    pointwise [blockScores]
    rw [dif_neg (by omega), dif_neg (by omega), dif_neg (by omega)]
    exact congrArg (fun a : Fin 64 => rowScores S ![192, 0] slices_S256x768_o192_0_S64x768 k 3#32 (fun ip => t ip 3) (ix2 a j)) (Fin.ext (by show 192 + i.val - 64 - 64 - 64 = i.val; omega))

/-- The softmax over window and context at an index. -/
theorem jointSoftmax_at (A : FVec Ideal S256x768 .f32) (B : FVec Ideal S256x256 .f32) (vv : FVec Ideal S768x128 .bf16) (vc : FVec Ideal S256x128 .bf16)
    (i : Fin 256) (l : Fin 128) :
    jointSoftmax (F := Ideal) A B vv vc (ix2 i l)
      = attend (fun j => A (ix2 i j)) (fun x => B (ix2 i x)) (fun j => vv (ix2 j l)) fun x => vc (ix2 x l) := by
  pointwise [jointSoftmax]
  rw [show Ideal.ofBits .f32 4286578688#32 = ⊥ from ofBits_bot_f32]
  rfl

/-- One head's output at an index. -/
theorem headOut_at (sel : IVec S1x128 1) (q : Vec Ideal S1x256x128 .bf16) (kk vv : Vec Ideal S1x768x128 .bf16) (kc vc : Vec Ideal S1x256x128 .bf16)
    (k : Fin k0_t1_loop.trips) (t : Fin 6 → Fin 4 → Vec Ideal S1x1x64x128 .f32) (i : Fin 256) (l : Fin 128) :
    headOut sel q kk vv kc vc k t (ix2 i l)
      = attend (fun j => blockScores (prodWin sel q kk) k t (ix2 i j)) (fun x => prodCtx sel q kc (ix2 i x))
          (fun j => vv (ix3 0 j l)) fun x => vc (ix3 0 x l) := by
  unfold headOut
  rw [jointSoftmax_at]
  refine congrArg₂ (attend _ _) (funext fun j => ?_) (funext fun x => ?_)
  · pointwise [k0_pay4]
  · pointwise [k0_pay71]

/-- The lanes of head `hh` of the pair. -/
def laneSel (hh : Fin 2) : IVec S1x128 1 :=
  match hh with
  | 0 => k0_pay67
  | 1 => k0_pay68

/-- Which lanes those are. -/
theorem laneSel_eq (hh : Fin 2) (l : Fin 128) : laneSel hh (ix2 0 l) = BitVec.ofBool (decide (l.val / 64 = hh.val)) :=
  match hh with
  | 0 => lanes0_eq l
  | 1 => lanes1_eq l

/-- What a trip stores at a head's lane is the head's output there. -/
theorem tripOut_at (q : Vec Ideal S1x256x128 .bf16) (kk vv : Vec Ideal S1x768x128 .bf16) (kc vc : Vec Ideal S1x256x128 .bf16)
    (k : Fin k0_t1_loop.trips) (t : Fin 2 → Fin 6 → Fin 4 → Vec Ideal S1x1x64x128 .f32) (i : Fin 256) (hh : Fin 2) (d : Fin 64) :
    tripOut q kk vv kc vc k t (ix3 0 i (lane hh d)) = headOut (laneSel hh) q kk vv kc vc k (t hh) (ix2 i (lane hh d)) := by
  pointwise [tripOut, k0_pay72, k0_pay66]
  rw [lanes0_eq, lanes1_eq, select_decide, select_decide]
  match hh with
  | 0 => rw [if_neg (by simp only [lane]; omega), if_pos (by simp only [lane]; omega)]; rfl
  | 1 => rw [if_pos (by simp only [lane]; omega)]; rfl

/-- What the kernel stores of the context's attention, at a head's lane. -/
theorem ctxOut_at (kc vc qc : Vec Ideal S1x256x128 .bf16) (s : Fin 256) (hh : Fin 2) (d : Fin 64) :
    k0_pay1 (k0_pay73 k0_pay67 k0_pay68 (k0_pay70 kc) (k0_pay71 vc) qc) (ix3 0 s (lane hh d))
      = attendOne (fun x => (∑ d, qc (ix3 0 s (lane hh d)) * kc (ix3 0 x (lane hh d))) * scale) fun x => vc (ix3 0 x (lane hh d)) := by
  have h0 := fun x => head_product 0 k0_pay67 lanes0_eq (fun l => qc (ix3 0 s l)) fun l => kc (ix3 0 x l)
  have h1 := fun x => head_product 1 k0_pay68 lanes1_eq (fun l => qc (ix3 0 s l)) fun l => kc (ix3 0 x l)
  pointwise [k0_pay1, k0_pay73, k0_pay70, k0_pay71]
  simp only [h0, h1]
  rw [lanes0_eq, lanes1_eq, select_decide, select_decide, show Ideal.ofBits .f32 4286578688#32 = ⊥ from ofBits_bot_f32]
  match hh with
  | 0 => rw [if_neg (by simp only [lane]; omega), if_pos (by simp only [lane]; omega)]; rfl
  | 1 => rw [if_pos (by simp only [lane]; omega)]; rfl

end Cert.KernelIdeal.NA
-- ==== Proof.NA.Equation.lean ====
/- One trip's block is the attention of its four image rows: the window's keys that a query row attends to are the
   reference's, and the table's entries are the bias inside the window of columns and minus infinity outside. -/
module

public import proofs.«01_k».proof.Proof.NA.Read

@[expose] public section

set_option maxRecDepth 16384
noncomputable section

namespace Cert.KernelIdeal.NA

open Cert.NA Cert.KernelIdeal Cert.KernelIdeal.Gen Idealize.ShloMosaic Idealize.ShloMosaic.TcCoe Idealize.SL.Sem Idealize.ShloMosaic.Tactic

/-- Head `hh` of pair `p`. -/
def headOf (p : Fin 8) (hh : Fin 2) : Fin 16 := ⟨2 * p.val + hh.val, by omega⟩

/-- Lane `l` of pair `p`, as a channel. -/
def chanOf (p : Fin 8) (l : Fin 128) : Fin 1024 := ⟨128 * p.val + l.val, by omega⟩

/-- A head's lane is its channel. -/
theorem chanOf_lane (p : Fin 8) (hh : Fin 2) (d : Fin 64) : chanOf p (lane hh d) = chan (headOf p hh) d :=
  Fin.ext (by show 128 * p.val + (hh.val * 64 + d.val) = (2 * p.val + hh.val) * 64 + d.val; omega)

/-- The loop's trips are below eight. -/
theorem trip_lt (k : Fin k0_t1_loop.trips) : k.val < 8 := k.isLt.trans_eq trips_eq

/-- The trip's block of queries. -/
def queriesOf (x : Vec Ideal S1x2048x128 .bf16) (k : Fin k0_t1_loop.trips) : Vec Ideal S1x256x128 .bf16 :=
  View.ld x (Rect.unit (s := S1x2048x128) (k0_off1 k) S1x256x128.size (k0_off1_inb k))

/-- The trip's window of keys or values. -/
def windowOf (x : Vec Ideal S1x2048x128 .bf16) (k : Fin k0_t1_loop.trips) : Vec Ideal S1x768x128 .bf16 :=
  View.ld x (Rect.unit (s := S1x2048x128) (k0_off2 k) S1x768x128.size (k0_off2_inb k))

/-- The trip's blocks of the table. -/
def tableOf (x : Vec Ideal S2x16x64x128 .f32) (k : Fin k0_t1_loop.trips) (hh : Fin 2) (ip : Fin 6) (rq : Fin 4) : Vec Ideal S1x1x64x128 .f32 :=
  View.ld x (tabRect k hh ip rq)

/-- Image row `rq` of trip `k`. -/
def rowOf (k : Fin k0_t1_loop.trips) (rq : Fin 4) : Fin 32 := ⟨4 * k.val + rq.val, by have := trip_lt k; omega⟩

/-- The blocks that one step of the grid reads: pair `p` of heads of batch entry `b`. -/
structure Blocks (Q K V : Fin 16 → Fin 2048 → Fin 1024 → EReal) (KC VC : Fin 16 → Fin 256 → Fin 1024 → EReal)
    (R : Fin 16 → Fin 15 → Fin 31 → EReal) (b : Fin 16) (p : Fin 8) (x0 x1 x2 : Vec Ideal S1x2048x128 .bf16)
    (kc vc : Vec Ideal S1x256x128 .bf16) (x6 : Vec Ideal S2x16x64x128 .f32) : Prop where
  /-- The queries. -/
  queries : ∀ s l, x0 (ix3 0 s l) = Q b s (chanOf p l)
  /-- The keys. -/
  keys : ∀ s l, x1 (ix3 0 s l) = K b s (chanOf p l)
  /-- The values. -/
  values : ∀ s l, x2 (ix3 0 s l) = V b s (chanOf p l)
  /-- The context's keys. -/
  ctxKeys : ∀ s l, kc (ix3 0 s l) = KC b s (chanOf p l)
  /-- The context's values. -/
  ctxValues : ∀ s l, vc (ix3 0 s l) = VC b s (chanOf p l)
  /-- The table's first sixty-four columns: the bias of the entry before. -/
  tableLow : ∀ hh (n : Fin 15) q (c : Fin 64), x6 (ix4 hh ⟨n.val + 1, by omega⟩ q ⟨c.val, by omega⟩)
    = if inWin q c then R (headOf p hh) n (biasCol q c) else ⊥
  /-- The table's last sixty-four columns: the bias of the same entry. -/
  tableHigh : ∀ hh (n : Fin 15) q (c : Fin 64), x6 (ix4 hh ⟨n.val, by omega⟩ q ⟨64 + c.val, by omega⟩)
    = if inWin q c then R (headOf p hh) n (biasCol q c) else ⊥

/-- The place in the window of column `c` of the `i`-th key row attended to. -/
def place (k : Fin k0_t1_loop.trips) (rq : Fin 4) (j : Fin 8 × Fin 64) : Fin 768 :=
  ⟨(loRow k rq + j.1.val) * 64 + j.2.val, by have := trip_lt k; unfold loRow; omega⟩

/-- Those places differ. -/
theorem place_injective (k : Fin k0_t1_loop.trips) (rq : Fin 4) : Function.Injective (place k rq) := by
  rintro ⟨i, c⟩ ⟨i', c'⟩ h
  have h' : (loRow k rq + i.val) * 64 + c.val = (loRow k rq + i'.val) * 64 + c'.val := congrArg Fin.val h
  exact Prod.ext (Fin.ext (by show i.val = i'.val; omega)) (Fin.ext (by show c.val = c'.val; omega))

section

variable {Q K V : Fin 16 → Fin 2048 → Fin 1024 → EReal} {KC VC : Fin 16 → Fin 256 → Fin 1024 → EReal}
  {R : Fin 16 → Fin 15 → Fin 31 → EReal} {b : Fin 16} {p : Fin 8} {x0 x1 x2 : Vec Ideal S1x2048x128 .bf16}
  {kc vc : Vec Ideal S1x256x128 .bf16} {x6 : Vec Ideal S2x16x64x128 .f32}

/-- A query of the trip's block. -/
theorem query_at (hB : Blocks Q K V KC VC R b p x0 x1 x2 kc vc x6) (k : Fin k0_t1_loop.trips) (rq : Fin 4) (i : Fin 64) (l : Fin 128) :
    queriesOf x0 k (ix3 0 ⟨64 * rq.val + i.val, by omega⟩ l)
      = Q b (tok (rowOf k rq) i) (chanOf p l) := by
  rw [← hB.queries]
  refine View.ld_unit_apply_of _ _ _ _ _ _ fun a => Eq.trans (b := (![0, 256 * k.val, 0] : Fin 3 → ℕ) a
    + ((ix3 0 ⟨64 * rq.val + i.val, by omega⟩ l : S1x256x128.Idx) a).val) ?_ (congrArg (· + _) (congrFun (off1_eq k) a).symm)
  match a with
  | ⟨0, _⟩ => rfl
  | ⟨1, _⟩ => show (4 * k.val + rq.val) * 64 + i.val = 256 * k.val + (64 * rq.val + i.val); omega
  | ⟨2, _⟩ => exact (Nat.zero_add _).symm

/-- A row of the trip's window of keys or values. -/
theorem window_at {X : Fin 16 → Fin 2048 → Fin 1024 → EReal} {x : Vec Ideal S1x2048x128 .bf16} (hx : ∀ s l, x (ix3 0 s l) = X b s (chanOf p l))
    (k : Fin k0_t1_loop.trips) (rq : Fin 4) (j : Fin 8 × Fin 64) (l : Fin 128) :
    windowOf x k (ix3 0 (place k rq j) l)
      = X b (tok (keyRow (rowOf k rq) j.1) j.2) (chanOf p l) := by
  rw [← hx]
  refine View.ld_unit_apply_of _ _ _ _ _ _ fun a => Eq.trans (b := (![0, 64 * winRow k, 0] : Fin 3 → ℕ) a
    + ((ix3 0 (place k rq j) l : S1x768x128.Idx) a).val) ?_ (congrArg (· + _) (congrFun (off2_eq k) a).symm)
  match a with
  | ⟨0, _⟩ => rfl
  | ⟨1, _⟩ =>
    show (min (4 * k.val + rq.val - 4) 24 + j.1.val) * 64 + j.2.val = 64 * winRow k + ((loRow k rq + j.1.val) * 64 + j.2.val)
    have := trip_lt k
    unfold winRow loRow; omega
  | ⟨2, _⟩ => exact (Nat.zero_add _).symm

/-- The table's entry for a key attended to: its bias inside the window of columns, minus infinity outside. -/
theorem table_at (hB : Blocks Q K V KC VC R b p x0 x1 x2 kc vc x6) (k : Fin k0_t1_loop.trips) (rq : Fin 4) (hh : Fin 2) (i : Fin 64)
    (j : Fin 8 × Fin 64) :
    tableOf x6 k hh ⟨(place k rq j).val / 128, by omega⟩ rq (ix4 0 0 i ⟨(place k rq j).val % 128, by omega⟩)
      = if inWin i j.2 then R (headOf p hh) (biasRow (rowOf k rq) j.1) (biasCol i j.2) else ⊥ := by
  have hk := trip_lt k
  by_cases hpar : (loRow k rq + j.1.val) % 2 = 0
  · rw [← hB.tableLow]
    refine View.ld_unit_apply_of _ _ _ _ _ _ fun a => Eq.trans (b := (![hh.val, min (winRow k + 2 * ((place k rq j).val / 128) + 8 - (4 * k.val + rq.val)) 15, 0, 0] : Fin 4 → ℕ) a
      + ((ix4 0 0 i ⟨(place k rq j).val % 128, by omega⟩ : S1x1x64x128.Idx) a).val) ?_ (congrArg (· + _) (congrFun (tabOff_eq k hh ⟨(place k rq j).val / 128, by omega⟩ rq) a).symm)
    match a with
    | ⟨0, _⟩ => rfl
    | ⟨1, _⟩ =>
      show min (4 * k.val + rq.val - 4) 24 + j.1.val + 7 - (4 * k.val + rq.val) + 1
        = min (winRow k + 2 * (((loRow k rq + j.1.val) * 64 + j.2.val) / 128) + 8 - (4 * k.val + rq.val)) 15 + 0
      unfold loRow at *; unfold winRow; omega
    | ⟨2, _⟩ => exact (Nat.zero_add _).symm
    | ⟨3, _⟩ =>
      show j.2.val = 0 + ((loRow k rq + j.1.val) * 64 + j.2.val) % 128
      omega
  · rw [← hB.tableHigh]
    refine View.ld_unit_apply_of _ _ _ _ _ _ fun a => Eq.trans (b := (![hh.val, min (winRow k + 2 * ((place k rq j).val / 128) + 8 - (4 * k.val + rq.val)) 15, 0, 0] : Fin 4 → ℕ) a
      + ((ix4 0 0 i ⟨(place k rq j).val % 128, by omega⟩ : S1x1x64x128.Idx) a).val) ?_ (congrArg (· + _) (congrFun (tabOff_eq k hh ⟨(place k rq j).val / 128, by omega⟩ rq) a).symm)
    match a with
    | ⟨0, _⟩ => rfl
    | ⟨1, _⟩ =>
      show min (4 * k.val + rq.val - 4) 24 + j.1.val + 7 - (4 * k.val + rq.val)
        = min (winRow k + 2 * (((loRow k rq + j.1.val) * 64 + j.2.val) / 128) + 8 - (4 * k.val + rq.val)) 15 + 0
      unfold loRow at *; unfold winRow; omega
    | ⟨2, _⟩ => exact (Nat.zero_add _).symm
    | ⟨3, _⟩ =>
      show 64 + j.2.val = 0 + ((loRow k rq + j.1.val) * 64 + j.2.val) % 128
      omega

/-- What a trip stores is the attention of its image rows. -/
theorem trip_image (hB : Blocks Q K V KC VC R b p x0 x1 x2 kc vc x6) (k : Fin k0_t1_loop.trips) (rq : Fin 4) (i : Fin 64) (hh : Fin 2) (d : Fin 64) :
    tripOut (queriesOf x0 k)
        (windowOf x1 k)
        (windowOf x2 k)
        kc vc k (tableOf x6 k) (ix3 0 ⟨64 * rq.val + i.val, by omega⟩ (lane hh d))
      = image Q K V KC VC R b (headOf p hh) (rowOf k rq) i d := by
  rw [tripOut_at, headOut_at]
  unfold image
  have hC : (fun x => prodCtx (laneSel hh) (queriesOf x0 k) kc
        (ix2 ⟨64 * rq.val + i.val, by omega⟩ x)) = fun x => score Q KC b (headOf p hh) (tok (rowOf k rq) i) x := by
    funext x
    rw [prodCtx_at hh _ (laneSel_eq hh)]
    unfold score
    refine congrArg (· * scale) (Finset.sum_congr rfl fun e _ => ?_)
    rw [query_at hB, hB.ctxKeys, chanOf_lane]
  have hW : (fun x => vc (ix3 0 x (lane hh d))) = fun x => VC b x (chan (headOf p hh) d) := by
    funext x
    rw [hB.ctxValues, chanOf_lane]
  rw [hC, hW]
  refine attend_embed (place k rq) (place_injective k rq) _ _ _ _ _ _ (fun j => ?_) (fun a ha => ?_) fun j => ?_
  · rw [blockScores_at, if_pos, table_at hB, prodWin_at hh _ (laneSel_eq hh)]
    · unfold locScore score
      split
      · refine congrArg₂ HAdd.hAdd (congrArg (· * scale) (Finset.sum_congr rfl fun e _ => ?_)) rfl
        rw [query_at hB, window_at hB.keys, chanOf_lane]
      · exact EReal.add_bot _
    · show loRow k rq ≤ ((loRow k rq + j.1.val) * 64 + j.2.val) / 64 ∧ ((loRow k rq + j.1.val) * 64 + j.2.val) / 64 < loRow k rq + 8
      omega
  · rw [blockScores_at, if_neg]
    intro h
    refine ha (⟨a.val / 64 - loRow k rq, by omega⟩, ⟨a.val % 64, by omega⟩) (Fin.ext ?_)
    show (loRow k rq + (a.val / 64 - loRow k rq)) * 64 + a.val % 64 = a.val
    omega
  · rw [window_at hB.values, chanOf_lane]

/-- What the kernel stores for the context's queries is their attention. -/
theorem ctx_context (hB : Blocks Q K V KC VC R b p x0 x1 x2 kc vc x6) {QC : Fin 16 → Fin 256 → Fin 1024 → EReal} {qc : Vec Ideal S1x256x128 .bf16}
    (hq : ∀ s l, qc (ix3 0 s l) = QC b s (chanOf p l)) (s : Fin 256) (hh : Fin 2) (d : Fin 64) :
    k0_pay1 (k0_pay73 k0_pay67 k0_pay68 (k0_pay70 kc) (k0_pay71 vc) qc) (ix3 0 s (lane hh d))
      = context QC KC VC b (headOf p hh) s d := by
  rw [ctxOut_at]
  unfold context score
  simp only [hq, hB.ctxKeys, hB.ctxValues, chanOf_lane]

end

end Cert.KernelIdeal.NA
-- ==== Proof.NA.Block.lean ====
/- What one step of the grid leaves in its output blocks: the attention of the image's queries, trip after trip, and of
   the context's queries. -/
module

public import proofs.«01_k».proof.Proof.NA.Equation

@[expose] public section

set_option maxRecDepth 16384
noncomputable section

namespace Cert.KernelIdeal.NA

open Cert.NA Cert.KernelIdeal Cert.KernelIdeal.Gen Idealize.ShloMosaic Idealize.ShloMosaic.TcCoe Idealize.SL.Sem Idealize.ShloMosaic.Tactic

/-- If every trip's block has the value `v` where it holds `y`, so have the first `n` trips' stores. -/
theorem trips_allAt (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x16x64x128 .f32) (harg8 : arg8.IsWhole) (arg9 : Memref sig .tc .vmem S1x2048x128 .bf16) (harg9 : arg9.IsWhole) (arg10 : Memref sig .tc .vmem S1x256x128 .bf16) (harg10 : arg10.IsWhole)
    (v30 v32 : Vec Ideal S1x256x128 .bf16) (x0 x1 x2 : Vec Ideal S1x2048x128 .bf16) (x6 : Vec Ideal S2x16x64x128 .f32) (y : S1x2048x128.Idx) (v : EReal)
    (h : ∀ k, View.TileAt (Val := Elt Ideal) (e := .bf16) y (k0_off1 k) S1x256x128.size (tripOut (queriesOf x0 k) (windowOf x1 k) (windowOf x2 k) v30 v32 k (tableOf x6 k)) v) :
    ∀ n, n ≤ k0_t1_loop.trips →
      View.AllAt (pb_k0_t1 (F := Ideal) 𝒱 c bd i arg2 harg2 arg3 harg3 arg4 harg4 arg5 harg5 arg6 harg6 arg7 harg7 arg8 harg8 arg9 harg9 arg10 harg10 v30 v32 (harg2.unread x0) (harg3.unread x1) (harg4.unread x2) (harg8.unread x6) n) y v
  | 0, _ => View.allAt_nil (Val := Elt Ideal) (e := .bf16) y v
  | n + 1, hn => by
    have hs := pb_k0_t1_succ (F := Ideal) 𝒱 c bd i arg2 harg2 arg3 harg3 arg4 harg4 arg5 harg5 arg6 harg6 arg7 harg7 arg8 harg8 arg9 harg9 arg10 harg10 v30 v32 (harg2.unread x0) (harg3.unread x1) (harg4.unread x2) (harg8.unread x6) ⟨n, hn⟩
    rw [trip_pieces] at hs
    rw [show n + 1 = (⟨n, hn⟩ : Fin k0_t1_loop.trips).val + 1 from rfl, hs]
    exact View.allAt_cons_unit _ _ _ _ _ (h ⟨n, hn⟩) (trips_allAt 𝒱 c bd i arg2 harg2 arg3 harg3 arg4 harg4 arg5 harg5 arg6 harg6 arg7 harg7 arg8 harg8 arg9 harg9 arg10 harg10 v30 v32 x0 x1 x2 x6 y v h n (Nat.le_of_succ_le hn))

/-- The image's output block. -/
theorem imageBlock_at (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x16x64x128 .f32) (harg8 : arg8.IsWhole) (arg9 : Memref sig .tc .vmem S1x2048x128 .bf16) (harg9 : arg9.IsWhole) (arg10 : Memref sig .tc .vmem S1x256x128 .bf16) (harg10 : arg10.IsWhole)
    {Q K V : Fin 16 → Fin 2048 → Fin 1024 → EReal} {KC VC : Fin 16 → Fin 256 → Fin 1024 → EReal} {R : Fin 16 → Fin 15 → Fin 31 → EReal} {b : Fin 16} {p : Fin 8}
    {x0 x1 x2 : Vec Ideal S1x2048x128 .bf16} {x3 x4 x5 : Vec Ideal S1x256x128 .bf16} {x6 : Vec Ideal S2x16x64x128 .f32}
    (hB : Blocks Q K V KC VC R b p x0 x1 x2 x4 x5 x6) (r : Fin 32) (q : Fin 64) (hh : Fin 2) (d : Fin 64) :
    out0_A_7 (F := Ideal) c i arg2 harg2 arg3 harg3 arg4 harg4 arg5 harg5 arg6 harg6 arg7 harg7 arg8 harg8 arg9 harg9 arg10 harg10 x0 x1 x2 x3 x4 x5 x6 (ix3 0 (tok r q) (lane hh d))
      = image Q K V KC VC R b (headOf p hh) r q d := by
  have hc := cover0_A_7 c i arg2 harg2 arg3 harg3 arg4 harg4 arg5 harg5 arg6 harg6 arg7 harg7 arg8 harg8 arg9 harg9 arg10 harg10 x0 x1 x2 x3 x4 x5 x6
  unfold out0_A_7
  rw [View.read_writes_eq_canon _ _ _ hc]
  refine View.canon_eq_of_allAt _ _ _ (hc _) ?_
  unfold kernelRun0_A
  dsimp only
  simp only [View.readAt_eq_ld, Memref.IsWhole.read_unread]
  rw [View.ld_unit_zero (S := S1x256x128) (by decide), View.ld_unit_zero (S := S1x256x128) (by decide)]
  refine trips_allAt Variants.none c none i arg2 harg2 arg3 harg3 arg4 harg4 arg5 harg5 arg6 harg6 arg7 harg7 arg8 harg8 arg9 harg9 arg10 harg10 x4 x5 x0 x1 x2 x6 _ _ (fun k x hx => ?_) _ le_rfl
  have h0 : 0 = k0_off1 k 0 + (x 0).val := hx 0
  have h1 : r.val * 64 + q.val = k0_off1 k 1 + (x 1).val := hx 1
  have h2 : hh.val * 64 + d.val = k0_off1 k 2 + (x 2).val := hx 2
  have hk1 : k0_off1 k 1 = 256 * k.val := congrFun (off1_eq k) 1
  have hk2 : k0_off1 k 2 = 0 := congrFun (off1_eq k) 2
  rw [hk1] at h1
  rw [hk2] at h2
  have hb : (x 1).val < 256 := (x 1).isLt
  have hr : r = rowOf k ⟨r.val % 4, by omega⟩ := Fin.ext (by show r.val = 4 * k.val + r.val % 4; omega)
  have hxe : x = ix3 0 ⟨64 * (⟨r.val % 4, by omega⟩ : Fin 4).val + q.val, by show 64 * (r.val % 4) + q.val < 256; omega⟩ (lane hh d) := by
    funext a
    refine Fin.ext ?_
    match a with
    | ⟨0, _⟩ => show (x 0).val = 0; omega
    | ⟨1, _⟩ => show (x 1).val = 64 * (r.val % 4) + q.val; omega
    | ⟨2, _⟩ => show (x 2).val = hh.val * 64 + d.val; omega
  rw [hxe, trip_image hB, ← hr]

/-- The context's output block. -/
theorem contextBlock_at (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x16x64x128 .f32) (harg8 : arg8.IsWhole) (arg9 : Memref sig .tc .vmem S1x2048x128 .bf16) (harg9 : arg9.IsWhole) (arg10 : Memref sig .tc .vmem S1x256x128 .bf16) (harg10 : arg10.IsWhole)
    {Q K V : Fin 16 → Fin 2048 → Fin 1024 → EReal} {QC KC VC : Fin 16 → Fin 256 → Fin 1024 → EReal} {R : Fin 16 → Fin 15 → Fin 31 → EReal} {b : Fin 16} {p : Fin 8}
    {x0 x1 x2 : Vec Ideal S1x2048x128 .bf16} {x3 x4 x5 : Vec Ideal S1x256x128 .bf16} {x6 : Vec Ideal S2x16x64x128 .f32}
    (hB : Blocks Q K V KC VC R b p x0 x1 x2 x4 x5 x6) (hq : ∀ s l, x3 (ix3 0 s l) = QC b s (chanOf p l)) (s : Fin 256) (hh : Fin 2) (d : Fin 64) :
    out0_A_8 (F := Ideal) c i arg2 harg2 arg3 harg3 arg4 harg4 arg5 harg5 arg6 harg6 arg7 harg7 arg8 harg8 arg9 harg9 arg10 harg10 x0 x1 x2 x3 x4 x5 x6 (ix3 0 s (lane hh d))
      = context QC KC VC b (headOf p hh) s d := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6)]
  unfold kernelRun0_A
  dsimp only
  rw [View.canon_unit_zero (S := S1x256x128) (by decide)]
  sl_unfold_words
  simp only [View.readAt_eq_ld, Memref.IsWhole.read_unread]
  rw [View.ld_unit_zero (S := S1x256x128) (by decide), View.ld_unit_zero (S := S1x256x128) (by decide), View.ld_unit_zero (S := S1x256x128) (by decide)]
  exact ctx_context hB hq s hh d

end Cert.KernelIdeal.NA
-- ==== Proof.NA.Array.lean ====
/- What the result arrays hold after the run: at every index the attention of its query, of the arrays' contents at
   launch. -/
module

public import proofs.«01_k».proof.Proof.NA.Block

@[expose] public section

set_option maxRecDepth 16384
noncomputable section

namespace Cert.KernelIdeal.NA

open Cert.NA Cert.KernelIdeal Cert.KernelIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-- The batch entry of a grid point. -/
def batchOf (t : Fin cfg0.N) : Fin 16 := ⟨(grid0.coords t 1).val, (grid0.coords t 1).isLt⟩

/-- The pair of heads of a grid point. -/
def pairOf (t : Fin cfg0.N) : Fin 8 := ⟨(grid0.coords t 0).val, (grid0.coords t 0).isLt⟩

/-- The block of the image's queries at a grid point. -/
theorem index0 : ∀ t : Fin cfg0.N, win0_0.index t = ![(grid0.coords t 1).val, 0, (grid0.coords t 0).val] :=
  (by decide +kernel : ∀ t : Fin grid0.N, _)
/-- The block of the image's keys at a grid point. -/
theorem index1 : ∀ t : Fin cfg0.N, win0_1.index t = ![(grid0.coords t 1).val, 0, (grid0.coords t 0).val] :=
  (by decide +kernel : ∀ t : Fin grid0.N, _)
/-- The block of the image's values at a grid point. -/
theorem index2 : ∀ t : Fin cfg0.N, win0_2.index t = ![(grid0.coords t 1).val, 0, (grid0.coords t 0).val] :=
  (by decide +kernel : ∀ t : Fin grid0.N, _)
/-- The block of the context's queries at a grid point. -/
theorem index3 : ∀ t : Fin cfg0.N, win0_3.index t = ![(grid0.coords t 1).val, 0, (grid0.coords t 0).val] :=
  (by decide +kernel : ∀ t : Fin grid0.N, _)
/-- The block of the context's keys at a grid point. -/
theorem index4 : ∀ t : Fin cfg0.N, win0_4.index t = ![(grid0.coords t 1).val, 0, (grid0.coords t 0).val] :=
  (by decide +kernel : ∀ t : Fin grid0.N, _)
/-- The block of the context's values at a grid point. -/
theorem index5 : ∀ t : Fin cfg0.N, win0_5.index t = ![(grid0.coords t 1).val, 0, (grid0.coords t 0).val] :=
  (by decide +kernel : ∀ t : Fin grid0.N, _)
/-- The block of the table at a grid point. -/
theorem index6 : ∀ t : Fin cfg0.N, win0_6.index t = ![(grid0.coords t 0).val, 0, 0, 0] :=
  (by decide +kernel : ∀ t : Fin grid0.N, _)
/-- The block of the image's result at a grid point. -/
theorem index7 : ∀ t : Fin cfg0.N, win0_7.index t = ![(grid0.coords t 1).val, 0, (grid0.coords t 0).val] :=
  (by decide +kernel : ∀ t : Fin grid0.N, _)
/-- The block of the context's result at a grid point. -/
theorem index8 : ∀ t : Fin cfg0.N, win0_8.index t = ![(grid0.coords t 1).val, 0, (grid0.coords t 0).val] :=
  (by decide +kernel : ∀ t : Fin grid0.N, _)

/-- An array of the image's tokens, by batch entry, token and channel. -/
abbrev img (x : Vec Ideal S16x2048x1024 .bf16) : Fin 16 → Fin 2048 → Fin 1024 → EReal := fun b s c => x (ix3 b s c)

/-- An array of the context's tokens, by batch entry, token and channel. -/
abbrev ctx (x : Vec Ideal S16x256x1024 .bf16) : Fin 16 → Fin 256 → Fin 1024 → EReal := fun b s c => x (ix3 b s c)

/-- What the table's launch contents are, given the biases `R`. -/
structure Table (x6 : Vec Ideal S16x16x64x128 .f32) (R : Fin 16 → Fin 15 → Fin 31 → EReal) : Prop where
  /-- Its first sixty-four columns. -/
  low : ∀ h (n : Fin 15) q (c : Fin 64), x6 (ix4 h ⟨n.val + 1, by omega⟩ q ⟨c.val, by omega⟩) = if inWin q c then R h n (biasCol q c) else ⊥
  /-- Its last sixty-four columns. -/
  high : ∀ h (n : Fin 15) q (c : Fin 64), x6 (ix4 h ⟨n.val, by omega⟩ q ⟨64 + c.val, by omega⟩) = if inWin q c then R h n (biasCol q c) else ⊥

/-- A grid point's input blocks. -/
theorem blocks_at (R : Fin 16 → Fin 15 → Fin 31 → EReal) (hT : Table (m ((c : Thread nD τ).loc main_arg6)) R) (t : Fin cfg0.N) :
    Blocks (img (m ((c : Thread nD τ).loc main_arg0))) (img (m ((c : Thread nD τ).loc main_arg1))) (img (m ((c : Thread nD τ).loc main_arg2)))
      (ctx (m ((c : Thread nD τ).loc main_arg4))) (ctx (m ((c : Thread nD τ).loc main_arg5))) R (batchOf t) (pairOf t)
      (iblk m c 0 t) (iblk m c 1 t) (iblk m c 2 t) (iblk m c 4 t) (iblk m c 5 t) (iblk m c 6 t) where
  queries s l := by
    refine congrArg (m ((c : Thread nD τ).loc main_arg0)) ?_
    blk_ext [index0]
    · exact Nat.add_zero _
    · exact congrArg (· + l.val) (Nat.mul_comm _ _)
  keys s l := by
    refine congrArg (m ((c : Thread nD τ).loc main_arg1)) ?_
    blk_ext [index1]
    · exact Nat.add_zero _
    · exact congrArg (· + l.val) (Nat.mul_comm _ _)
  values s l := by
    refine congrArg (m ((c : Thread nD τ).loc main_arg2)) ?_
    blk_ext [index2]
    · exact Nat.add_zero _
    · exact congrArg (· + l.val) (Nat.mul_comm _ _)
  ctxKeys s l := by
    refine congrArg (m ((c : Thread nD τ).loc main_arg4)) ?_
    blk_ext [index4]
    · exact Nat.add_zero _
    · exact congrArg (· + l.val) (Nat.mul_comm _ _)
  ctxValues s l := by
    refine congrArg (m ((c : Thread nD τ).loc main_arg5)) ?_
    blk_ext [index5]
    · exact Nat.add_zero _
    · exact congrArg (· + l.val) (Nat.mul_comm _ _)
  tableLow hh n q j := by
    rw [← hT.low]
    refine congrArg (m ((c : Thread nD τ).loc main_arg6)) ?_
    blk_ext [index6]
    exact congrArg (· + hh.val) (Nat.mul_comm _ _)
  tableHigh hh n q j := by
    rw [← hT.high]
    refine congrArg (m ((c : Thread nD τ).loc main_arg6)) ?_
    blk_ext [index6]
    exact congrArg (· + hh.val) (Nat.mul_comm _ _)

/-- A grid point's block of the context's queries. -/
theorem queries_at (t : Fin cfg0.N) (s : Fin 256) (l : Fin 128) :
    iblk m c 3 t (ix3 0 s l : S1x256x128.Idx) = ctx (m ((c : Thread nD τ).loc main_arg3)) (batchOf t) s (chanOf (pairOf t) l) := by
  refine congrArg (m ((c : Thread nD τ).loc main_arg3)) ?_
  blk_ext [index3]
  · exact Nat.add_zero _
  · exact congrArg (· + l.val) (Nat.mul_comm _ _)

/-- The head of a channel. -/
def headAt (x : Fin 1024) : Fin 16 := ⟨x.val / 64, by omega⟩

/-- A channel's place in its head. -/
def dimAt (x : Fin 1024) : Fin 64 := ⟨x.val % 64, by omega⟩

/-- The image row of a token. -/
def rowAt (s : Fin 2048) : Fin 32 := ⟨s.val / 64, by omega⟩

/-- The image column of a token. -/
def colAt (s : Fin 2048) : Fin 64 := ⟨s.val % 64, by omega⟩

/-- The image's result after the run. -/
theorem image_array (R : Fin 16 → Fin 15 → Fin 31 → EReal) (hT : Table (m ((c : Thread nD τ).loc main_arg6)) R) :
    (dats m 0 c).arrAt 7 cfg0.N = fun i : S16x2048x1024.Idx =>
      image (img (m ((c : Thread nD τ).loc main_arg0))) (img (m ((c : Thread nD τ).loc main_arg1))) (img (m ((c : Thread nD τ).loc main_arg2)))
        (ctx (m ((c : Thread nD τ).loc main_arg4))) (ctx (m ((c : Thread nD τ).loc main_arg5))) R (i 0) (headAt (i 2)) (rowAt (i 1)) (colAt (i 1)) (dimAt (i 2)) := by
  refine (dats m 0 c).arrAt_eq_of_covers 7 _ (by decide +kernel) fun t hf y => ?_
  blk_simp
  rw [after0_7, outsAt0]
  obtain ⟨s, l, rfl⟩ : ∃ (s : Fin 2048) (l : Fin 128), y = (ix3 0 s l : S1x2048x128.Idx) :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have he : (win0_7.blk t).view.emb (ix3 0 s l : S1x2048x128.Idx) = (ix3 (batchOf t) s (chanOf (pairOf t) l) : S16x2048x1024.Idx) := by
    blk_ext [index7]
    · exact Nat.add_zero _
    · exact congrArg (· + l.val) (Nat.mul_comm _ _)
  rw [he]
  have hs : s = tok (rowAt s) (colAt s) := Fin.ext (by show s.val = s.val / 64 * 64 + s.val % 64; omega)
  have hl : l = lane ⟨l.val / 64, by omega⟩ ⟨l.val % 64, by omega⟩ := Fin.ext (by show l.val = l.val / 64 * 64 + l.val % 64; omega)
  have h := imageBlock_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (x3 := iblk m c 3 t) (blocks_at m c R hT t) (rowAt s) (colAt s)
    ⟨l.val / 64, by omega⟩ ⟨l.val % 64, by omega⟩
  rw [← hs, ← hl] at h
  have hh : headOf (pairOf t) ⟨l.val / 64, by omega⟩ = headAt (chanOf (pairOf t) l) :=
    Fin.ext (by show 2 * (pairOf t).val + l.val / 64 = (128 * (pairOf t).val + l.val) / 64; omega)
  have hd : (⟨l.val % 64, by omega⟩ : Fin 64) = dimAt (chanOf (pairOf t) l) :=
    Fin.ext (by show l.val % 64 = (128 * (pairOf t).val + l.val) % 64; omega)
  rw [hh, hd] at h
  exact h

set_option maxHeartbeats 2000000 in
/-- The context's result after the run. -/
theorem context_array (R : Fin 16 → Fin 15 → Fin 31 → EReal) (hT : Table (m ((c : Thread nD τ).loc main_arg6)) R) :
    (dats m 0 c).arrAt 8 cfg0.N = fun i : S16x256x1024.Idx =>
      context (ctx (m ((c : Thread nD τ).loc main_arg3))) (ctx (m ((c : Thread nD τ).loc main_arg4))) (ctx (m ((c : Thread nD τ).loc main_arg5)))
        (i 0) (headAt (i 2)) (i 1) (dimAt (i 2)) := by
  refine (dats m 0 c).arrAt_eq_of_covers 8 _ (by decide +kernel) fun t hf y => ?_
  blk_simp
  rw [after0_8, outsAt0]
  obtain ⟨s, l, rfl⟩ : ∃ (s : Fin 256) (l : Fin 128), y = (ix3 0 s l : S1x256x128.Idx) :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have he : (win0_8.blk t).view.emb (ix3 0 s l : S1x256x128.Idx) = (ix3 (batchOf t) s (chanOf (pairOf t) l) : S16x256x1024.Idx) := by
    blk_ext [index8]
    · exact Nat.add_zero _
    · exact congrArg (· + l.val) (Nat.mul_comm _ _)
  rw [he]
  have hl : l = lane ⟨l.val / 64, by omega⟩ ⟨l.val % 64, by omega⟩ := Fin.ext (by show l.val = l.val / 64 * 64 + l.val % 64; omega)
  have h := contextBlock_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t)
    (QC := ctx (m ((c : Thread nD τ).loc main_arg3))) (x3 := iblk m c 3 t) (blocks_at m c R hT t) (queries_at m c t) s ⟨l.val / 64, by omega⟩ ⟨l.val % 64, by omega⟩
  rw [← hl] at h
  have hh : headOf (pairOf t) ⟨l.val / 64, by omega⟩ = headAt (chanOf (pairOf t) l) :=
    Fin.ext (by show 2 * (pairOf t).val + l.val / 64 = (128 * (pairOf t).val + l.val) / 64; omega)
  have hd : (⟨l.val % 64, by omega⟩ : Fin 64) = dimAt (chanOf (pairOf t) l) :=
    Fin.ext (by show l.val % 64 = (128 * (pairOf t).val + l.val) % 64; omega)
  rw [hh, hd] at h
  exact h

end Cert.KernelIdeal.NA
-- ==== Proof.NA.Gathers.lean ====
/- What the reference's index arithmetic and gathers read: the eight key rows of an image row, the columns of the
   window, and the entries of the bias table. -/
module

public import proofs.«01_k».proof.Proof.Gen.ReferenceIdeal.Read
public import proofs.«01_k».proof.Proof.NA.Spec
public import Idealize.ShloMosaic.Lib.Pointwise

@[expose] public section

set_option maxRecDepth 16384
noncomputable section

namespace Cert.ReferenceIdeal.NA

open Cert.NA Cert.ReferenceIdeal Cert.ReferenceIdeal.Gen Cert.ReferenceIdeal.Read Idealize.ShloMosaic Idealize.ShloMosaic.TcCoe Idealize.SL.Sem Idealize.ShloMosaic.Tactic

/-- The start indices of the keys' gather: the key rows. -/
theorem keyRows (r : Fin 32) (i : Fin 8) : val_main_v54 (F := Ideal) (ix3 r i 0) = BitVec.ofNat 32 (keyRow r i).val := by
  revert r i; decide +kernel

/-- The start indices of the values' gather: the key rows. -/
theorem valueRows (r : Fin 32) (i : Fin 8) : val_main_v61 (F := Ideal) (ix3 r i 0) = BitVec.ofNat 32 (keyRow r i).val := by
  revert r i; decide +kernel

/-- The start indices of the biases' first gather: the rows of the bias table. -/
theorem biasRows (r : Fin 32) (i : Fin 8) : val_main_v76 (F := Ideal) (ix3 r i 0) = BitVec.ofNat 32 (biasRow r i).val := by
  revert r i; decide +kernel

/-- The start indices of the biases' second gather: the columns of the bias table. -/
theorem biasCols (q c : Fin 64) : val_main_v83 (F := Ideal) (ix3 q c 0) = BitVec.ofNat 32 (biasCol q c).val := by
  revert q c; decide +kernel

/-- The window of columns. -/
theorem windowCols (q c : Fin 64) : val_main_v32 (F := Ideal) (ix2 q c) = BitVec.ofBool (decide (inWin q c)) := by
  revert q c; decide +kernel

/-- The gather of whole image rows. -/
theorem gather_imageRow {α : Type} (x : S16x32x64x16x64.Idx → α) (idx : IVec S32x8x1 32) (b : Fin 16) (r : Fin 32) (i : Fin 8)
    (c : Fin 64) (h : Fin 16) (d : Fin 64) (n : Fin 32) (hn : idx (ix3 r i 0) = BitVec.ofNat 32 n.val) :
    Host.gather gather_S16x32x64x16x64_S32x8x1_S16x32x8x64x16x64_0345_1_n_n_1_2_161641664 x idx (ix6 b r i c h d)
      = x (ix5 b n c h d) := by
  refine congrArg x (funext fun a => Fin.ext ?_)
  match a with
  | ⟨0, _⟩ => show 0 + 0 + b.val = b.val; omega
  | ⟨1, _⟩ =>
    have e : GatherDims.siIdx gather_S16x32x64x16x64_S32x8x1_S16x32x8x64x16x64_0345_1_n_n_1_2_161641664 (ix6 b r i c h d) ⟨0, by decide⟩
        = ix3 r i 0 := by
      funext a
      match a with
      | ⟨0, _⟩ => rfl
      | ⟨1, _⟩ => rfl
      | ⟨2, _⟩ => rfl
    show min (idx (GatherDims.siIdx gather_S16x32x64x16x64_S32x8x1_S16x32x8x64x16x64_0345_1_n_n_1_2_161641664 (ix6 b r i c h d) ⟨0, _⟩)).toInt.toNat (32 - 1) + 0 + 0 = n.val
    rw [e, hn]
    clear * -
    revert n
    decide
  | ⟨2, _⟩ => show 0 + 0 + c.val = c.val; omega
  | ⟨3, _⟩ => show 0 + 0 + h.val = h.val; omega
  | ⟨4, _⟩ => show 0 + 0 + d.val = d.val; omega

/-- The gather of whole rows of the bias table. -/
theorem gather_biasRow {α : Type} (x : S16x15x31.Idx → α) (idx : IVec S32x8x1 32) (h : Fin 16) (r : Fin 32) (i : Fin 8)
    (c : Fin 31) (n : Fin 15) (hn : idx (ix3 r i 0) = BitVec.ofNat 32 n.val) :
    Host.gather gather_S16x15x31_S32x8x1_S16x32x8x31_03_1_n_n_1_2_16131 x idx (ix4 h r i c) = x (ix3 h n c) := by
  refine congrArg x (funext fun a => Fin.ext ?_)
  match a with
  | ⟨0, _⟩ => show 0 + 0 + h.val = h.val; omega
  | ⟨1, _⟩ =>
    have e : GatherDims.siIdx gather_S16x15x31_S32x8x1_S16x32x8x31_03_1_n_n_1_2_16131 (ix4 h r i c) ⟨0, by decide⟩ = ix3 r i 0 := by
      funext a
      match a with
      | ⟨0, _⟩ => rfl
      | ⟨1, _⟩ => rfl
      | ⟨2, _⟩ => rfl
    show min (idx (GatherDims.siIdx gather_S16x15x31_S32x8x1_S16x32x8x31_03_1_n_n_1_2_16131 (ix4 h r i c) ⟨0, _⟩)).toInt.toNat (15 - 1) + 0 + 0 = n.val
    rw [e, hn]
    clear * -
    revert n
    decide
  | ⟨2, _⟩ => show 0 + 0 + c.val = c.val; omega

/-- The gather of columns of the gathered rows. -/
theorem gather_biasCol {α : Type} (x : S16x32x8x31.Idx → α) (idx : IVec S64x64x1 32) (h : Fin 16) (r : Fin 32) (i : Fin 8)
    (q c : Fin 64) (n : Fin 31) (hn : idx (ix3 q c 0) = BitVec.ofNat 32 n.val) :
    Host.gather gather_S16x32x8x31_S64x64x1_S16x32x8x64x64_012_3_n_n_3_2_163281 x idx (ix5 h r i q c) = x (ix4 h r i n) := by
  refine congrArg x (funext fun a => Fin.ext ?_)
  match a with
  | ⟨0, _⟩ => show 0 + 0 + h.val = h.val; omega
  | ⟨1, _⟩ => show 0 + 0 + r.val = r.val; omega
  | ⟨2, _⟩ => show 0 + 0 + i.val = i.val; omega
  | ⟨3, _⟩ =>
    have e : GatherDims.siIdx gather_S16x32x8x31_S64x64x1_S16x32x8x64x64_012_3_n_n_3_2_163281 (ix5 h r i q c) ⟨0, by decide⟩ = ix3 q c 0 := by
      funext a
      match a with
      | ⟨0, _⟩ => rfl
      | ⟨1, _⟩ => rfl
      | ⟨2, _⟩ => rfl
    show min (idx (GatherDims.siIdx gather_S16x32x8x31_S64x64x1_S16x32x8x64x64_012_3_n_n_3_2_163281 (ix5 h r i q c) ⟨0, _⟩)).toInt.toNat (31 - 1) + 0 + 0 = n.val
    rw [e, hn]
    clear * -
    revert n
    decide

/-- The gathered keys. -/
theorem keys_at (x1 : S16x2048x1024.Idx → EReal) (b h : Fin 16) (r : Fin 32) (i : Fin 8) (c d : Fin 64) :
    val_main_v55 (F := Ideal) x1 (ix6 b r i c h d) = x1 (ix3 b (tok (keyRow r i) c) (chan h d)) := by
  refine (gather_imageRow _ _ b r i c h d (keyRow r i) (keyRows r i)).trans ?_
  pointwise [val_main_v3, val_main_v2]
  rfl

/-- The gathered values. -/
theorem values_at (x2 : S16x2048x1024.Idx → EReal) (b h : Fin 16) (r : Fin 32) (i : Fin 8) (c d : Fin 64) :
    val_main_v62 (F := Ideal) x2 (ix6 b r i c h d) = x2 (ix3 b (tok (keyRow r i) c) (chan h d)) := by
  refine (gather_imageRow _ _ b r i c h d (keyRow r i) (valueRows r i)).trans ?_
  pointwise [val_main_v5, val_main_v4]
  rfl

/-- The gathered biases. -/
theorem biases_at (x7 : S16x15x31.Idx → EReal) (h : Fin 16) (r : Fin 32) (i : Fin 8) (q c : Fin 64) :
    val_main_v84 (F := Ideal) x7 (ix5 h r i q c) = x7 (ix3 h (biasRow r i) (biasCol q c)) :=
  (gather_biasCol _ _ h r i q c (biasCol q c) (biasCols q c)).trans (gather_biasRow _ _ h r i _ (biasRow r i) (biasRows r i))

end Cert.ReferenceIdeal.NA
-- ==== Proof.NA.Ref.lean ====
/- The reference's two results, element by element: the attention of the specification. -/
module

public import proofs.«01_k».proof.Proof.NA.Gathers
public import proofs.«01_k».proof.Proof.NA.Mean
public import proofs.«01_k».proof.Proof.NA.Real

@[expose] public section

set_option maxRecDepth 16384
noncomputable section

namespace Cert.ReferenceIdeal.NA

open Cert.NA Cert.ReferenceIdeal Cert.ReferenceIdeal.Gen Cert.ReferenceIdeal.Read Idealize.ShloMosaic Idealize.ShloMosaic.TcCoe Idealize.SL.Sem Idealize.ShloMosaic.Tactic

/-- An image-shaped array by batch, token and channel. -/
abbrev img (x : S16x2048x1024.Idx → EReal) : Fin 16 → Fin 2048 → Fin 1024 → EReal := fun b s c => x (ix3 b s c)

/-- A context-shaped array by batch, token and channel. -/
abbrev ctx (x : S16x256x1024.Idx → EReal) : Fin 16 → Fin 256 → Fin 1024 → EReal := fun b s c => x (ix3 b s c)

/-- The bias table by head, row and column. -/
abbrev bias (x : S16x15x31.Idx → EReal) : Fin 16 → Fin 15 → Fin 31 → EReal := fun h i j => x (ix3 h i j)

/-- A choice by a truth value's bit is the choice by the proposition. -/
theorem select_decide {α : Type} (p : Prop) [Decidable p] (x y : α) : Scalar.select (BitVec.ofBool (decide p)) x y = if p then x else y := by
  by_cases h : p <;> simp [h, Scalar.select]

/-- The scores against the window, masked and biased. -/
theorem locScores_at (x0 x1 : S16x2048x1024.Idx → EReal) (x7 : S16x15x31.Idx → EReal) (b h : Fin 16) (r : Fin 32) (q : Fin 64)
    (i : Fin 8) (c : Fin 64) :
    val_main_v93 (F := Ideal) x0 x1 x7 (ix6 b h r q i c) = locScore (img x0) (img x1) (bias x7) b h r q (i, c) := by
  pointwise [val_main_v93, val_main_call3_v1, val_main_call3_v2, val_main_call3_v0, val_main_cst_20, val_main_v92, val_main_v91,
    val_main_v90, val_main_v89, val_main_v85, val_main_v88, val_main_v87, val_main_v86, val_main_v1, val_main_v0, val_main_cst]
  rw [windowCols, select_decide, biases_at, show id (constant (F := Ideal) S_ .f32 0xFF800000#32) ix0 = ⊥ from ofBits_bot_f32]
  simp only [keys_at]
  rfl

/-- All 768 scores of a query: the window's, then the context's. -/
theorem allScores_at (x0 x1 : S16x2048x1024.Idx → EReal) (x4 : S16x256x1024.Idx → EReal) (x7 : S16x15x31.Idx → EReal) (b h : Fin 16)
    (r : Fin 32) (q : Fin 64) (j : Fin 768) :
    val_main_v98 (F := Ideal) x0 x1 x4 x7 (ix5 b h r q j)
      = if hj : j.val < 512 then locScore (img x0) (img x1) (bias x7) b h r q (⟨j.val / 64, by omega⟩, ⟨j.val % 64, by omega⟩)
        else score (img x0) (ctx x4) b h (tok r q) ⟨j.val - 512, by omega⟩ := by
  pointwise [val_main_v98, val_main_v97, val_main_v96, val_main_v95, val_main_v94, val_main_v9, val_main_v8, val_main_v1, val_main_v0,
    val_main_cst_21]
  split
  · exact locScores_at x0 x1 x7 b h r q _ _
  · rfl

/-- The places of the window's and the context's scores in the list of all of them. -/
def places : (Fin 8 × Fin 64) ⊕ Fin 256 ≃ Fin 768 where
  toFun
    | .inl j => ⟨j.1.val * 64 + j.2.val, by omega⟩
    | .inr x => ⟨512 + x.val, by omega⟩
  invFun j := if hj : j.val < 512 then .inl (⟨j.val / 64, by omega⟩, ⟨j.val % 64, by omega⟩) else .inr ⟨j.val - 512, by omega⟩
  left_inv s := by
    match s with
    | .inl (i, c) =>
      have h : i.val * 64 + c.val < 512 := by omega
      simp only [h, dif_pos, Sum.inl.injEq, Prod.mk.injEq, Fin.ext_iff]
      omega
    | .inr x =>
      have h : ¬ 512 + x.val < 512 := by omega
      simp only [h, dif_neg, not_false_eq_true, Sum.inr.injEq, Fin.ext_iff]
      omega
  right_inv j := by
    by_cases h : j.val < 512
    · simp only [h, dif_pos, Fin.ext_iff]; omega
    · simp only [h, dif_neg, not_false_eq_true, Fin.ext_iff]; omega

/-- The softmax's weights. -/
theorem weights_at (x0 x1 : S16x2048x1024.Idx → EReal) (x4 : S16x256x1024.Idx → EReal) (x7 : S16x15x31.Idx → EReal) (b h : Fin 16)
    (r : Fin 32) (q : Fin 64) (j : Fin 768) :
    val_main_v107 (F := Ideal) x0 x1 x4 x7 (ix5 b h r q j)
      = Ideal.div
          (Ideal.exp (val_main_v98 (F := Ideal) x0 x1 x4 x7 (ix5 b h r q j)
            - Finset.univ.sup fun x : Fin 768 => val_main_v98 (F := Ideal) x0 x1 x4 x7 (ix5 b h r q x)))
          (∑ y : Fin 768, Ideal.exp (val_main_v98 (F := Ideal) x0 x1 x4 x7 (ix5 b h r q y)
            - Finset.univ.sup fun x : Fin 768 => val_main_v98 (F := Ideal) x0 x1 x4 x7 (ix5 b h r q x))) := by
  pointwise [val_main_v107, val_main_v106, val_main_v105, val_main_v104, val_main_cst_23, val_main_v103, val_main_v102, val_main_v101,
    val_main_v100, val_main_v99, val_main_cst_22]
  rw [ofBits_bot_f32]
  rfl

/-- The first result is the specification's attention of the image's queries. -/
theorem image_at (x0 x1 x2 : S16x2048x1024.Idx → EReal) (x4 x5 : S16x256x1024.Idx → EReal) (x7 : S16x15x31.Idx → EReal)
    (h0 : ∀ b s c, IsReal (img x0 b s c)) (h1 : ∀ b s c, IsReal (img x1 b s c)) (h4 : ∀ b s c, IsReal (ctx x4 b s c))
    (h7 : ∀ h i j, IsReal (bias x7 h i j)) (b h : Fin 16) (r : Fin 32) (q d : Fin 64) :
    val_main_v131 (F := Ideal) x0 x1 x2 x4 x5 x7 (ix3 b (tok r q) (chan h d))
      = image (img x0) (img x1) (img x2) (ctx x4) (ctx x5) (bias x7) b h r q d := by
  have e : val_main_v131 (F := Ideal) x0 x1 x2 x4 x5 x7 (ix3 b (tok r q) (chan h d))
      = val_main_v115 (F := Ideal) x0 x1 x2 x4 x5 x7 (ix5 b r q h d) := by
    unfold tok chan
    pointwise [val_main_v131, val_main_v130]
  rw [e]
  pointwise [val_main_v115, val_main_v114, val_main_v113, val_main_v112, val_main_v111, val_main_v110, val_main_v109, val_main_v108,
    val_main_v11, val_main_v10]
  simp only [values_at, weights_at]
  have hL : ∀ j : Fin 8 × Fin 64, val_main_v98 (F := Ideal) x0 x1 x4 x7 (ix5 b h r q (places (.inl j)))
      = locScore (img x0) (img x1) (bias x7) b h r q j := fun j => by
    rw [allScores_at]
    have hj : (places (.inl j)).val < 512 := by show j.1.val * 64 + j.2.val < 512; omega
    rw [dif_pos hj]
    congr 1
    refine Prod.ext (Fin.ext ?_) (Fin.ext ?_)
    · show (j.1.val * 64 + j.2.val) / 64 = j.1.val; omega
    · show (j.1.val * 64 + j.2.val) % 64 = j.2.val; omega
  have hC : ∀ x : Fin 256, val_main_v98 (F := Ideal) x0 x1 x4 x7 (ix5 b h r q (places (.inr x)))
      = score (img x0) (ctx x4) b h (tok r q) x := fun x => by
    rw [allScores_at]
    have hj : ¬ (places (.inr x)).val < 512 := by show ¬ 512 + x.val < 512; omega
    rw [dif_neg hj]
    congr 1
    exact Fin.ext (by show 512 + x.val - 512 = x.val; omega)
  have key := attend_joined places (fun j => val_main_v98 (F := Ideal) x0 x1 x4 x7 (ix5 b h r q j))
    (locScore (img x0) (img x1) (bias x7) b h r q) (fun x => score (img x0) (ctx x4) b h (tok r q) x)
    (fun j => img x2 b (tok (keyRow r j.1) j.2) (chan h d)) (fun x => ctx x5 b x (chan h d)) hL hC
    (fun j => locScore_ne_top _ _ _ h0 h1 h7 _ _ _ _ _) (fun x => (score_real _ _ h0 h4 _ _ _ _).ne_top) 0
    (score_real _ _ h0 h4 _ _ _ _).ne_bot
  refine Eq.trans ?_ key
  rw [Fintype.sum_prod_type]
  refine congrArg₂ HAdd.hAdd ?_ ?_
  · refine Finset.sum_congr rfl fun i _ => Finset.sum_congr rfl fun c _ => ?_
    rw [← hL]
    rfl
  · refine Finset.sum_congr rfl fun x _ => ?_
    rw [← hC]
    rfl

/-- The scores of the context's queries. -/
theorem ctxScores_at (x3 x4 : S16x256x1024.Idx → EReal) (b h : Fin 16) (s x : Fin 256) :
    val_main_v118 (F := Ideal) x3 x4 (ix4 b h s x) = score (ctx x3) (ctx x4) b h s x := by
  pointwise [val_main_v118, val_main_v117, val_main_v116, val_main_cst_24, val_main_v7, val_main_v6, val_main_v9, val_main_v8]
  rfl

/-- The second result is the specification's attention of the context's queries. -/
theorem context_at (x3 x4 x5 : S16x256x1024.Idx → EReal) (h3 : ∀ b s c, IsReal (ctx x3 b s c)) (h4 : ∀ b s c, IsReal (ctx x4 b s c))
    (b h : Fin 16) (s : Fin 256) (d : Fin 64) :
    val_main_v133 (F := Ideal) x3 x4 x5 (ix3 b s (chan h d)) = context (ctx x3) (ctx x4) (ctx x5) b h s d := by
  unfold chan
  pointwise [val_main_v133, val_main_v132, val_main_v129, val_main_v128, val_main_v127, val_main_v126, val_main_v125, val_main_v124,
    val_main_v123, val_main_v122, val_main_v121, val_main_v120, val_main_v119, val_main_v11, val_main_v10, val_main_cst_25, val_main_cst_26]
  simp only [ctxScores_at]
  rw [ofBits_bot_f32]
  exact attendOne_divided (fun x => score (ctx x3) (ctx x4) b h s x) (fun x => ctx x5 b x (chan h d))
    (fun x => (score_real _ _ h3 h4 _ _ _ _).ne_top) 0 (score_real _ _ h3 h4 _ _ _ _).ne_bot

end Cert.ReferenceIdeal.NA
-- ==== Proof.NA.Pre.lean ====
/- What the precondition says: the queries, the keys and the biases are real numbers, and the kernel's table is the
   layout of the biases. -/
module

public import proofs.«01_k».proof.Proof.Gen.Pre_attention_inputs
public import proofs.«01_k».proof.Proof.NA.Real
public import Idealize.ShloMosaic.Lib.Pointwise
public import Idealize.ShloMosaic.Lib.ReduceAll

@[expose] public section

set_option maxRecDepth 16384
noncomputable section

namespace Cert.Pre_attention_inputs.NA

open Cert.NA Cert.Pre_attention_inputs Cert.Pre_attention_inputs.Gen Idealize.ShloMosaic Idealize.ShloMosaic.TcCoe Idealize.SL.Sem Idealize.ShloMosaic.Tactic

/-- A number below plus infinity in absolute value is real. -/
theorem isReal_of_abs {x : EReal} (h : BitVec.ofBool (decide (FloatOps.absf (F := Ideal) (φ := .f32) x < Ideal.ofBits .f32 0x7F800000#32)) = 1#1) :
    IsReal x := by
  have h' : FloatOps.absf (F := Ideal) (φ := .f32) x < Ideal.ofBits .f32 0x7F800000#32 := by
    by_contra hn
    simp [hn] at h
  rw [ofBits_top_f32, Ideal.absf_def] at h'
  induction x with
  | bot => exact absurd h' (by simp)
  | top => exact absurd h' (by simp)
  | coe r => exact ⟨r, rfl⟩

/-- The gather of the bias table's columns. -/
theorem gather_cols {α : Type} (x : S16x15x31.Idx → α) (idx : IVec S64x64x1 32) (h : Fin 16) (i : Fin 15) (q c : Fin 64)
    (n : Fin 31) (hn : idx (ix3 q c 0) = BitVec.ofNat 32 n.val) :
    Host.gather gather_S16x15x31_S64x64x1_S16x15x64x64_01_2_n_n_2_2_16151 x idx (ix4 h i q c) = x (ix3 h i n) := by
  refine congrArg x (funext fun a => Fin.ext ?_)
  match a with
  | ⟨0, _⟩ => show 0 + 0 + h.val = h.val; omega
  | ⟨1, _⟩ => show 0 + 0 + i.val = i.val; omega
  | ⟨2, _⟩ =>
    have e : GatherDims.siIdx gather_S16x15x31_S64x64x1_S16x15x64x64_01_2_n_n_2_2_16151 (ix4 h i q c) ⟨0, by decide⟩ = ix3 q c 0 := by
      funext a
      match a with
      | ⟨0, _⟩ => rfl
      | ⟨1, _⟩ => rfl
      | ⟨2, _⟩ => rfl
    show min (idx (GatherDims.siIdx gather_S16x15x31_S64x64x1_S16x15x64x64_01_2_n_n_2_2_16151 (ix4 h i q c) ⟨0, _⟩)).toInt.toNat (31 - 1) + 0 + 0 = n.val
    rw [e, hn]
    clear * -
    revert n
    decide

/-- What the table's entry for a bias row, a query column and a key column is. -/
def entry (x7 : S16x15x31.Idx → EReal) (h : Fin 16) (i : Fin 15) (q c : Fin 64) : EReal :=
  if inWin q c then x7 (ix3 h i (biasCol q c)) else ⊥

/-- The precondition's window of columns, as it spells it. -/
theorem window_word (q c : Fin 64) :
    IntOp.andi
        (IntOp.cmpi .sge (BitVec.ofNat 32 c.val) (IntOp.minsi (IntOp.maxsi (IntOp.subi (BitVec.ofNat 32 q.val) 8#32) 0#32) 48#32))
        (IntOp.cmpi .slt (BitVec.ofNat 32 c.val)
          (IntOp.addi (IntOp.minsi (IntOp.maxsi (IntOp.subi (BitVec.ofNat 32 q.val) 8#32) 0#32) 48#32) 16#32))
      = BitVec.ofBool (decide (inWin q c)) := by
  revert q c; decide +kernel

/-- The precondition's column of the bias table, as it spells it. -/
theorem col_word (q c : Fin 64) :
    broadcastInDim S64x64x1 ![0, 1] bcast_S64x64_S64x64x1_0_1
        (minsi
          (maxsi
            (addi (subi (iotaInDim S64x64 32 1) (iotaInDim S64x64 32 0)) (broadcastInDim S64x64 ![] bcast_S_S64x64 (constantI S_ 32 15#32)))
            (broadcastInDim S64x64 ![] bcast_S_S64x64 (constantI S_ 32 0#32)))
          (broadcastInDim S64x64 ![] bcast_S_S64x64 (constantI S_ 32 30#32))) (ix3 q c 0)
      = BitVec.ofNat 32 (biasCol q c).val := by
  revert q c; decide +kernel

/-- A choice by a truth value's bit is the choice by the proposition. -/
theorem select_decide {α : Type} (p : Prop) [Decidable p] (x y : α) : Scalar.select (BitVec.ofBool (decide p)) x y = if p then x else y := by
  by_cases h : p <;> simp [h, Scalar.select]

/-- A truth value whose bit is one holds. -/
theorem of_bit {p : Prop} [Decidable p] (h : BitVec.ofBool (decide p) = 1#1) : p := by
  by_contra hn
  simp [hn] at h

/-- The precondition, unpacked: finite queries, keys and biases; the table's lower lanes hold a bias row one place
    further on, its upper lanes the bias row at its own place. -/
theorem unpack (x0 x1 x2 : S16x2048x1024.Idx → EReal) (x3 x4 x5 : S16x256x1024.Idx → EReal) (x6 : S16x16x64x128.Idx → EReal)
    (x7 : S16x15x31.Idx → EReal) (hp : fn (F := Ideal) x0 x1 x2 x3 x4 x5 x6 x7 = fun _ => 1#1) :
    (∀ b s c, IsReal (x0 (ix3 b s c))) ∧ (∀ b s c, IsReal (x1 (ix3 b s c))) ∧ (∀ b s c, IsReal (x3 (ix3 b s c)))
      ∧ (∀ b s c, IsReal (x4 (ix3 b s c))) ∧ (∀ h i c, IsReal (x7 (ix3 h i c)))
      ∧ (∀ (h : Fin 16) (n : Fin 15) (q c : Fin 64), x6 (ix4 h ⟨n.val + 1, by omega⟩ q ⟨c.val, by omega⟩) = entry x7 h n q c)
      ∧ (∀ (h : Fin 16) (n : Fin 15) (q c : Fin 64), x6 (ix4 h ⟨n.val, by omega⟩ q ⟨64 + c.val, by omega⟩) = entry x7 h n q c) := by
  have h := congrFun hp ix0
  unfold fn fn_part1 fn_part2 fn_part3 at h
  obtain ⟨h, hT⟩ := IntOp.andi_eq_one.1 h
  obtain ⟨h, h7⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  refine ⟨fun b s c => ?_, fun b s c => ?_, fun b s c => ?_, fun b s c => ?_, fun b s c => ?_, fun h n q c => ?_, fun h n q c => ?_⟩
  · have e := Host.reduce_andi_all _ _ _ _ _ h0 (ix3 b s c)
    pointwise at e
    exact isReal_of_abs e
  · have e := Host.reduce_andi_all _ _ _ _ _ h1 (ix3 b s c)
    pointwise at e
    exact isReal_of_abs e
  · have e := Host.reduce_andi_all _ _ _ _ _ h3 (ix3 b s c)
    pointwise at e
    exact isReal_of_abs e
  · have e := Host.reduce_andi_all _ _ _ _ _ h4 (ix3 b s c)
    pointwise at e
    exact isReal_of_abs e
  · have e := Host.reduce_andi_all _ _ _ _ _ h7 (ix3 b s c)
    pointwise at e
    exact isReal_of_abs e
  · have e := Host.reduce_andi_all _ _ _ _ _ hT (ix4 h ⟨n.val + 1, by omega⟩ q ⟨c.val, by omega⟩)
    pointwise at e
    refine (of_bit e).trans ((dif_pos (show n.val + 1 - 1 < 15 by omega)).trans ?_)
    rw [window_word, select_decide, ofBits_bot_f32]
    exact if_congr Iff.rfl (gather_cols _ _ h n q c (biasCol q c) (col_word q c)) rfl
  · have e := Host.reduce_andi_all _ _ _ _ _ hT (ix4 h ⟨n.val, by omega⟩ q ⟨64 + c.val, by omega⟩)
    pointwise at e
    rw [of_bit e, gather_cols _ _ h n q c (biasCol q c) (col_word q c), window_word, select_decide, ofBits_bot_f32]
    rfl

end Cert.Pre_attention_inputs.NA
-- ==== Proof.NA.Claims.lean ====
module

public import proofs.«01_k».proof.Defs
public import proofs.«01_k».proof.Proof.Gen.Kernel
public import proofs.«01_k».proof.Proof.Gen.Kernel.Frame
public import proofs.«01_k».proof.Proof.NA.Array
public import proofs.«01_k».proof.Proof.NA.Ref
public import proofs.«01_k».proof.Proof.NA.Pre

@[expose] public section

noncomputable section

/-! The attention's claims: its frames, what replaces its named constant, and that kernel and reference end equal. -/

namespace Cert.Proof.NA

open Idealize.ShloMosaic Idealize.ShloMosaic.StableHlo Idealize.SL.Sem Cert.NA Cert.KernelIdeal.NA

/-- The reference's frame: its run keeps the arguments, and it declares no semaphore. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- An image array is read at its head, row, column and dimension. -/
theorem image_index (i : Cert.ReferenceIdeal.S16x2048x1024.Idx) : i = ix3 (i 0) (tok (rowAt (i 1)) (colAt (i 1))) (chan (headAt (i 2)) (dimAt (i 2))) := by
  refine funext fun a => match a with
    | ⟨0, _⟩ => rfl
    | ⟨1, _⟩ => Fin.ext (by show (i 1).val = (i 1).val / 64 * 64 + (i 1).val % 64; omega)
    | ⟨2, _⟩ => Fin.ext (by show (i 2).val = (i 2).val / 64 * 64 + (i 2).val % 64; omega)

/-- A context array is read at its head and dimension. -/
theorem context_index (i : Cert.ReferenceIdeal.S16x256x1024.Idx) : i = ix3 (i 0) (i 1) (chan (headAt (i 2)) (dimAt (i 2))) := by
  refine funext fun a => match a with
    | ⟨0, _⟩ => rfl
    | ⟨1, _⟩ => rfl
    | ⟨2, _⟩ => Fin.ext (by show (i 2).val = (i 2).val / 64 * 64 + (i 2).val % 64; omega)

variable (m : (ℓ : Loc Cert.KernelIdeal.nD Cert.KernelIdeal.τ Cert.KernelIdeal.sig) → Buf (Elt Ideal) ℓ) (hp : Cert.Pre_KernelIdeal_attention_inputs m)
  (c : Dev Cert.KernelIdeal.nD)

/-- An argument array of the kernel on a device. -/
abbrev arg (b : Ref Cert.KernelIdeal.sig .tc) := m ((c.tc : Thread Cert.KernelIdeal.nD Cert.KernelIdeal.τ).loc b)

open Cert.KernelIdeal

include hp in
/-- The kernel's image result is the reference's. -/
theorem image_result : (Cert.KernelIdeal.Gen.dats m 0 c).arrAt 7 Cert.KernelIdeal.cfg0.N
    = Cert.ReferenceIdeal.Read.val_main_v131 (F := Ideal) (arg m c main_arg0) (arg m c main_arg1) (arg m c main_arg2) (arg m c main_arg4) (arg m c main_arg5)
        (arg m c main_arg7) := by
  obtain ⟨h0, h1, h3, h4, h7, hl, hh⟩ := Cert.Pre_attention_inputs.NA.unpack _ _ _ _ _ _ _ _ (hp c)
  refine (image_array m c (fun h n j => arg m c main_arg7 (ix3 h n j)) ⟨hl, hh⟩).trans (funext fun i => ?_)
  refine Eq.trans ?_ (congrArg _ (image_index i)).symm
  exact (Cert.ReferenceIdeal.NA.image_at _ _ _ _ _ _ h0 h1 h4 h7 _ _ _ _ _).symm

include hp in
/-- The kernel's context result is the reference's. -/
theorem context_result : (Cert.KernelIdeal.Gen.dats m 0 c).arrAt 8 Cert.KernelIdeal.cfg0.N
    = Cert.ReferenceIdeal.Read.val_main_v133 (F := Ideal) (arg m c main_arg3) (arg m c main_arg4) (arg m c main_arg5) := by
  obtain ⟨h0, h1, h3, h4, h7, hl, hh⟩ := Cert.Pre_attention_inputs.NA.unpack _ _ _ _ _ _ _ _ (hp c)
  refine (context_array m c (fun h n j => arg m c main_arg7 (ix3 h n j)) ⟨hl, hh⟩).trans (funext fun i => ?_)
  refine Eq.trans ?_ (congrArg _ (context_index i)).symm
  exact (Cert.ReferenceIdeal.NA.context_at _ _ _ h3 h4 _ _ _ _).symm

/-- The attention's kernel and its reference end equal. -/
theorem algebraic : Cert.algebraic_KernelIdeal_ReferenceIdeal_pre_attention_inputs := by
  intro m g m' g' hp ha
  refine ⟨fun c => Cert.ReferenceIdeal.Read.val_main_v131 (F := Ideal) (arg m c main_arg0) (arg m c main_arg1) (arg m c main_arg2) (arg m c main_arg4)
      (arg m c main_arg5) (arg m c main_arg7),
    fun c => Cert.ReferenceIdeal.Read.val_main_v133 (F := Ideal) (arg m c main_arg3) (arg m c main_arg4) (arg m c main_arg5), ?_, ?_⟩
  · exact (θ_run Cert.KernelIdeal.defs _ _).mono (fun r h c => ⟨(h c).1.trans (image_result m hp c), (h c).2.1.trans (context_result m hp c), (h c).2.2⟩)
      (Cert.KernelIdeal.Value.run_blocks (F := Ideal) m g)
  · refine (θ_run Cert.ReferenceIdeal.defs _ _).mono (fun r h c => ⟨(h c).1.trans ?_, (h c).2.1.trans ?_, (h c).2.2⟩)
      (Cert.ReferenceIdeal.Value.run (F := Ideal) m' g')
    · obtain ⟨e0, e1, e2, e3, e4, e5, e6, e7⟩ := ha c
      refine (Cert.ReferenceIdeal.Read.val_main_v131_eq (F := Ideal) (launchContents m' c)).trans ?_
      show Cert.ReferenceIdeal.Read.val_main_v131 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) = _
      rw [e0, e1, e2, e4, e5, e7]
    · obtain ⟨e0, e1, e2, e3, e4, e5, e6, e7⟩ := ha c
      refine (Cert.ReferenceIdeal.Read.val_main_v133_eq (F := Ideal) (launchContents m' c)).trans ?_
      show Cert.ReferenceIdeal.Read.val_main_v133 (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [e3, e4, e5]

end Cert.Proof.NA

end
-- ==== Proof.LIN.Spec.lean ====
/- What the dense calls compute on one row of latents, written as sums and products of extended reals: the
   root-mean-square normalization with its modulation, and a head's normalization. -/
module

public import Idealize.ShloMosaic.Lib.Pointwise
public import Idealize.ShloMosaic.Lib.Pipeline.ValueKit
public import Idealize.ShloMosaic.Lib.StableHlo.ReadAt

@[expose] public section

noncomputable section

namespace Cert.LIN

open Idealize.ShloMosaic

/-- A row divided by the root of its mean square, times the gain `g`, scaled by one plus `sc` and shifted by `sh`: the
    sub-layer's modulated input. The two constants are the row's length and the guard against a zero row. -/
def rms (x g sh sc : Fin 1024 → EReal) (k : Fin 1024) : EReal :=
  x k * Ideal.rsqrt (Ideal.div (∑ j, x j * x j) (Ideal.ofBits FTy.f32 1149239296#32) + Ideal.ofBits FTy.f32 897988541#32) * g k * (1 + sc k) + sh k

/-- The row a grid point's block holds at its own row `s`, for tiles of 512 rows. -/
def rowIn (i : Fin 4) (s : Fin 512) : Fin 2048 := ⟨i.val * 512 + s.val, by omega⟩

end Cert.LIN
-- ==== Proof.LIN.Even2.lean ====
/- The even layers' in-projection: what its kernel's five result arrays hold after the run, what its reference's hold,
   and that the two are equal. -/
module

public import proofs.«01_k».proof.Defs
public import proofs.«01_k».proof.Proof.Gen.Kernel2Ideal.Value
public import proofs.«01_k».proof.Proof.Gen.Reference2Ideal.Read
public import proofs.«01_k».proof.Proof.LIN.Spec

@[expose] public section

set_option maxRecDepth 16384
noncomputable section

namespace Cert.Kernel2Ideal.LIN

open Idealize.ShloMosaic Idealize.ShloMosaic.TcCoe Idealize.SL.Sem Idealize.ShloMosaic.Tactic
open Cert.LIN Cert.Kernel2Ideal Cert.Kernel2Ideal.Gen
open Idealize.ShloMosaic.Pipeline (Dat)

/-- The projection's column that time-step column `k` of the result is: the result lists, for each of four groups, the
    two directions' four heads, the projection each direction's groups in turn. -/
def stepCol (k : Fin 512) (_ : k.val % 128 < 8) : Fin 5152 := ⟨2048 + (k.val % 128 / 4 * 16 + k.val / 128 * 4 + k.val % 128 % 4), by omega⟩

/-- The weights of time-step column `k`: a projection's column, or zero where the result is padded. -/
def stepWeight (w : Fin 1024 → Fin 5152 → EReal) (j : Fin 1024) (k : Fin 512) : EReal := if h : k.val % 128 < 8 then w j (stepCol k h) else 0

/-- A padded column as the programs write it, a projection's column or the padding's zero `z`. -/
theorem stepWeight_eq (w : Fin 1024 → Fin 5152 → EReal) (j : Fin 1024) (k : Fin 512) (z : EReal) (hz : z = 0) :
    (if h : k.val / 128 < 4 ∧ k.val % 128 < 8 then w j ⟨2048 + (k.val % 128 / 4 * 16 + k.val / 128 * 4 + k.val % 128 % 4), by omega⟩ else z)
      = stepWeight w j k := by
  have hk : k.val / 128 < 4 := by omega
  subst hz
  unfold stepWeight
  by_cases h : k.val % 128 < 8
  · rw [dif_pos ⟨hk, h⟩, dif_pos h]
    rfl
  · rw [dif_neg fun hh => h hh.2, dif_neg h]

/-- The integer zero converted is the float zero. -/
theorem sitofp_zero : (FloatOps.sitofp .f32 0#32 : Ideal .f32) = (0 : EReal) := by
  show ((((0#32 : BitVec 32).toInt : ℤ) : ℝ) : EReal) = 0
  simp

/-- A row's product with a padded column is the column's product, or zero. -/
theorem step_sum (h : Fin 1024 → EReal) (w : Fin 1024 → Fin 5152 → EReal) (k : Fin 512) :
    ∑ j, h j * stepWeight w j k = if hk : k.val % 128 < 8 then ∑ j, h j * w j (stepCol k hk) else 0 := by
  unfold stepWeight
  split
  · rfl
  · simp only [mul_zero, Finset.sum_const_zero]

/-- Column `k` of the 1024 that begin at column `o` of the projection. -/
def colFrom (o : ℕ) (ho : o + 1024 ≤ 5152) (k : Fin 1024) : Fin 5152 := ⟨o + k.val, by omega⟩

/-! The kernel's block: each store writes 256 columns of the product of the block's normalized rows with the weights. -/

/-- The normalized and modulated rows. -/
theorem normed_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 1024) :
    k0_pay26 (F := Ideal) x0 x1 x2 x3 x4 x5 x6 x7 (ix2 s k)
      = rms (fun k => x0 (ix3 0 s k)) (fun k => x1 (ix2 0 k)) (fun k => x2 (ix3 0 0 k)) (fun k => x2 (ix3 0 1 k)) k := by
  unfold k0_pay26
  rw [View.ld_unit_zero (S := S1x512x1024) (by decide), View.ld_unit_zero (S := S1x1024) (by decide)]
  pointwise [k0_pay5]
  rfl

/-- A column of a store's payload, rounded to the half format, at its place in the whole block. -/
theorem piece_at {N : ℕ} (v : Vec Ideal S512x1024 .bf16) (w : Vec Ideal ⟨2, ![1024, N]⟩ .bf16) (off : ℕ)
    (inb : ∀ a, (![0, off] : Fin 2 → ℕ) a + S1024x256.size a ≤ (⟨2, ![1024, N]⟩ : Shape).size a) (s : Fin 512) (k : Fin N) :
    View.TileAt (Val := Elt Ideal) (S := ⟨3, ![1, 512, N]⟩) (e := .bf16) (ix3 0 s k) ![0, 0, off] ![1, 512, 256]
      (k0_pay7 v (View.ld w (Rect.unit (s := ⟨2, ![1024, N]⟩) ![0, off] S1024x256.size inb))) (∑ j, v (ix2 s j) * w (ix2 j k)) := by
  intro x hx
  have h0 : 0 = 0 + (x 0).val := hx 0
  have h1 : s.val = 0 + (x 1).val := hx 1
  have h2 : k.val = off + (x 2).val := hx 2
  have hl : (x 2).val < 256 := (x 2).isLt
  have hxe : x = (ix3 0 s ⟨(x 2).val, hl⟩ : S1x512x256.Idx) := funext fun a => Fin.ext <| match a with
    | ⟨0, _⟩ => by show (x 0).val = 0; omega
    | ⟨1, _⟩ => by show (x 1).val = s.val; omega
    | ⟨2, _⟩ => rfl
  rw [hxe]
  pointwise [k0_pay7]
  refine Finset.sum_congr rfl fun j _ => congrArg (v (ix2 s j) * ·) (congrArg w ?_)
  refine funext fun a => Fin.ext <| match a with
    | ⟨0, _⟩ => by show 0 + j.val = j.val; omega
    | ⟨1, _⟩ => by show off + (x 2).val = k.val; omega

/-- A column of a time-step store's payload at its place in the whole block. -/
theorem stepPiece_at {N : ℕ} (v : Vec Ideal S512x1024 .bf16) (w : Vec Ideal ⟨2, ![1024, N]⟩ .bf16) (off : ℕ)
    (inb : ∀ a, (![0, off] : Fin 2 → ℕ) a + S1024x256.size a ≤ (⟨2, ![1024, N]⟩ : Shape).size a) (s : Fin 512) (k : Fin N) :
    View.TileAt (Val := Elt Ideal) (S := ⟨3, ![1, 512, N]⟩) (e := .f32) (ix3 0 s k) ![0, 0, off] ![1, 512, 256]
      (k0_pay15 v (View.ld w (Rect.unit (s := ⟨2, ![1024, N]⟩) ![0, off] S1024x256.size inb))) (∑ j, v (ix2 s j) * w (ix2 j k)) := by
  intro x hx
  have h0 : 0 = 0 + (x 0).val := hx 0
  have h1 : s.val = 0 + (x 1).val := hx 1
  have h2 : k.val = off + (x 2).val := hx 2
  have hl : (x 2).val < 256 := (x 2).isLt
  have hxe : x = (ix3 0 s ⟨(x 2).val, hl⟩ : S1x512x256.Idx) := funext fun a => Fin.ext <| match a with
    | ⟨0, _⟩ => by show (x 0).val = 0; omega
    | ⟨1, _⟩ => by show (x 1).val = s.val; omega
    | ⟨2, _⟩ => rfl
  rw [hxe]
  pointwise [k0_pay15]
  refine Finset.sum_congr rfl fun j _ => congrArg (v (ix2 s j) * ·) (congrArg w ?_)
  refine funext fun a => Fin.ext <| match a with
    | ⟨0, _⟩ => by show 0 + j.val = j.val; omega
    | ⟨1, _⟩ => by show off + (x 2).val = k.val; omega

/-! The payloads the stores write are one function of the normalized rows and of the weights' slice. -/

/-- A payload. -/
theorem pay14_eq (v : Vec Ideal S512x1024 .bf16) (w : Vec Ideal S1024x256 .bf16) : k0_pay14 v w = k0_pay7 v w := by
  unfold k0_pay14 k0_pay7; rfl
/-- A payload. -/
theorem pay13_eq (v : Vec Ideal S512x1024 .bf16) (w : Vec Ideal S1024x256 .bf16) : k0_pay13 v w = k0_pay7 v w := by
  unfold k0_pay13 k0_pay7; rfl
/-- A payload in two parts. -/
theorem pay12_eq (v : Vec Ideal S512x1024 .bf16) (w : Vec Ideal S1024x256 .bf16) : k0_pay12 (k0_pay11 v w) = k0_pay7 v w := by
  unfold k0_pay12 k0_pay11 k0_pay7; rfl
/-- A payload. -/
theorem pay10_eq (v : Vec Ideal S512x1024 .bf16) (w : Vec Ideal S1024x256 .bf16) : k0_pay10 v w = k0_pay7 v w := by
  unfold k0_pay10 k0_pay7; rfl
/-- A payload. -/
theorem pay9_eq (v : Vec Ideal S512x1024 .bf16) (w : Vec Ideal S1024x256 .bf16) : k0_pay9 v w = k0_pay7 v w := by
  unfold k0_pay9 k0_pay7; rfl
/-- A payload. -/
theorem pay8_eq (v : Vec Ideal S512x1024 .bf16) (w : Vec Ideal S1024x256 .bf16) : k0_pay8 v w = k0_pay7 v w := by
  unfold k0_pay8 k0_pay7; rfl
/-- A time-step payload. -/
theorem pay16_eq (v : Vec Ideal S512x1024 .bf16) (w : Vec Ideal S1024x256 .bf16) : k0_pay16 v w = k0_pay15 v w := by
  unfold k0_pay16 k0_pay15; rfl
/-- A payload. -/
theorem pay20_eq (v : Vec Ideal S512x1024 .bf16) (w : Vec Ideal S1024x256 .bf16) : k0_pay20 v w = k0_pay7 v w := by
  unfold k0_pay20 k0_pay7; rfl
/-- A payload. -/
theorem pay19_eq (v : Vec Ideal S512x1024 .bf16) (w : Vec Ideal S1024x256 .bf16) : k0_pay19 v w = k0_pay7 v w := by
  unfold k0_pay19 k0_pay7; rfl
/-- A payload. -/
theorem pay18_eq (v : Vec Ideal S512x1024 .bf16) (w : Vec Ideal S1024x256 .bf16) : k0_pay18 v w = k0_pay7 v w := by
  unfold k0_pay18 k0_pay7; rfl
/-- A payload. -/
theorem pay17_eq (v : Vec Ideal S512x1024 .bf16) (w : Vec Ideal S1024x256 .bf16) : k0_pay17 v w = k0_pay7 v w := by
  unfold k0_pay17 k0_pay7; rfl
/-- A payload. -/
theorem pay24_eq (v : Vec Ideal S512x1024 .bf16) (w : Vec Ideal S1024x256 .bf16) : k0_pay24 v w = k0_pay7 v w := by
  unfold k0_pay24 k0_pay7; rfl
/-- A payload. -/
theorem pay23_eq (v : Vec Ideal S512x1024 .bf16) (w : Vec Ideal S1024x256 .bf16) : k0_pay23 v w = k0_pay7 v w := by
  unfold k0_pay23 k0_pay7; rfl
/-- A payload. -/
theorem pay22_eq (v : Vec Ideal S512x1024 .bf16) (w : Vec Ideal S1024x256 .bf16) : k0_pay22 v w = k0_pay7 v w := by
  unfold k0_pay22 k0_pay7; rfl
/-- A payload. -/
theorem pay21_eq (v : Vec Ideal S512x1024 .bf16) (w : Vec Ideal S1024x256 .bf16) : k0_pay21 v w = k0_pay7 v w := by
  unfold k0_pay21 k0_pay7; rfl
/-- A payload. -/
theorem pay4_eq (v : Vec Ideal S512x1024 .bf16) (w : Vec Ideal S1024x256 .bf16) : k0_pay4 v w = k0_pay7 v w := by
  unfold k0_pay4 k0_pay7; rfl
/-- A payload. -/
theorem pay3_eq (v : Vec Ideal S512x1024 .bf16) (w : Vec Ideal S1024x256 .bf16) : k0_pay3 v w = k0_pay7 v w := by
  unfold k0_pay3 k0_pay7; rfl
/-- A payload. -/
theorem pay2_eq (v : Vec Ideal S512x1024 .bf16) (w : Vec Ideal S1024x256 .bf16) : k0_pay2 v w = k0_pay7 v w := by
  unfold k0_pay2 k0_pay7; rfl
/-- A payload in two parts. -/
theorem pay1_eq (v : Vec Ideal S512x1024 .bf16) (w : Vec Ideal S1024x256 .bf16) : k0_pay1 (k0_pay25 v w) = k0_pay7 v w := by
  unfold k0_pay1 k0_pay25 k0_pay7; rfl
/-- The first store's payload, which takes the rows as they are loaded. -/
theorem pay6_eq (a : Vec Ideal S1x512x1024 .f32) (b : Vec Ideal S1x1024 .f32) (d e : Vec Ideal S1x1x1024 .f32) (w : Vec Ideal S1024x256 .bf16) :
    k0_pay6 a b d e w = k0_pay7 (k0_pay5 a b d e) w := by
  unfold k0_pay6 k0_pay7; rfl

/-- The block of convolution inputs. -/
theorem convBlock_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 2048) :
    out0_8 (F := Ideal) x0 x1 x2 x3 x4 x5 x6 x7 (ix3 0 s k) = ∑ j, rms (fun k => x0 (ix3 0 s k)) (fun k => x1 (ix2 0 k)) (fun k => x2 (ix3 0 0 k))
      (fun k => x2 (ix3 0 1 k)) j * x3 (ix2 j k) := by
  have h : out0_8 (F := Ideal) x0 x1 x2 x3 x4 x5 x6 x7 (ix3 0 s k) = ∑ j, k0_pay26 x0 x1 x2 x3 x4 x5 x6 x7 (ix2 s j) * x3 (ix2 j k) := by
    unfold out0_8
    rw [pay14_eq, pay13_eq, pay12_eq, pay10_eq, pay9_eq, pay8_eq, pay6_eq]
    exact View.canon_eq_of_allAt _ _ _ (cover0_8 _ _ _ _ _ _ _ _ _)
      (View.allAt_cons_unit _ _ _ _ _ (piece_at (k0_pay26 x0 x1 x2 x3 x4 x5 x6 x7) x3 1792 (by decide) s k)
      (View.allAt_cons_unit _ _ _ _ _ (piece_at (k0_pay26 x0 x1 x2 x3 x4 x5 x6 x7) x3 1536 (by decide) s k)
      (View.allAt_cons_unit _ _ _ _ _ (piece_at (k0_pay26 x0 x1 x2 x3 x4 x5 x6 x7) x3 1280 (by decide) s k)
      (View.allAt_cons_unit _ _ _ _ _ (piece_at (k0_pay26 x0 x1 x2 x3 x4 x5 x6 x7) x3 1024 (by decide) s k)
      (View.allAt_cons_unit _ _ _ _ _ (piece_at (k0_pay26 x0 x1 x2 x3 x4 x5 x6 x7) x3 768 (by decide) s k)
      (View.allAt_cons_unit _ _ _ _ _ (piece_at (k0_pay26 x0 x1 x2 x3 x4 x5 x6 x7) x3 512 (by decide) s k)
      (View.allAt_cons_unit _ _ _ _ _ (piece_at (k0_pay26 x0 x1 x2 x3 x4 x5 x6 x7) x3 256 (by decide) s k)
      (View.allAt_cons_unit _ _ _ _ _ (piece_at (k0_pay26 x0 x1 x2 x3 x4 x5 x6 x7) x3 0 (by decide) s k)
      (View.allAt_nil (Val := Elt Ideal) (e := .bf16) _ _)))))))))
  rw [h]
  simp only [normed_at]

/-- The block of time steps. -/
theorem stepBlock_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 512) :
    out0_9 (F := Ideal) x0 x1 x2 x3 x4 x5 x6 x7 (ix3 0 s k) = ∑ j, rms (fun k => x0 (ix3 0 s k)) (fun k => x1 (ix2 0 k)) (fun k => x2 (ix3 0 0 k))
      (fun k => x2 (ix3 0 1 k)) j * x4 (ix2 j k) := by
  have h : out0_9 (F := Ideal) x0 x1 x2 x3 x4 x5 x6 x7 (ix3 0 s k) = ∑ j, k0_pay26 x0 x1 x2 x3 x4 x5 x6 x7 (ix2 s j) * x4 (ix2 j k) := by
    unfold out0_9
    rw [pay16_eq]
    exact View.canon_eq_of_allAt _ _ _ (cover0_9 _ _ _)
      (View.allAt_cons_unit _ _ _ _ _ (stepPiece_at (k0_pay26 x0 x1 x2 x3 x4 x5 x6 x7) x4 256 (by decide) s k)
      (View.allAt_cons_unit _ _ _ _ _ (stepPiece_at (k0_pay26 x0 x1 x2 x3 x4 x5 x6 x7) x4 0 (by decide) s k)
      (View.allAt_nil (Val := Elt Ideal) (e := .f32) _ _)))
  rw [h]
  simp only [normed_at]

/-- The block of recurrent inputs. -/
theorem recurBlock_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 1024) :
    out0_10 (F := Ideal) x0 x1 x2 x3 x4 x5 x6 x7 (ix3 0 s k) = ∑ j, rms (fun k => x0 (ix3 0 s k)) (fun k => x1 (ix2 0 k)) (fun k => x2 (ix3 0 0 k))
      (fun k => x2 (ix3 0 1 k)) j * x5 (ix2 j k) := by
  have h : out0_10 (F := Ideal) x0 x1 x2 x3 x4 x5 x6 x7 (ix3 0 s k) = ∑ j, k0_pay26 x0 x1 x2 x3 x4 x5 x6 x7 (ix2 s j) * x5 (ix2 j k) := by
    unfold out0_10
    rw [pay20_eq, pay19_eq, pay18_eq, pay17_eq]
    exact View.canon_eq_of_allAt _ _ _ (cover0_10 _ _ _ _ _)
      (View.allAt_cons_unit _ _ _ _ _ (piece_at (k0_pay26 x0 x1 x2 x3 x4 x5 x6 x7) x5 768 (by decide) s k)
      (View.allAt_cons_unit _ _ _ _ _ (piece_at (k0_pay26 x0 x1 x2 x3 x4 x5 x6 x7) x5 512 (by decide) s k)
      (View.allAt_cons_unit _ _ _ _ _ (piece_at (k0_pay26 x0 x1 x2 x3 x4 x5 x6 x7) x5 256 (by decide) s k)
      (View.allAt_cons_unit _ _ _ _ _ (piece_at (k0_pay26 x0 x1 x2 x3 x4 x5 x6 x7) x5 0 (by decide) s k)
      (View.allAt_nil (Val := Elt Ideal) (e := .bf16) _ _)))))
  rw [h]
  simp only [normed_at]

/-- The block of output gates. -/
theorem zBlock_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 1024) :
    out0_11 (F := Ideal) x0 x1 x2 x3 x4 x5 x6 x7 (ix3 0 s k) = ∑ j, rms (fun k => x0 (ix3 0 s k)) (fun k => x1 (ix2 0 k)) (fun k => x2 (ix3 0 0 k))
      (fun k => x2 (ix3 0 1 k)) j * x6 (ix2 j k) := by
  have h : out0_11 (F := Ideal) x0 x1 x2 x3 x4 x5 x6 x7 (ix3 0 s k) = ∑ j, k0_pay26 x0 x1 x2 x3 x4 x5 x6 x7 (ix2 s j) * x6 (ix2 j k) := by
    unfold out0_11
    rw [pay24_eq, pay23_eq, pay22_eq, pay21_eq]
    exact View.canon_eq_of_allAt _ _ _ (cover0_11 _ _ _ _ _)
      (View.allAt_cons_unit _ _ _ _ _ (piece_at (k0_pay26 x0 x1 x2 x3 x4 x5 x6 x7) x6 768 (by decide) s k)
      (View.allAt_cons_unit _ _ _ _ _ (piece_at (k0_pay26 x0 x1 x2 x3 x4 x5 x6 x7) x6 512 (by decide) s k)
      (View.allAt_cons_unit _ _ _ _ _ (piece_at (k0_pay26 x0 x1 x2 x3 x4 x5 x6 x7) x6 256 (by decide) s k)
      (View.allAt_cons_unit _ _ _ _ _ (piece_at (k0_pay26 x0 x1 x2 x3 x4 x5 x6 x7) x6 0 (by decide) s k)
      (View.allAt_nil (Val := Elt Ideal) (e := .bf16) _ _)))))
  rw [h]
  simp only [normed_at]

/-- The block of recurrent gates. -/
theorem gateBlock_at (x0 : Vec Ideal S1x512x1024 .f32) (x1 : Vec Ideal S1x1024 .f32) (x2 : Vec Ideal S1x2x1024 .f32) (x3 : Vec Ideal S1024x2048 .bf16)
    (x4 : Vec Ideal S1024x512 .bf16) (x5 x6 x7 : Vec Ideal S1024x1024 .bf16) (s : Fin 512) (k : Fin 1024) :
    out0_12 (F := Ideal) x0 x1 x2 x3 x4 x5 x6 x7 (ix3 0 s k) = ∑ j, rms (fun k => x0 (ix3 0 s k)) (fun k => x1 (ix2 0 k)) (fun k => x2 (ix3 0 0 k))
      (fun k => x2 (ix3 0 1 k)) j * x7 (ix2 j k) := by
  have h : out0_12 (F := Ideal) x0 x1 x2 x3 x4 x5 x6 x7 (ix3 0 s k) = ∑ j, k0_pay26 x0 x1 x2 x3 x4 x5 x6 x7 (ix2 s j) * x7 (ix2 j k) := by
    unfold out0_12
    rw [pay4_eq, pay3_eq, pay2_eq, pay1_eq]
    exact View.canon_eq_of_allAt _ _ _ (cover0_12 _ _ _ _ _)
      (View.allAt_cons_unit _ _ _ _ _ (piece_at (k0_pay26 x0 x1 x2 x3 x4 x5 x6 x7) x7 768 (by decide) s k)
      (View.allAt_cons_unit _ _ _ _ _ (piece_at (k0_pay26 x0 x1 x2 x3 x4 x5 x6 x7) x7 512 (by decide) s k)
      (View.allAt_cons_unit _ _ _ _ _ (piece_at (k0_pay26 x0 x1 x2 x3 x4 x5 x6 x7) x7 256 (by decide) s k)
      (View.allAt_cons_unit _ _ _ _ _ (piece_at (k0_pay26 x0 x1 x2 x3 x4 x5 x6 x7) x7 0 (by decide) s k)
      (View.allAt_nil (Val := Elt Ideal) (e := .bf16) _ _)))))
  rw [h]
  simp only [normed_at]

variable (m : (ℓ : Loc nD τ sig) → Buf (Elt Ideal) ℓ) (c : Dev nD)

/-- The batch entry of a grid point. -/
def batchOf (t : Fin cfg0.N) : Fin 16 := ⟨(grid0.coords t 0).val, (grid0.coords t 0).isLt⟩

/-- The tile of rows of a grid point. -/
def tileOf (t : Fin cfg0.N) : Fin 4 := ⟨(grid0.coords t 1).val, (grid0.coords t 1).isLt⟩

/-- The block of latents at a grid point. -/
theorem index0 : ∀ t : Fin cfg0.N, win0_0.index t = ![(grid0.coords t 0).val, (grid0.coords t 1).val, 0] := (by decide +kernel : ∀ t : Fin grid0.N, _)
/-- The block of gains at a grid point. -/
theorem index1 : ∀ t : Fin cfg0.N, win0_1.index t = ![0, 0] := (by decide +kernel : ∀ t : Fin grid0.N, _)
/-- The block of modulations at a grid point. -/
theorem index2 : ∀ t : Fin cfg0.N, win0_2.index t = ![(grid0.coords t 0).val, 0, 0] := (by decide +kernel : ∀ t : Fin grid0.N, _)
/-- The block of weights of the convolution inputs at a grid point. -/
theorem index3 : ∀ t : Fin cfg0.N, win0_3.index t = ![0, 0] := (by decide +kernel : ∀ t : Fin grid0.N, _)
/-- The block of weights of the time steps at a grid point. -/
theorem index4 : ∀ t : Fin cfg0.N, win0_4.index t = ![0, 0] := (by decide +kernel : ∀ t : Fin grid0.N, _)
/-- The block of weights of the recurrent inputs at a grid point. -/
theorem index5 : ∀ t : Fin cfg0.N, win0_5.index t = ![0, 0] := (by decide +kernel : ∀ t : Fin grid0.N, _)
/-- The block of weights of the output gates at a grid point. -/
theorem index6 : ∀ t : Fin cfg0.N, win0_6.index t = ![0, 0] := (by decide +kernel : ∀ t : Fin grid0.N, _)
/-- The block of weights of the recurrent gates at a grid point. -/
theorem index7 : ∀ t : Fin cfg0.N, win0_7.index t = ![0, 0] := (by decide +kernel : ∀ t : Fin grid0.N, _)
/-- The block of convolution inputs at a grid point. -/
theorem index8 : ∀ t : Fin cfg0.N, win0_8.index t = ![(grid0.coords t 0).val, (grid0.coords t 1).val, 0] := (by decide +kernel : ∀ t : Fin grid0.N, _)
/-- The block of time steps at a grid point. -/
theorem index9 : ∀ t : Fin cfg0.N, win0_9.index t = ![(grid0.coords t 0).val, (grid0.coords t 1).val, 0] := (by decide +kernel : ∀ t : Fin grid0.N, _)
/-- The block of recurrent inputs at a grid point. -/
theorem index10 : ∀ t : Fin cfg0.N, win0_10.index t = ![(grid0.coords t 0).val, (grid0.coords t 1).val, 0] := (by decide +kernel : ∀ t : Fin grid0.N, _)
/-- The block of output gates at a grid point. -/
theorem index11 : ∀ t : Fin cfg0.N, win0_11.index t = ![(grid0.coords t 0).val, (grid0.coords t 1).val, 0] := (by decide +kernel : ∀ t : Fin grid0.N, _)
/-- The block of recurrent gates at a grid point. -/
theorem index12 : ∀ t : Fin cfg0.N, win0_12.index t = ![(grid0.coords t 0).val, (grid0.coords t 1).val, 0] := (by decide +kernel : ∀ t : Fin grid0.N, _)

/-- The latents as a grid point reads them. -/
theorem blk0_at (t : Fin cfg0.N) (s : Fin 512) (k : Fin 1024) :
    iblk m c 0 t (ix3 0 s k : S1x512x1024.Idx) = m ((c : Thread nD τ).loc main_arg0) (ix3 (batchOf t) (rowIn (tileOf t) s) k : S16x2048x1024.Idx) := by
  refine (congrFun (V_main_arg0 m c) _).trans (congrArg (m ((c : Thread nD τ).loc main_arg0)) ?_)
  blk_ext [index0] <;> rfl

/-- The gains as a grid point reads them. -/
theorem blk1_at (t : Fin cfg0.N) (k : Fin 1024) :
    iblk m c 1 t (ix2 0 k : S1x1024.Idx) = m ((c : Thread nD τ).loc main_arg1) (ix2 0 k : S1x1024.Idx) := by
  refine (congrFun (V_main_arg1 m c) _).trans (congrArg (m ((c : Thread nD τ).loc main_arg1)) ?_)
  blk_ext [index1]

/-- The modulations as a grid point reads them. -/
theorem blk2_at (t : Fin cfg0.N) (s : Fin 2) (k : Fin 1024) :
    iblk m c 2 t (ix3 0 s k : S1x2x1024.Idx) = m ((c : Thread nD τ).loc main_arg2) (ix3 (batchOf t) s k : S16x2x1024.Idx) := by
  refine (congrFun (V_main_arg2 m c) _).trans (congrArg (m ((c : Thread nD τ).loc main_arg2)) ?_)
  blk_ext [index2]
  rfl

/-- The projection's weights, by row and column. -/
abbrev weight (j : Fin 1024) (k : Fin 5152) : EReal := m ((c : Thread nD τ).loc main_arg3) (ix2 j k : S1024x5152.Idx)

/-- Weights of the convolution inputs as a grid point reads them: columns of the projection's. -/
theorem blk3_at (t : Fin cfg0.N) (j : Fin 1024) (k : Fin 2048) : iblk m c 3 t (ix2 j k : S1024x2048.Idx) = weight m c j ⟨k.val, by omega⟩ := by
  have he : (win0_3.blk t).view.emb (ix2 j k : S1024x2048.Idx) = (ix2 j k : S1024x2048.Idx) := by blk_ext [index3]
  refine (congrArg (Gen.V m c main_v6) he).trans ?_
  unfold Gen.V
  after_reads_at

/-- Weights of the time steps as a grid point reads them: the projection's columns by group, padded with zeros. -/
theorem blk4_at (t : Fin cfg0.N) (j : Fin 1024) (k : Fin 512) : iblk m c 4 t (ix2 j k : S1024x512.Idx) = stepWeight (weight m c) j k := by
  have he : (win0_4.blk t).view.emb (ix2 j k : S1024x512.Idx) = (ix2 j k : S1024x512.Idx) := by blk_ext [index4]
  refine (congrArg (Gen.V m c main_v8) he).trans ?_
  unfold Gen.V
  after_reads_at
  exact stepWeight_eq (weight m c) j k _ sitofp_zero

/-- Weights of the recurrent inputs as a grid point reads them: columns of the projection's. -/
theorem blk5_at (t : Fin cfg0.N) (j : Fin 1024) (k : Fin 1024) : iblk m c 5 t (ix2 j k : S1024x1024.Idx) = weight m c j ⟨2080 + k.val, by omega⟩ := by
  have he : (win0_5.blk t).view.emb (ix2 j k : S1024x1024.Idx) = (ix2 j k : S1024x1024.Idx) := by blk_ext [index5]
  refine (congrArg (Gen.V m c main_v10) he).trans ?_
  unfold Gen.V
  after_reads_at

/-- Weights of the output gates as a grid point reads them: columns of the projection's. -/
theorem blk6_at (t : Fin cfg0.N) (j : Fin 1024) (k : Fin 1024) : iblk m c 6 t (ix2 j k : S1024x1024.Idx) = weight m c j ⟨3104 + k.val, by omega⟩ := by
  have he : (win0_6.blk t).view.emb (ix2 j k : S1024x1024.Idx) = (ix2 j k : S1024x1024.Idx) := by blk_ext [index6]
  refine (congrArg (Gen.V m c main_v12) he).trans ?_
  unfold Gen.V
  after_reads_at

/-- Weights of the recurrent gates as a grid point reads them: columns of the projection's. -/
theorem blk7_at (t : Fin cfg0.N) (j : Fin 1024) (k : Fin 1024) : iblk m c 7 t (ix2 j k : S1024x1024.Idx) = weight m c j ⟨4128 + k.val, by omega⟩ := by
  have he : (win0_7.blk t).view.emb (ix2 j k : S1024x1024.Idx) = (ix2 j k : S1024x1024.Idx) := by blk_ext [index7]
  refine (congrArg (Gen.V m c main_v14) he).trans ?_
  unfold Gen.V
  after_reads_at

/-- An index of a block of rows. -/
theorem block_index {N : ℕ} (y : (⟨3, ![1, 512, N]⟩ : Shape).Idx) : y = ix3 0 (y 1) (y 2) := funext fun a => match a with
  | ⟨0, _⟩ => Fin.ext (by have h : (y 0).val < 1 := (y 0).isLt; show (y 0).val = 0; omega)
  | ⟨1, _⟩ => rfl
  | ⟨2, _⟩ => rfl

/-- The normalized and modulated row `s` of batch entry `b`, of the arguments at launch. -/
abbrev normedOf (b : Fin 16) (s : Fin 2048) : Fin 1024 → EReal :=
  rms (fun k => m ((c : Thread nD τ).loc main_arg0) (ix3 b s k : S16x2048x1024.Idx)) (fun k => m ((c : Thread nD τ).loc main_arg1) (ix2 0 k : S1x1024.Idx))
    (fun k => m ((c : Thread nD τ).loc main_arg2) (ix3 b 0 k : S16x2x1024.Idx)) (fun k => m ((c : Thread nD τ).loc main_arg2) (ix3 b 1 k : S16x2x1024.Idx))

/-- The convolution inputs after the run. -/
theorem conv_array : (dats m 0 c).arrAt 8 cfg0.N = fun i : S16x2048x2048.Idx => ∑ j, normedOf m c (i 0) (i 1) j * weight m c j ((i 2).castLE (by decide)) := by
  refine (dats m 0 c).arrAt_eq_of_covers 8 _ (by decide +kernel) fun t hf y => ?_
  blk_simp
  rw [after0_8]
  obtain ⟨s, k, rfl⟩ : ∃ (s : Fin 512) (k : Fin 2048), y = (ix3 0 s k : S1x512x2048.Idx) := ⟨_, _, block_index y⟩
  have he : (win0_8.blk t).view.emb (ix3 0 s k : S1x512x2048.Idx) = (ix3 (batchOf t) (rowIn (tileOf t) s) k : S16x2048x2048.Idx) := by
    blk_ext [index8] <;> rfl
  rw [he]
  refine (convBlock_at _ _ _ _ _ _ _ _ s k).trans ?_
  simp only [blk0_at, blk1_at, blk2_at, blk3_at]
  rfl

/-- The time steps after the run. -/
theorem step_array : (dats m 0 c).arrAt 9 cfg0.N = fun i : S16x2048x512.Idx => ∑ j, normedOf m c (i 0) (i 1) j * stepWeight (weight m c) j (i 2) := by
  refine (dats m 0 c).arrAt_eq_of_covers 9 _ (by decide +kernel) fun t hf y => ?_
  blk_simp
  rw [after0_9]
  obtain ⟨s, k, rfl⟩ : ∃ (s : Fin 512) (k : Fin 512), y = (ix3 0 s k : S1x512x512.Idx) := ⟨_, _, block_index y⟩
  have he : (win0_9.blk t).view.emb (ix3 0 s k : S1x512x512.Idx) = (ix3 (batchOf t) (rowIn (tileOf t) s) k : S16x2048x512.Idx) := by
    blk_ext [index9] <;> rfl
  rw [he]
  refine (stepBlock_at _ _ _ _ _ _ _ _ s k).trans ?_
  simp only [blk0_at, blk1_at, blk2_at, blk4_at]
  rfl

/-- The recurrent inputs after the run. -/
theorem recur_array : (dats m 0 c).arrAt 10 cfg0.N = fun i : S16x2048x1024.Idx => ∑ j, normedOf m c (i 0) (i 1) j * weight m c j (colFrom 2080 (by decide) (i 2)) := by
  refine (dats m 0 c).arrAt_eq_of_covers 10 _ (by decide +kernel) fun t hf y => ?_
  blk_simp
  rw [after0_10]
  obtain ⟨s, k, rfl⟩ : ∃ (s : Fin 512) (k : Fin 1024), y = (ix3 0 s k : S1x512x1024.Idx) := ⟨_, _, block_index y⟩
  have he : (win0_10.blk t).view.emb (ix3 0 s k : S1x512x1024.Idx) = (ix3 (batchOf t) (rowIn (tileOf t) s) k : S16x2048x1024.Idx) := by
    blk_ext [index10] <;> rfl
  rw [he]
  refine (recurBlock_at _ _ _ _ _ _ _ _ s k).trans ?_
  simp only [blk0_at, blk1_at, blk2_at, blk5_at]
  rfl

/-- The output gates after the run. -/
theorem z_array : (dats m 0 c).arrAt 11 cfg0.N = fun i : S16x2048x1024.Idx => ∑ j, normedOf m c (i 0) (i 1) j * weight m c j (colFrom 3104 (by decide) (i 2)) := by
  refine (dats m 0 c).arrAt_eq_of_covers 11 _ (by decide +kernel) fun t hf y => ?_
  blk_simp
  rw [after0_11]
  obtain ⟨s, k, rfl⟩ : ∃ (s : Fin 512) (k : Fin 1024), y = (ix3 0 s k : S1x512x1024.Idx) := ⟨_, _, block_index y⟩
  have he : (win0_11.blk t).view.emb (ix3 0 s k : S1x512x1024.Idx) = (ix3 (batchOf t) (rowIn (tileOf t) s) k : S16x2048x1024.Idx) := by
    blk_ext [index11] <;> rfl
  rw [he]
  refine (zBlock_at _ _ _ _ _ _ _ _ s k).trans ?_
  simp only [blk0_at, blk1_at, blk2_at, blk6_at]
  rfl

/-- The recurrent gates after the run. -/
theorem gate_array : (dats m 0 c).arrAt 12 cfg0.N = fun i : S16x2048x1024.Idx => ∑ j, normedOf m c (i 0) (i 1) j * weight m c j (colFrom 4128 (by decide) (i 2)) := by
  refine (dats m 0 c).arrAt_eq_of_covers 12 _ (by decide +kernel) fun t hf y => ?_
  blk_simp
  rw [after0_12]
  obtain ⟨s, k, rfl⟩ : ∃ (s : Fin 512) (k : Fin 1024), y = (ix3 0 s k : S1x512x1024.Idx) := ⟨_, _, block_index y⟩
  have he : (win0_12.blk t).view.emb (ix3 0 s k : S1x512x1024.Idx) = (ix3 (batchOf t) (rowIn (tileOf t) s) k : S16x2048x1024.Idx) := by
    blk_ext [index12] <;> rfl
  rw [he]
  refine (gateBlock_at _ _ _ _ _ _ _ _ s k).trans ?_
  simp only [blk0_at, blk1_at, blk2_at, blk7_at]
  rfl

end Cert.Kernel2Ideal.LIN

namespace Cert.Reference2Ideal.LIN

open Cert.LIN Cert.Reference2Ideal Cert.Reference2Ideal.Read Cert.Kernel2Ideal.LIN Idealize.ShloMosaic

variable (x0 : Vec Ideal S16x2048x1024 .f32) (x1 : Vec Ideal S1x1024 .f32) (x2 : Vec Ideal S16x2x1024 .f32) (x3 : Vec Ideal S1024x5152 .f32)
  (b : Fin 16) (s : Fin 2048)

/-- The reference's normalized and modulated row. -/
abbrev normedRow : Fin 1024 → EReal :=
  rms (fun k => x0 (ix3 b s k)) (fun k => x1 (ix2 0 k)) (fun k => x2 (ix3 b 0 k)) (fun k => x2 (ix3 b 1 k))

/-- The reference's projection. -/
theorem proj_at (k : Fin 5152) : val_main_v22 (F := Ideal) x0 x1 x2 x3 (ix3 b s k) = ∑ j, normedRow x0 x1 x2 b s j * x3 (ix2 j k) := by
  pointwise [val_main_v0, val_main_v1, val_main_v2, val_main_v3, val_main_v4, val_main_v5, val_main_v6, val_main_v7, val_main_v8, val_main_v9, val_main_v10, val_main_v11,
    val_main_v12, val_main_v13, val_main_v14, val_main_v15, val_main_v16, val_main_v17, val_main_v18, val_main_v19, val_main_v20, val_main_v21, val_main_v22, val_main_cst, val_main_cst_0, val_main_cst_1, val_main_cst_2]
  rfl

/-- The reference's convolution inputs. -/
theorem conv_at (k : Fin 2048) : val_main_v33 (F := Ideal) x0 x1 x2 x3 (ix3 b s k)
    = ∑ j, normedRow x0 x1 x2 b s j * x3 (ix2 j (k.castLE (by decide))) := by
  pointwise [val_main_v33, val_main_v23]
  exact proj_at _ _ _ _ _ _ _

/-- The reference's time steps. -/
theorem step_at (k : Fin 512) : val_main_v34 (F := Ideal) x0 x1 x2 x3 (ix3 b s k)
    = ∑ j, normedRow x0 x1 x2 b s j * stepWeight (fun j k => x3 (ix2 j k)) j k := by
  rw [step_sum]
  pointwise [val_main_v34, val_main_v29, val_main_v28, val_main_cst_3, val_main_v27, val_main_v26, val_main_v25, val_main_v24]
  simp only [proj_at]
  rfl

/-- The reference's recurrent inputs. -/
theorem recur_at (k : Fin 1024) : val_main_v35 (F := Ideal) x0 x1 x2 x3 (ix3 b s k)
    = ∑ j, normedRow x0 x1 x2 b s j * x3 (ix2 j (colFrom 2080 (by decide) k)) := by
  pointwise [val_main_v35, val_main_v30]
  exact proj_at _ _ _ _ _ _ _

/-- The reference's output gates. -/
theorem z_at (k : Fin 1024) : val_main_v36 (F := Ideal) x0 x1 x2 x3 (ix3 b s k)
    = ∑ j, normedRow x0 x1 x2 b s j * x3 (ix2 j (colFrom 3104 (by decide) k)) := by
  pointwise [val_main_v36, val_main_v31]
  exact proj_at _ _ _ _ _ _ _

/-- The reference's recurrent gates. -/
theorem gate_at (k : Fin 1024) : val_main_v37 (F := Ideal) x0 x1 x2 x3 (ix3 b s k)
    = ∑ j, normedRow x0 x1 x2 b s j * x3 (ix2 j (colFrom 4128 (by decide) k)) := by
  pointwise [val_main_v37, val_main_v32]
  exact proj_at _ _ _ _ _ _ _

end Cert.Reference2Ideal.LIN

namespace Cert.Proof.LIN

open Idealize.ShloMosaic Idealize.ShloMosaic.StableHlo Idealize.SL.Sem Cert.Kernel2Ideal

/-- The in-projection reference's frame: its run keeps the arguments, and it declares no semaphore. -/
theorem frame_reference2 : Cert.quiescent_Reference2Ideal := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m ρ)

/-- An argument array of the in-projection's kernel on a device. -/
abbrev arg2 (m : (ℓ : Loc nD τ sig) → Buf (Elt Ideal) ℓ) (c : Dev nD) (b : Ref sig .tc) := m ((c.tc : Thread nD τ).loc b)

/-- The even in-projection's kernel and its reference end equal. -/
theorem algebraic2 : Cert.algebraic_Kernel2Ideal_Reference2Ideal := by
  intro m g m' g' _ ha
  refine ⟨fun c => Cert.Reference2Ideal.Read.val_main_v33 (F := Ideal) (arg2 m c main_arg0) (arg2 m c main_arg1) (arg2 m c main_arg2) (arg2 m c main_arg3),
    fun c => Cert.Reference2Ideal.Read.val_main_v34 (F := Ideal) (arg2 m c main_arg0) (arg2 m c main_arg1) (arg2 m c main_arg2) (arg2 m c main_arg3),
    fun c => Cert.Reference2Ideal.Read.val_main_v35 (F := Ideal) (arg2 m c main_arg0) (arg2 m c main_arg1) (arg2 m c main_arg2) (arg2 m c main_arg3),
    fun c => Cert.Reference2Ideal.Read.val_main_v36 (F := Ideal) (arg2 m c main_arg0) (arg2 m c main_arg1) (arg2 m c main_arg2) (arg2 m c main_arg3),
    fun c => Cert.Reference2Ideal.Read.val_main_v37 (F := Ideal) (arg2 m c main_arg0) (arg2 m c main_arg1) (arg2 m c main_arg2) (arg2 m c main_arg3), ?_, ?_⟩
  · refine (θ_run Cert.Kernel2Ideal.defs _ _).mono (fun r h c =>
      ⟨(h c).1.trans ?_, (h c).2.1.trans ?_, (h c).2.2.1.trans ?_, (h c).2.2.2.1.trans ?_, (h c).2.2.2.2.1.trans ?_, (h c).2.2.2.2.2⟩)
      (Cert.Kernel2Ideal.Value.run_blocks (F := Ideal) m g)
    · exact (Cert.Kernel2Ideal.LIN.conv_array m c).trans (funext fun i =>
        ((congrArg _ (eq_ix3 i)).trans (Cert.Reference2Ideal.LIN.conv_at _ _ _ _ _ _ _)).symm)
    · exact (Cert.Kernel2Ideal.LIN.step_array m c).trans (funext fun i =>
        ((congrArg _ (eq_ix3 i)).trans (Cert.Reference2Ideal.LIN.step_at _ _ _ _ _ _ _)).symm)
    · exact (Cert.Kernel2Ideal.LIN.recur_array m c).trans (funext fun i =>
        ((congrArg _ (eq_ix3 i)).trans (Cert.Reference2Ideal.LIN.recur_at _ _ _ _ _ _ _)).symm)
    · exact (Cert.Kernel2Ideal.LIN.z_array m c).trans (funext fun i =>
        ((congrArg _ (eq_ix3 i)).trans (Cert.Reference2Ideal.LIN.z_at _ _ _ _ _ _ _)).symm)
    · exact (Cert.Kernel2Ideal.LIN.gate_array m c).trans (funext fun i =>
        ((congrArg _ (eq_ix3 i)).trans (Cert.Reference2Ideal.LIN.gate_at _ _ _ _ _ _ _)).symm)
  · refine (θ_run Cert.Reference2Ideal.defs _ _).mono (fun r h c =>
      ⟨(h c).1.trans ?_, (h c).2.1.trans ?_, (h c).2.2.1.trans ?_, (h c).2.2.2.1.trans ?_, (h c).2.2.2.2.1.trans ?_, (h c).2.2.2.2.2⟩)
      (Cert.Reference2Ideal.Value.run (F := Ideal) m' g') <;> obtain ⟨e0, e1, e2, e3⟩ := ha c
    · refine (Cert.Reference2Ideal.Read.val_main_v33_eq (F := Ideal) _ _ _ _).trans ?_
      exact congr (congr (congr (congrArg (Cert.Reference2Ideal.Read.val_main_v33 (F := Ideal)) e0) e1) e2) e3
    · refine (Cert.Reference2Ideal.Read.val_main_v34_eq (F := Ideal) _ _ _ _).trans ?_
      exact congr (congr (congr (congrArg (Cert.Reference2Ideal.Read.val_main_v34 (F := Ideal)) e0) e1) e2) e3
    · refine (Cert.Reference2Ideal.Read.val_main_v35_eq (F := Ideal) _ _ _ _).trans ?_
      exact congr (congr (congr (congrArg (Cert.Reference2Ideal.Read.val_main_v35 (F := Ideal)) e0) e1) e2) e3
    · refine (Cert.Reference2Ideal.Read.val_main_v36_eq (F := Ideal) _ _ _ _).trans ?_
      exact congr (congr (congr (congrArg (Cert.Reference2Ideal.Read.val_main_v36 (F := Ideal)) e0) e1) e2) e3
    · refine (Cert.Reference2Ideal.Read.val_main_v37_eq (F := Ideal) _ _ _ _).trans ?_
      exact congr (congr (congr (congrArg (Cert.Reference2Ideal.Read.val_main_v37 (F := Ideal)) e0) e1) e2) e3

end Cert.Proof.LIN
-- ==== Proof.LIN.Odd3.lean ====
/- The odd layers' queries, keys and values: what the kernel's three result arrays hold after the run, what its
   reference's hold, and that the two are equal. -/
module

public import proofs.«01_k».proof.Defs
public import proofs.«01_k».proof.Proof.Gen.Kernel3Ideal.Value
public import proofs.«01_k».proof.Proof.Gen.Reference3Ideal.Read
public import proofs.«01_k».proof.Proof.LIN.Spec

@[expose] public section

set_option maxRecDepth 16384
noncomputable section

namespace Cert.Kernel3Ideal.LIN

open Idealize.ShloMosaic Idealize.ShloMosaic.TcCoe Idealize.SL.Sem Idealize.ShloMosaic.Tactic
open Cert.LIN Cert.Kernel3Ideal Cert.Kernel3Ideal.Gen
open Idealize.ShloMosaic.Pipeline (Dat)

/-- Column `d` of the head of 64 columns that column `k` belongs to. -/
def headCol {n : ℕ} (k : Fin (n * 64)) (d : Fin 64) : Fin (n * 64) := ⟨k.val / 64 * 64 + d.val, by omega⟩

/-- A row of projections, each head divided by the root of its mean square, times the gain. -/
def headNorm (y : Fin 1024 → EReal) (g : Fin 64 → EReal) (k : Fin 1024) : EReal :=
  y k * Ideal.rsqrt (Ideal.div (∑ d, y (headCol (n := 16) k d) * y (headCol (n := 16) k d)) (Ideal.ofBits FTy.f32 1115684864#32) + Ideal.ofBits FTy.f32 897988541#32)
    * g ⟨k.val % 64, by omega⟩

/-- A sum against the indicator of one head is the sum over the head. -/
theorem head_sum (f : Fin 256 → EReal) (k : Fin 256) :
    ∑ i, f i * (if i.val / 64 = k.val / 64 then 1 else 0) = ∑ d, f (headCol (n := 4) k d) := by
  have h : ∀ i : Fin 256, f i * (if i.val / 64 = k.val / 64 then 1 else 0) = if i.val / 64 = k.val / 64 then f i else 0 := fun i => by split <;> simp
  simp only [h]
  rw [← (finProdFinEquiv (m := 4) (n := 64)).sum_comp, Fintype.sum_prod_type, Finset.sum_eq_single (⟨k.val / 64, by omega⟩ : Fin 4)]
  · refine Finset.sum_congr rfl fun d _ => ?_
    have hd : ((finProdFinEquiv ((⟨k.val / 64, by omega⟩ : Fin 4), d)).val) = d.val + 64 * (k.val / 64) := rfl
    rw [if_pos (by rw [hd]; omega)]
    exact congrArg f (Fin.ext (by rw [hd]; show _ = k.val / 64 * 64 + d.val; omega))
  · intro a _ ha
    refine Finset.sum_eq_zero fun d _ => if_neg ?_
    have hd : ((finProdFinEquiv (a, d)).val) = d.val + 64 * a.val := rfl
    have hne : a.val ≠ k.val / 64 := fun e => ha (Fin.ext e)
    rw [hd]; omega
  · exact fun hh => absurd (Finset.mem_univ _) hh

/-- The product with a sixty-fourth is the quotient by sixty-four. -/
theorem div64 (x : EReal) : x * Ideal.ofBits FTy.f32 1015021568#32 = Ideal.div x (Ideal.ofBits FTy.f32 1115684864#32) := by
  have h1 : Ideal.ofBits FTy.f32 1015021568#32 = ((64 : ℝ)⁻¹ : ℝ) := by
    simp [Ideal.ofBits, Ideal.ieee, -EReal.coe_mul]; norm_num
  have h2 : Ideal.ofBits FTy.f32 1115684864#32 = ((64 : ℝ) : EReal) := by
    simp [Ideal.ofBits, Ideal.ieee, -EReal.coe_mul]; norm_num
  rw [h1, h2, EReal.coe_inv]
  unfold Ideal.div
  rw [if_neg (by exact_mod_cast (by norm_num : (64 : ℝ) ≠ 0))]

/-- The number of a column's head, as the kernel computes it: the quotient by 64 rounded down. -/
abbrev headWord (k : Fin 256) : BitVec 32 :=
  Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 k.val) 64#32) 0#32))
    (IntOp.subi (IntOp.divsi ArithUnit.vector (BitVec.ofNat 32 k.val) 64#32) 1#32)
    (IntOp.divsi ArithUnit.vector (BitVec.ofNat 32 k.val) 64#32)

/-- That quotient's value. -/
theorem headWord_eq : ∀ k : Fin 256, headWord k = BitVec.ofNat 32 (k.val / 64) := by decide +kernel

/-- The indicator of two columns of the same head. -/
theorem indicator_eq (i k : Fin 256) :
    (FloatOps.sitofp FTy.f32 (BitVec.setWidth 32 (IntOp.cmpi CmpIPredicate.eq (headWord i) (headWord k))) : Ideal .f32)
      = (if i.val / 64 = k.val / 64 then 1 else 0 : EReal) := by
  rw [headWord_eq, headWord_eq]
  have hc : IntOp.cmpi CmpIPredicate.eq (BitVec.ofNat 32 (i.val / 64)) (BitVec.ofNat 32 (k.val / 64)) = if i.val / 64 = k.val / 64 then 1#1 else 0#1 := by
    revert i k; decide +kernel
  rw [hc]
  split
  · show ((((BitVec.setWidth 32 1#1 : BitVec 32).toInt : ℤ) : ℝ) : EReal) = 1
    simp
  · show ((((BitVec.setWidth 32 0#1 : BitVec 32).toInt : ℤ) : ℝ) : EReal) = 0
    simp

/-- A store's payload of one of the two head-normed results, in the form the others are brought to. -/
abbrev headPay (v : Vec Ideal S512x1024 .bf16) (w : Vec Ideal S1024x256 .bf16) (g : Vec Ideal S1x256 .f32) : Vec Ideal S1x512x256 .bf16 :=
  k0_pay15 (k0_pay12 v w) (k0_pay13 v w) k0_pay14 g

/-- That payload's elements. -/
theorem headPay_at (v : Vec Ideal S512x1024 .bf16) (w : Vec Ideal S1024x256 .bf16) (g : Vec Ideal S1x256 .f32) (s : Fin 512) (k : Fin 256) :
    headPay v w g (ix3 0 s k) = (∑ j, v (ix2 s j) * w (ix2 j k))
      * Ideal.rsqrt (Ideal.div (∑ d, (∑ j, v (ix2 s j) * w (ix2 j (headCol (n := 4) k d))) * ∑ j, v (ix2 s j) * w (ix2 j (headCol (n := 4) k d)))
          (Ideal.ofBits FTy.f32 1115684864#32) + Ideal.ofBits FTy.f32 897988541#32) * g (ix2 0 k) := by
  rw [← div64, ← head_sum fun i => (∑ j, v (ix2 s j) * w (ix2 j i)) * ∑ j, v (ix2 s j) * w (ix2 j i)]
  simp only [← indicator_eq]
  pointwise [k0_pay15, k0_pay12, k0_pay13, k0_pay14]

/-- The normalized and modulated rows. -/
theorem normed_at (x0 : Vec Ideal S1x512x1024 .f32) (x1 : Vec Ideal S1x1024 .f32) (x2 : Vec Ideal S1x2x1024 .f32) (x3 x4 x5 : Vec Ideal S1024x1024 .bf16)
    (x6 x7 : Vec Ideal S1x1024 .f32) (s : Fin 512) (k : Fin 1024) :
    k0_pay55 (F := Ideal) x0 x1 x2 x3 x4 x5 x6 x7 (ix2 s k)
      = rms (fun k => x0 (ix3 0 s k)) (fun k => x1 (ix2 0 k)) (fun k => x2 (ix3 0 0 k)) (fun k => x2 (ix3 0 1 k)) k := by
  unfold k0_pay55
  rw [View.ld_unit_zero (S := S1x512x1024) (by decide), View.ld_unit_zero (S := S1x1024) (by decide)]
  pointwise [k0_pay4]
  rfl

/-- A column of a store's payload, rounded to the half format, at its place in the whole block. -/
theorem piece_at {N : ℕ} (v : Vec Ideal S512x1024 .bf16) (w : Vec Ideal ⟨2, ![1024, N]⟩ .bf16) (off : ℕ)
    (inb : ∀ a, (![0, off] : Fin 2 → ℕ) a + S1024x256.size a ≤ (⟨2, ![1024, N]⟩ : Shape).size a) (s : Fin 512) (k : Fin N) :
    View.TileAt (Val := Elt Ideal) (S := ⟨3, ![1, 512, N]⟩) (e := .bf16) (ix3 0 s k) ![0, 0, off] ![1, 512, 256]
      (k0_pay54 v (View.ld w (Rect.unit (s := ⟨2, ![1024, N]⟩) ![0, off] S1024x256.size inb))) (∑ j, v (ix2 s j) * w (ix2 j k)) := by
  intro x hx
  have h0 : 0 = 0 + (x 0).val := hx 0
  have h1 : s.val = 0 + (x 1).val := hx 1
  have h2 : k.val = off + (x 2).val := hx 2
  have hl : (x 2).val < 256 := (x 2).isLt
  have hxe : x = (ix3 0 s ⟨(x 2).val, hl⟩ : S1x512x256.Idx) := funext fun a => Fin.ext <| match a with
    | ⟨0, _⟩ => by show (x 0).val = 0; omega
    | ⟨1, _⟩ => by show (x 1).val = s.val; omega
    | ⟨2, _⟩ => rfl
  rw [hxe]
  pointwise [k0_pay54]
  refine Finset.sum_congr rfl fun j _ => congrArg (v (ix2 s j) * ·) (congrArg w ?_)
  refine funext fun a => Fin.ext <| match a with
    | ⟨0, _⟩ => by show 0 + j.val = j.val; omega
    | ⟨1, _⟩ => by show off + (x 2).val = k.val; omega

section
variable (v : Vec Ideal S512x1024 .bf16) (w : Vec Ideal S1024x256 .bf16) (g : Vec Ideal S1x256 .f32)

/-- A store's payload in that form. -/
theorem pay27_eq : k0_pay27 (k0_pay22 v w) (k0_pay26 (k0_pay23 v w) (iota .tc S256x256 32 [0] iota_S256x256_d0_w32) 64#32 k0_pay24 k0_pay25 (Scalar.extui (Scalar.cmpi .sgt 64#32 0#32))) g = headPay v w g := by
  unfold k0_pay27 k0_pay22 k0_pay26 k0_pay23 k0_pay24 k0_pay25 headPay k0_pay15 k0_pay13 k0_pay12 k0_pay14; rfl

/-- A store's payload in that form. -/
theorem pay21_eq : k0_pay21 (k0_pay16 v w) (k0_pay17 v w) k0_pay18 (iota .tc S256x256 32 [1] iota_S256x256_d1_w32) 64#32 k0_pay19 k0_pay20 g = headPay v w g := by
  unfold k0_pay21 k0_pay17 k0_pay16 k0_pay18 k0_pay19 k0_pay20 headPay k0_pay15 k0_pay13 k0_pay12 k0_pay14; rfl

/-- A store's payload in that form. -/
theorem pay53_eq : k0_pay53 (k0_pay47 v w) (k0_pay48 v w) k0_pay49 (iota .tc S256x256 32 [1] iota_S256x256_d1_w32) 64#32 k0_pay50 k0_pay51 k0_pay52 g = headPay v w g := by
  unfold k0_pay53 k0_pay48 k0_pay47 k0_pay49 k0_pay50 k0_pay51 k0_pay52 headPay k0_pay15 k0_pay13 k0_pay12 k0_pay14; rfl

/-- A store's payload in that form. -/
theorem pay46_eq : k0_pay46 (k0_pay44 (k0_pay40 v w) (k0_pay41 v w) (iota .tc S256x256 32 [0] iota_S256x256_d0_w32) 64#32 k0_pay42 k0_pay43) (k0_pay45 g) = headPay v w g := by
  unfold k0_pay46 k0_pay44 k0_pay41 k0_pay40 k0_pay42 k0_pay43 k0_pay45 headPay k0_pay15 k0_pay13 k0_pay12 k0_pay14; rfl

/-- A store's payload in that form. -/
theorem pay39_eq : k0_pay39 (k0_pay34 v w) (k0_pay35 v w) k0_pay36 k0_pay37 k0_pay38 g = headPay v w g := by
  unfold k0_pay39 k0_pay35 k0_pay34 k0_pay36 k0_pay37 k0_pay38 headPay k0_pay15 k0_pay13 k0_pay12 k0_pay14; rfl

/-- A store's payload in that form. -/
theorem pay33_eq : k0_pay33 (k0_pay28 v w) (k0_pay29 v w) k0_pay30 (iota .tc S256x256 32 [1] iota_S256x256_d1_w32) 64#32 k0_pay31 k0_pay32 g = headPay v w g := by
  unfold k0_pay33 k0_pay29 k0_pay28 k0_pay30 k0_pay31 k0_pay32 headPay k0_pay15 k0_pay13 k0_pay12 k0_pay14; rfl

/-- The first store's payload, which takes the rows as they are loaded. -/
theorem pay11_eq (a : Vec Ideal S1x512x1024 .f32) (b : Vec Ideal S1x1024 .f32) (d e : Vec Ideal S1x1x1024 .f32) :
    k0_pay11 (k0_pay5 a b d e w) (k0_pay10 (k0_pay6 a b d e w) (iota .tc S256x256 32 [0] iota_S256x256_d0_w32) 64#32 k0_pay7 k0_pay8 k0_pay9)
      (Scalar.ofBits .f32 0x3C800000#32) g = headPay (k0_pay4 a b d e) w g := by
  unfold k0_pay11 k0_pay10 k0_pay6 k0_pay5 k0_pay7 k0_pay8 k0_pay9 headPay k0_pay15 k0_pay13 k0_pay12 k0_pay14; rfl

/-- A payload of the values. -/
theorem pay1_eq : k0_pay1 v w = k0_pay54 v w := by
  unfold k0_pay1 k0_pay54; rfl

/-- A payload of the values. -/
theorem pay2_eq : k0_pay2 v w = k0_pay54 v w := by
  unfold k0_pay2 k0_pay54; rfl

/-- A payload of the values. -/
theorem pay3_eq : k0_pay3 v w = k0_pay54 v w := by
  unfold k0_pay3 k0_pay54; rfl

end

/-- A column of a head-normed store's payload at its place in the whole block. -/
theorem headPiece_at (v : Vec Ideal S512x1024 .bf16) (w : Vec Ideal S1024x1024 .bf16) (g : Vec Ideal S1x1024 .f32) (off : ℕ) (hoff : off % 64 = 0)
    (inb : ∀ a, (![0, off] : Fin 2 → ℕ) a + S1024x256.size a ≤ S1024x1024.size a) (inb' : ∀ a, (![0, off] : Fin 2 → ℕ) a + S1x256.size a ≤ S1x1024.size a)
    (s : Fin 512) (k : Fin 1024) :
    View.TileAt (Val := Elt Ideal) (S := S1x512x1024) (e := .bf16) (ix3 0 s k) ![0, 0, off] ![1, 512, 256]
      (headPay v (View.ld w (Rect.unit (s := S1024x1024) ![0, off] S1024x256.size inb)) (View.ld g (Rect.unit (s := S1x1024) ![0, off] S1x256.size inb')))
      ((∑ j, v (ix2 s j) * w (ix2 j k))
        * Ideal.rsqrt (Ideal.div (∑ d, (∑ j, v (ix2 s j) * w (ix2 j (headCol (n := 16) k d))) * ∑ j, v (ix2 s j) * w (ix2 j (headCol (n := 16) k d)))
          (Ideal.ofBits FTy.f32 1115684864#32) + Ideal.ofBits FTy.f32 897988541#32) * g (ix2 0 k)) := by
  intro x hx
  have h0 : 0 = 0 + (x 0).val := hx 0
  have h1 : s.val = 0 + (x 1).val := hx 1
  have h2 : k.val = off + (x 2).val := hx 2
  have hl : (x 2).val < 256 := (x 2).isLt
  have hxe : x = (ix3 0 s ⟨(x 2).val, hl⟩ : S1x512x256.Idx) := funext fun a => Fin.ext <| match a with
    | ⟨0, _⟩ => by show (x 0).val = 0; omega
    | ⟨1, _⟩ => by show (x 1).val = s.val; omega
    | ⟨2, _⟩ => rfl
  have hw : ∀ (j : Fin 1024) (l : Fin 256) (l' : Fin 1024), l'.val = off + l.val →
      View.ld w (Rect.unit (s := S1024x1024) ![0, off] S1024x256.size inb) (ix2 j l) = w (ix2 j l') := fun j l l' e => congrArg w (funext fun a => Fin.ext <| match a with
    | ⟨0, _⟩ => by show 0 + 1 * j.val = j.val; omega
    | ⟨1, _⟩ => by show off + 1 * l.val = l'.val; omega)
  have hg : View.ld g (Rect.unit (s := S1x1024) ![0, off] S1x256.size inb') (ix2 0 ⟨(x 2).val, hl⟩) = g (ix2 0 k) := congrArg g (funext fun a => Fin.ext <| match a with
    | ⟨0, _⟩ => rfl
    | ⟨1, _⟩ => by show off + 1 * (x 2).val = k.val; omega)
  rw [hxe]
  refine (headPay_at _ _ _ _ _).trans ?_
  rw [hg]
  have e1 : ∀ j, View.ld w (Rect.unit (s := S1024x1024) ![0, off] S1024x256.size inb) (ix2 j ⟨(x 2).val, hl⟩) = w (ix2 j k) := fun j => hw j _ k h2
  have e2 : ∀ (d : Fin 64) j, View.ld w (Rect.unit (s := S1024x1024) ![0, off] S1024x256.size inb) (ix2 j (headCol (n := 4) ⟨(x 2).val, hl⟩ d))
      = w (ix2 j (headCol (n := 16) k d)) := fun d j => hw j _ _ (by
    show k.val / 64 * 64 + d.val = off + ((x 2).val / 64 * 64 + d.val)
    omega)
  simp only [e1, e2]

/-- The block of queries: the projection's columns, each divided by its head's root mean square, times the gain. -/
theorem queryBlock_at (x0 : Vec Ideal S1x512x1024 .f32) (x1 : Vec Ideal S1x1024 .f32) (x2 : Vec Ideal S1x2x1024 .f32) (x3 x4 x5 : Vec Ideal S1024x1024 .bf16)
    (x6 x7 : Vec Ideal S1x1024 .f32) (s : Fin 512) (k : Fin 1024) (g : Fin 64 → EReal)
    (hg : x6 (ix2 0 k) = g ⟨k.val % 64, by omega⟩) :
    out0_8 (F := Ideal) x0 x1 x2 x3 x4 x5 x6 x7 (ix3 0 s k) = headNorm (fun k => ∑ j, rms (fun k => x0 (ix3 0 s k)) (fun k => x1 (ix2 0 k)) (fun k => x2 (ix3 0 0 k)) (fun k => x2 (ix3 0 1 k)) j * x3 (ix2 j k)) g k := by
  have h : out0_8 (F := Ideal) x0 x1 x2 x3 x4 x5 x6 x7 (ix3 0 s k) = (∑ j, k0_pay55 x0 x1 x2 x3 x4 x5 x6 x7 (ix2 s j) * x3 (ix2 j k))
        * Ideal.rsqrt (Ideal.div (∑ d, (∑ j, k0_pay55 x0 x1 x2 x3 x4 x5 x6 x7 (ix2 s j) * x3 (ix2 j (headCol (n := 16) k d))) * ∑ j, k0_pay55 x0 x1 x2 x3 x4 x5 x6 x7 (ix2 s j) * x3 (ix2 j (headCol (n := 16) k d)))
          (Ideal.ofBits FTy.f32 1115684864#32) + Ideal.ofBits FTy.f32 897988541#32) * x6 (ix2 0 k) := by
    unfold out0_8
    rw [pay27_eq, pay21_eq, pay11_eq]
    exact View.canon_eq_of_allAt _ _ _ (cover0_8 _ _ _ _ _)
      (View.allAt_cons_unit _ _ _ _ _ (headPiece_at (k0_pay55 x0 x1 x2 x3 x4 x5 x6 x7) x3 x6 768 (by decide) (by decide) (by decide) s k)
      (View.allAt_cons_unit _ _ _ _ _ (headPiece_at (k0_pay55 x0 x1 x2 x3 x4 x5 x6 x7) x3 x6 512 (by decide) (by decide) (by decide) s k)
      (View.allAt_cons_unit _ _ _ _ _ (headPiece_at (k0_pay55 x0 x1 x2 x3 x4 x5 x6 x7) x3 x6 256 (by decide) (by decide) (by decide) s k)
      (View.allAt_cons_unit _ _ _ _ _ (headPiece_at (k0_pay55 x0 x1 x2 x3 x4 x5 x6 x7) x3 x6 0 (by decide) (by decide) (by decide) s k)
      (View.allAt_nil (Val := Elt Ideal) (e := .bf16) _ _)))))
  rw [h]
  simp only [normed_at, hg]
  rfl

/-- The block of keys: the projection's columns, each divided by its head's root mean square, times the gain. -/
theorem keyBlock_at (x0 : Vec Ideal S1x512x1024 .f32) (x1 : Vec Ideal S1x1024 .f32) (x2 : Vec Ideal S1x2x1024 .f32) (x3 x4 x5 : Vec Ideal S1024x1024 .bf16)
    (x6 x7 : Vec Ideal S1x1024 .f32) (s : Fin 512) (k : Fin 1024) (g : Fin 64 → EReal)
    (hg : x7 (ix2 0 k) = g ⟨k.val % 64, by omega⟩) :
    out0_9 (F := Ideal) x0 x1 x2 x3 x4 x5 x6 x7 (ix3 0 s k) = headNorm (fun k => ∑ j, rms (fun k => x0 (ix3 0 s k)) (fun k => x1 (ix2 0 k)) (fun k => x2 (ix3 0 0 k)) (fun k => x2 (ix3 0 1 k)) j * x4 (ix2 j k)) g k := by
  have h : out0_9 (F := Ideal) x0 x1 x2 x3 x4 x5 x6 x7 (ix3 0 s k) = (∑ j, k0_pay55 x0 x1 x2 x3 x4 x5 x6 x7 (ix2 s j) * x4 (ix2 j k))
        * Ideal.rsqrt (Ideal.div (∑ d, (∑ j, k0_pay55 x0 x1 x2 x3 x4 x5 x6 x7 (ix2 s j) * x4 (ix2 j (headCol (n := 16) k d))) * ∑ j, k0_pay55 x0 x1 x2 x3 x4 x5 x6 x7 (ix2 s j) * x4 (ix2 j (headCol (n := 16) k d)))
          (Ideal.ofBits FTy.f32 1115684864#32) + Ideal.ofBits FTy.f32 897988541#32) * x7 (ix2 0 k) := by
    unfold out0_9
    rw [pay53_eq, pay46_eq, pay39_eq, pay33_eq]
    exact View.canon_eq_of_allAt _ _ _ (cover0_9 _ _ _ _ _)
      (View.allAt_cons_unit _ _ _ _ _ (headPiece_at (k0_pay55 x0 x1 x2 x3 x4 x5 x6 x7) x4 x7 768 (by decide) (by decide) (by decide) s k)
      (View.allAt_cons_unit _ _ _ _ _ (headPiece_at (k0_pay55 x0 x1 x2 x3 x4 x5 x6 x7) x4 x7 512 (by decide) (by decide) (by decide) s k)
      (View.allAt_cons_unit _ _ _ _ _ (headPiece_at (k0_pay55 x0 x1 x2 x3 x4 x5 x6 x7) x4 x7 256 (by decide) (by decide) (by decide) s k)
      (View.allAt_cons_unit _ _ _ _ _ (headPiece_at (k0_pay55 x0 x1 x2 x3 x4 x5 x6 x7) x4 x7 0 (by decide) (by decide) (by decide) s k)
      (View.allAt_nil (Val := Elt Ideal) (e := .bf16) _ _)))))
  rw [h]
  simp only [normed_at, hg]
  rfl

/-- The block of values. -/
theorem valueBlock_at (x0 : Vec Ideal S1x512x1024 .f32) (x1 : Vec Ideal S1x1024 .f32) (x2 : Vec Ideal S1x2x1024 .f32) (x3 x4 x5 : Vec Ideal S1024x1024 .bf16)
    (x6 x7 : Vec Ideal S1x1024 .f32) (s : Fin 512) (k : Fin 1024) :
    out0_10 (F := Ideal) x0 x1 x2 x3 x4 x5 x6 x7 (ix3 0 s k) = ∑ j, rms (fun k => x0 (ix3 0 s k)) (fun k => x1 (ix2 0 k)) (fun k => x2 (ix3 0 0 k)) (fun k => x2 (ix3 0 1 k)) j * x5 (ix2 j k) := by
  have h : out0_10 (F := Ideal) x0 x1 x2 x3 x4 x5 x6 x7 (ix3 0 s k) = ∑ j, k0_pay55 x0 x1 x2 x3 x4 x5 x6 x7 (ix2 s j) * x5 (ix2 j k) := by
    unfold out0_10
    rw [pay3_eq, pay2_eq, pay1_eq]
    exact View.canon_eq_of_allAt _ _ _ (cover0_10 _ _ _ _ _)
      (View.allAt_cons_unit _ _ _ _ _ (piece_at (k0_pay55 x0 x1 x2 x3 x4 x5 x6 x7) x5 768 (by decide) s k)
      (View.allAt_cons_unit _ _ _ _ _ (piece_at (k0_pay55 x0 x1 x2 x3 x4 x5 x6 x7) x5 512 (by decide) s k)
      (View.allAt_cons_unit _ _ _ _ _ (piece_at (k0_pay55 x0 x1 x2 x3 x4 x5 x6 x7) x5 256 (by decide) s k)
      (View.allAt_cons_unit _ _ _ _ _ (piece_at (k0_pay55 x0 x1 x2 x3 x4 x5 x6 x7) x5 0 (by decide) s k)
      (View.allAt_nil (Val := Elt Ideal) (e := .bf16) _ _)))))
  rw [h]
  simp only [normed_at]

variable (m : (ℓ : Loc nD τ sig) → Buf (Elt Ideal) ℓ) (c : Dev nD)

/-- The batch entry of a grid point. -/
def batchOf (t : Fin cfg0.N) : Fin 16 := ⟨(grid0.coords t 0).val, (grid0.coords t 0).isLt⟩

/-- The tile of rows of a grid point. -/
def tileOf (t : Fin cfg0.N) : Fin 4 := ⟨(grid0.coords t 1).val, (grid0.coords t 1).isLt⟩

/-- The block of latents at a grid point. -/
theorem index0 : ∀ t : Fin cfg0.N, win0_0.index t = ![(grid0.coords t 0).val, (grid0.coords t 1).val, 0] := (by decide +kernel : ∀ t : Fin grid0.N, _)
/-- The block of gains at a grid point. -/
theorem index1 : ∀ t : Fin cfg0.N, win0_1.index t = ![0, 0] := (by decide +kernel : ∀ t : Fin grid0.N, _)
/-- The block of modulations at a grid point. -/
theorem index2 : ∀ t : Fin cfg0.N, win0_2.index t = ![(grid0.coords t 0).val, 0, 0] := (by decide +kernel : ∀ t : Fin grid0.N, _)
/-- The block of the queries' weights at a grid point. -/
theorem index3 : ∀ t : Fin cfg0.N, win0_3.index t = ![0, 0] := (by decide +kernel : ∀ t : Fin grid0.N, _)
/-- The block of the keys' weights at a grid point. -/
theorem index4 : ∀ t : Fin cfg0.N, win0_4.index t = ![0, 0] := (by decide +kernel : ∀ t : Fin grid0.N, _)
/-- The block of the values' weights at a grid point. -/
theorem index5 : ∀ t : Fin cfg0.N, win0_5.index t = ![0, 0] := (by decide +kernel : ∀ t : Fin grid0.N, _)
/-- The block of the queries' gains at a grid point. -/
theorem index6 : ∀ t : Fin cfg0.N, win0_6.index t = ![0, 0] := (by decide +kernel : ∀ t : Fin grid0.N, _)
/-- The block of the keys' gains at a grid point. -/
theorem index7 : ∀ t : Fin cfg0.N, win0_7.index t = ![0, 0] := (by decide +kernel : ∀ t : Fin grid0.N, _)
/-- The block of queries at a grid point. -/
theorem index8 : ∀ t : Fin cfg0.N, win0_8.index t = ![(grid0.coords t 0).val, (grid0.coords t 1).val, 0] := (by decide +kernel : ∀ t : Fin grid0.N, _)
/-- The block of keys at a grid point. -/
theorem index9 : ∀ t : Fin cfg0.N, win0_9.index t = ![(grid0.coords t 0).val, (grid0.coords t 1).val, 0] := (by decide +kernel : ∀ t : Fin grid0.N, _)
/-- The block of values at a grid point. -/
theorem index10 : ∀ t : Fin cfg0.N, win0_10.index t = ![(grid0.coords t 0).val, (grid0.coords t 1).val, 0] := (by decide +kernel : ∀ t : Fin grid0.N, _)

/-- The latents as a grid point reads them. -/
theorem blk0_at (t : Fin cfg0.N) (s : Fin 512) (k : Fin 1024) :
    iblk m c 0 t (ix3 0 s k : S1x512x1024.Idx) = m ((c : Thread nD τ).loc main_arg0) (ix3 (batchOf t) (rowIn (tileOf t) s) k : S16x2048x1024.Idx) := by
  refine (congrFun (V_main_arg0 m c) _).trans (congrArg (m ((c : Thread nD τ).loc main_arg0)) ?_)
  blk_ext [index0] <;> rfl

/-- The gains as a grid point reads them. -/
theorem blk1_at (t : Fin cfg0.N) (k : Fin 1024) :
    iblk m c 1 t (ix2 0 k : S1x1024.Idx) = m ((c : Thread nD τ).loc main_arg1) (ix2 0 k : S1x1024.Idx) := by
  refine (congrFun (V_main_arg1 m c) _).trans (congrArg (m ((c : Thread nD τ).loc main_arg1)) ?_)
  blk_ext [index1]

/-- The modulations as a grid point reads them. -/
theorem blk2_at (t : Fin cfg0.N) (s : Fin 2) (k : Fin 1024) :
    iblk m c 2 t (ix3 0 s k : S1x2x1024.Idx) = m ((c : Thread nD τ).loc main_arg2) (ix3 (batchOf t) s k : S16x2x1024.Idx) := by
  refine (congrFun (V_main_arg2 m c) _).trans (congrArg (m ((c : Thread nD τ).loc main_arg2)) ?_)
  blk_ext [index2]
  rfl

/-- The projection's weights, by row and column. -/
abbrev weight (j : Fin 1024) (k : Fin 3072) : EReal := m ((c : Thread nD τ).loc main_arg3) (ix2 j k : S1024x3072.Idx)

/-- Column `k` of the 1024 that begin at column `o` of the projection. -/
def colFrom (o : ℕ) (ho : o + 1024 ≤ 3072) (k : Fin 1024) : Fin 3072 := ⟨o + k.val, by omega⟩

/-- Weights of the queries as a grid point reads them: columns of the projection's. -/
theorem blk3_at (t : Fin cfg0.N) (j : Fin 1024) (k : Fin 1024) :
    iblk m c 3 t (ix2 j k : S1024x1024.Idx) = weight m c j (colFrom 0 (by decide) k) := by
  have he : (win0_3.blk t).view.emb (ix2 j k : S1024x1024.Idx) = (ix2 j k : S1024x1024.Idx) := by blk_ext [index3]
  refine (congrArg (Gen.V m c main_v1) he).trans ?_
  unfold Gen.V
  after_reads_at
  exact congrArg _ (congrArg (ix2 j) (Fin.ext (by show k.val = 0 + k.val; omega)))

/-- Weights of the keys as a grid point reads them: columns of the projection's. -/
theorem blk4_at (t : Fin cfg0.N) (j : Fin 1024) (k : Fin 1024) :
    iblk m c 4 t (ix2 j k : S1024x1024.Idx) = weight m c j (colFrom 1024 (by decide) k) := by
  have he : (win0_4.blk t).view.emb (ix2 j k : S1024x1024.Idx) = (ix2 j k : S1024x1024.Idx) := by blk_ext [index4]
  refine (congrArg (Gen.V m c main_v2) he).trans ?_
  unfold Gen.V
  after_reads_at
  rfl

/-- Weights of the values as a grid point reads them: columns of the projection's. -/
theorem blk5_at (t : Fin cfg0.N) (j : Fin 1024) (k : Fin 1024) :
    iblk m c 5 t (ix2 j k : S1024x1024.Idx) = weight m c j (colFrom 2048 (by decide) k) := by
  have he : (win0_5.blk t).view.emb (ix2 j k : S1024x1024.Idx) = (ix2 j k : S1024x1024.Idx) := by blk_ext [index5]
  refine (congrArg (Gen.V m c main_v3) he).trans ?_
  unfold Gen.V
  after_reads_at
  rfl

/-- The queries' gains as a grid point reads them: a head's gains, repeated. -/
theorem blk6_at (t : Fin cfg0.N) (k : Fin 1024) :
    iblk m c 6 t (ix2 0 k : S1x1024.Idx) = m ((c : Thread nD τ).loc main_arg4) (ix1 ⟨k.val % 64, by omega⟩ : S64.Idx) := by
  have he : (win0_6.blk t).view.emb (ix2 0 k : S1x1024.Idx) = (ix2 0 k : S1x1024.Idx) := by blk_ext [index6]
  refine (congrArg (Gen.V m c main_v7) he).trans ?_
  unfold Gen.V
  after_reads_at

/-- The keys' gains as a grid point reads them: a head's gains, repeated. -/
theorem blk7_at (t : Fin cfg0.N) (k : Fin 1024) :
    iblk m c 7 t (ix2 0 k : S1x1024.Idx) = m ((c : Thread nD τ).loc main_arg5) (ix1 ⟨k.val % 64, by omega⟩ : S64.Idx) := by
  have he : (win0_7.blk t).view.emb (ix2 0 k : S1x1024.Idx) = (ix2 0 k : S1x1024.Idx) := by blk_ext [index7]
  refine (congrArg (Gen.V m c main_v11) he).trans ?_
  unfold Gen.V
  after_reads_at

/-- An index of a block of rows. -/
theorem block_index {N : ℕ} (y : (⟨3, ![1, 512, N]⟩ : Shape).Idx) : y = ix3 0 (y 1) (y 2) := funext fun a => match a with
  | ⟨0, _⟩ => Fin.ext (by have h : (y 0).val < 1 := (y 0).isLt; show (y 0).val = 0; omega)
  | ⟨1, _⟩ => rfl
  | ⟨2, _⟩ => rfl

/-- The normalized and modulated row `s` of batch entry `b`, of the arguments at launch. -/
abbrev normedOf (b : Fin 16) (s : Fin 2048) : Fin 1024 → EReal :=
  rms (fun k => m ((c : Thread nD τ).loc main_arg0) (ix3 b s k : S16x2048x1024.Idx)) (fun k => m ((c : Thread nD τ).loc main_arg1) (ix2 0 k : S1x1024.Idx))
    (fun k => m ((c : Thread nD τ).loc main_arg2) (ix3 b 0 k : S16x2x1024.Idx)) (fun k => m ((c : Thread nD τ).loc main_arg2) (ix3 b 1 k : S16x2x1024.Idx))

/-- The queries after the run. -/
theorem query_array : (dats m 0 c).arrAt 8 cfg0.N = fun i : S16x2048x1024.Idx =>
    headNorm (fun k => ∑ j, normedOf m c (i 0) (i 1) j * weight m c j (colFrom 0 (by decide) k))
      (fun d => m ((c : Thread nD τ).loc main_arg4) (ix1 d : S64.Idx)) (i 2) := by
  refine (dats m 0 c).arrAt_eq_of_covers 8 _ (by decide +kernel) fun t hf y => ?_
  blk_simp
  rw [after0_8]
  obtain ⟨s, k, rfl⟩ : ∃ (s : Fin 512) (k : Fin 1024), y = (ix3 0 s k : S1x512x1024.Idx) := ⟨_, _, block_index y⟩
  have he : (win0_8.blk t).view.emb (ix3 0 s k : S1x512x1024.Idx) = (ix3 (batchOf t) (rowIn (tileOf t) s) k : S16x2048x1024.Idx) := by
    blk_ext [index8] <;> rfl
  rw [he]
  refine (queryBlock_at _ _ _ _ _ _ _ _ s k (fun d => m ((c : Thread nD τ).loc main_arg4) (ix1 d : S64.Idx)) (blk6_at m c t k)).trans ?_
  simp only [blk0_at, blk1_at, blk2_at, blk3_at]
  rfl

/-- The keys after the run. -/
theorem key_array : (dats m 0 c).arrAt 9 cfg0.N = fun i : S16x2048x1024.Idx =>
    headNorm (fun k => ∑ j, normedOf m c (i 0) (i 1) j * weight m c j (colFrom 1024 (by decide) k))
      (fun d => m ((c : Thread nD τ).loc main_arg5) (ix1 d : S64.Idx)) (i 2) := by
  refine (dats m 0 c).arrAt_eq_of_covers 9 _ (by decide +kernel) fun t hf y => ?_
  blk_simp
  rw [after0_9]
  obtain ⟨s, k, rfl⟩ : ∃ (s : Fin 512) (k : Fin 1024), y = (ix3 0 s k : S1x512x1024.Idx) := ⟨_, _, block_index y⟩
  have he : (win0_9.blk t).view.emb (ix3 0 s k : S1x512x1024.Idx) = (ix3 (batchOf t) (rowIn (tileOf t) s) k : S16x2048x1024.Idx) := by
    blk_ext [index9] <;> rfl
  rw [he]
  refine (keyBlock_at _ _ _ _ _ _ _ _ s k (fun d => m ((c : Thread nD τ).loc main_arg5) (ix1 d : S64.Idx)) (blk7_at m c t k)).trans ?_
  simp only [blk0_at, blk1_at, blk2_at, blk4_at]
  rfl

/-- The values after the run. -/
theorem value_array : (dats m 0 c).arrAt 10 cfg0.N = fun i : S16x2048x1024.Idx =>
    ∑ j, normedOf m c (i 0) (i 1) j * weight m c j (colFrom 2048 (by decide) (i 2)) := by
  refine (dats m 0 c).arrAt_eq_of_covers 10 _ (by decide +kernel) fun t hf y => ?_
  blk_simp
  rw [after0_10]
  obtain ⟨s, k, rfl⟩ : ∃ (s : Fin 512) (k : Fin 1024), y = (ix3 0 s k : S1x512x1024.Idx) := ⟨_, _, block_index y⟩
  have he : (win0_10.blk t).view.emb (ix3 0 s k : S1x512x1024.Idx) = (ix3 (batchOf t) (rowIn (tileOf t) s) k : S16x2048x1024.Idx) := by
    blk_ext [index10] <;> rfl
  rw [he]
  refine (valueBlock_at _ _ _ _ _ _ _ _ s k).trans ?_
  simp only [blk0_at, blk1_at, blk2_at, blk5_at]
  rfl

end Cert.Kernel3Ideal.LIN

namespace Cert.Reference3Ideal.LIN

open Cert.LIN Cert.Reference3Ideal Cert.Reference3Ideal.Read Cert.Kernel3Ideal.LIN Idealize.ShloMosaic

variable (x0 : Vec Ideal S16x2048x1024 .f32) (x1 : Vec Ideal S1x1024 .f32) (x2 : Vec Ideal S16x2x1024 .f32) (x3 : Vec Ideal S1024x3072 .f32)
  (x4 x5 : Vec Ideal S64 .f32) (b : Fin 16) (s : Fin 2048)

/-- The reference's normalized and modulated row. -/
abbrev normedRow : Fin 1024 → EReal :=
  rms (fun k => x0 (ix3 b s k)) (fun k => x1 (ix2 0 k)) (fun k => x2 (ix3 b 0 k)) (fun k => x2 (ix3 b 1 k))

/-- The reference's projection. -/
theorem proj_at (k : Fin 3072) : val_main_v22 (F := Ideal) x0 x1 x2 x3 (ix3 b s k) = ∑ j, normedRow x0 x1 x2 b s j * x3 (ix2 j k) := by
  pointwise [val_main_v0, val_main_v1, val_main_v2, val_main_v3, val_main_v4, val_main_v5, val_main_v6, val_main_v7, val_main_v8, val_main_v9, val_main_v10, val_main_v11,
    val_main_v12, val_main_v13, val_main_v14, val_main_v15, val_main_v16, val_main_v17, val_main_v18, val_main_v19, val_main_v20, val_main_v21, val_main_v22, val_main_cst, val_main_cst_0, val_main_cst_1, val_main_cst_2]
  rfl

/-- The reference's queries. -/
theorem query_at (k : Fin 1024) : val_main_v57 (F := Ideal) x0 x1 x2 x3 x4 (ix3 b s k)
    = headNorm (fun k => ∑ j, normedRow x0 x1 x2 b s j * x3 (ix2 j (colFrom 0 (by decide) k))) (fun d => x4 (ix1 d)) k := by
  pointwise [val_main_v57, val_main_v56, val_main_v38, val_main_v37, val_main_v36, val_main_v35, val_main_v34, val_main_v33, val_main_v32, val_main_v31, val_main_v30, val_main_v29, val_main_v28, val_main_v27, val_main_v26, val_main_v25, val_main_v24, val_main_v23, val_main_cst_3, val_main_cst_4, val_main_cst_5]
  simp only [proj_at, headNorm, headCol, colFrom, Nat.add_assoc, Nat.zero_add, Nat.div_add_mod']

/-- The reference's keys. -/
theorem key_at (k : Fin 1024) : val_main_v59 (F := Ideal) x0 x1 x2 x3 x5 (ix3 b s k)
    = headNorm (fun k => ∑ j, normedRow x0 x1 x2 b s j * x3 (ix2 j (colFrom 1024 (by decide) k))) (fun d => x5 (ix1 d)) k := by
  pointwise [val_main_v59, val_main_v58, val_main_v53, val_main_v52, val_main_v51, val_main_v50, val_main_v49, val_main_v48, val_main_v47, val_main_v46, val_main_v45, val_main_v44, val_main_v43, val_main_v42, val_main_v41, val_main_v40, val_main_v39, val_main_v23, val_main_cst_6, val_main_cst_7, val_main_cst_8]
  simp only [proj_at, headNorm, headCol, colFrom, Nat.add_assoc, Nat.zero_add, Nat.div_add_mod']

/-- The reference's values. -/
theorem value_at (k : Fin 1024) : val_main_v61 (F := Ideal) x0 x1 x2 x3 (ix3 b s k)
    = ∑ j, normedRow x0 x1 x2 b s j * x3 (ix2 j (colFrom 2048 (by decide) k)) := by
  pointwise [val_main_v61, val_main_v60, val_main_v55, val_main_v54, val_main_v23]
  simp only [proj_at, colFrom, Nat.add_assoc, Nat.zero_add, Nat.div_add_mod']

end Cert.Reference3Ideal.LIN

namespace Cert.Proof.LIN

open Idealize.ShloMosaic Idealize.ShloMosaic.StableHlo Idealize.SL.Sem Cert.Kernel3Ideal

/-- The frame of the reference of the queries, keys and values: its run keeps the arguments, and it declares no semaphore. -/
theorem frame_reference3 : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

/-- An argument array of the kernel of the queries, keys and values on a device. -/
abbrev arg3 (m : (ℓ : Loc nD τ sig) → Buf (Elt Ideal) ℓ) (c : Dev nD) (b : Ref sig .tc) := m ((c.tc : Thread nD τ).loc b)

/-- The odd layers' queries, keys and values: kernel and reference end equal. -/
theorem algebraic3 : Cert.algebraic_Kernel3Ideal_Reference3Ideal := by
  intro m g m' g' _ ha
  refine ⟨fun c => Cert.Reference3Ideal.Read.val_main_v57 (F := Ideal) (arg3 m c main_arg0) (arg3 m c main_arg1) (arg3 m c main_arg2) (arg3 m c main_arg3) (arg3 m c main_arg4),
    fun c => Cert.Reference3Ideal.Read.val_main_v59 (F := Ideal) (arg3 m c main_arg0) (arg3 m c main_arg1) (arg3 m c main_arg2) (arg3 m c main_arg3) (arg3 m c main_arg5),
    fun c => Cert.Reference3Ideal.Read.val_main_v61 (F := Ideal) (arg3 m c main_arg0) (arg3 m c main_arg1) (arg3 m c main_arg2) (arg3 m c main_arg3), ?_, ?_⟩
  · refine (θ_run Cert.Kernel3Ideal.defs _ _).mono (fun r h c =>
      ⟨(h c).1.trans ?_, (h c).2.1.trans ?_, (h c).2.2.1.trans ?_, (h c).2.2.2⟩)
      (Cert.Kernel3Ideal.Value.run_blocks (F := Ideal) m g)
    · exact (Cert.Kernel3Ideal.LIN.query_array m c).trans (funext fun i =>
        ((congrArg _ (eq_ix3 i)).trans (Cert.Reference3Ideal.LIN.query_at _ _ _ _ _ _ _ _)).symm)
    · exact (Cert.Kernel3Ideal.LIN.key_array m c).trans (funext fun i =>
        ((congrArg _ (eq_ix3 i)).trans (Cert.Reference3Ideal.LIN.key_at _ _ _ _ _ _ _ _)).symm)
    · exact (Cert.Kernel3Ideal.LIN.value_array m c).trans (funext fun i =>
        ((congrArg _ (eq_ix3 i)).trans (Cert.Reference3Ideal.LIN.value_at _ _ _ _ _ _ _)).symm)
  · refine (θ_run Cert.Reference3Ideal.defs _ _).mono (fun r h c =>
      ⟨(h c).1.trans ?_, (h c).2.1.trans ?_, (h c).2.2.1.trans ?_, (h c).2.2.2⟩)
      (Cert.Reference3Ideal.Value.run (F := Ideal) m' g') <;> obtain ⟨e0, e1, e2, e3, e4, e5⟩ := ha c
    · refine (Cert.Reference3Ideal.Read.val_main_v57_eq (F := Ideal) _ _).trans ?_
      exact congr (congr (congr (congr (congrArg (Cert.Reference3Ideal.Read.val_main_v57 (F := Ideal)) e0) e1) e2) e3) e4
    · refine (Cert.Reference3Ideal.Read.val_main_v59_eq (F := Ideal) _ _).trans ?_
      exact congr (congr (congr (congr (congrArg (Cert.Reference3Ideal.Read.val_main_v59 (F := Ideal)) e0) e1) e2) e3) e5
    · refine (Cert.Reference3Ideal.Read.val_main_v61_eq (F := Ideal) _ _ _ _).trans ?_
      exact congr (congr (congr (congrArg (Cert.Reference3Ideal.Read.val_main_v61 (F := Ideal)) e0) e1) e2) e3

end Cert.Proof.LIN
-- ==== Proof.LIN.Even4.lean ====
/- The even layers' out-projection: what its kernel's result arrays hold after the run, what its reference's hold, and
   that the two are equal. -/
module

public import proofs.«01_k».proof.Defs
public import proofs.«01_k».proof.Proof.Gen.Kernel4Ideal.Value
public import proofs.«01_k».proof.Proof.Gen.Reference4Ideal.Read
public import proofs.«01_k».proof.Proof.LIN.Spec

@[expose] public section

set_option maxRecDepth 16384
noncomputable section

namespace Cert.Kernel4Ideal.LIN

open Idealize.ShloMosaic Idealize.ShloMosaic.TcCoe Idealize.SL.Sem Idealize.ShloMosaic.Tactic
open Cert.LIN Cert.Kernel4Ideal Cert.Kernel4Ideal.Gen
open Idealize.ShloMosaic.Pipeline (Dat)

/-- A row of latents after the projection of the two mixers' outputs `p` and `q` by the upper half `u` and the lower
    half `l` of the weights, gated by `gate`. -/
def latent (x gate p q : Fin 1024 → EReal) (u l : Fin 1024 → Fin 1024 → EReal) (k : Fin 1024) : EReal :=
  x k + gate k * (∑ j, p j * u j k + ∑ j, q j * l j k)

/-- The upper half of the weights' rows. -/
def upper (w : Vec Ideal S2048x1024 .f32) (j k : Fin 1024) : EReal := w (ix2 ⟨j.val, by omega⟩ k)

/-- The lower half of the weights' rows. -/
def lower (w : Vec Ideal S2048x1024 .f32) (j k : Fin 1024) : EReal := w (ix2 ⟨1024 + j.val, by omega⟩ k)

/-- The block of new latents. -/
theorem latentBlock_at (x0 x1 : Vec Ideal S1x512x1024 .bf16) (x2 x3 : Vec Ideal S1024x1024 .bf16) (x4 : Vec Ideal S1x512x1024 .f32)
    (x5 : Vec Ideal S1x3x1024 .f32) (x6 : Vec Ideal S1x1024 .f32) (s : Fin 512) (k : Fin 1024) :
    out0_7 (F := Ideal) x0 x1 x2 x3 x4 x5 x6 (ix3 0 s k)
      = latent (fun k => x4 (ix3 0 s k)) (fun k => x5 (ix3 0 0 k)) (fun k => x0 (ix3 0 s k)) (fun k => x1 (ix3 0 s k))
          (fun j k => x2 (ix2 j k)) (fun j k => x3 (ix2 j k)) k := by
  unfold out0_7
  rw [View.canon_unit_zero (S := S1x512x1024) (by decide), View.ld_unit_zero (S := S1x512x1024) (by decide),
    View.ld_unit_zero (S := S1024x1024) (by decide), View.ld_unit_zero (S := S1x512x1024) (by decide),
    View.ld_unit_zero (S := S1024x1024) (by decide), View.ld_unit_zero (S := S1x512x1024) (by decide)]
  pointwise [k0_pay2, k0_pay3]
  rfl

/-- The block of the next sub-layer's input. -/
theorem inputBlock_at (x0 x1 : Vec Ideal S1x512x1024 .bf16) (x2 x3 : Vec Ideal S1024x1024 .bf16) (x4 : Vec Ideal S1x512x1024 .f32)
    (x5 : Vec Ideal S1x3x1024 .f32) (x6 : Vec Ideal S1x1024 .f32) (s : Fin 512) (k : Fin 1024) :
    out0_8 (F := Ideal) x0 x1 x2 x3 x4 x5 x6 (ix3 0 s k)
      = rms (latent (fun k => x4 (ix3 0 s k)) (fun k => x5 (ix3 0 0 k)) (fun k => x0 (ix3 0 s k)) (fun k => x1 (ix3 0 s k))
            (fun j k => x2 (ix2 j k)) (fun j k => x3 (ix2 j k)))
          (fun k => x6 (ix2 0 k)) (fun k => x5 (ix3 0 1 k)) (fun k => x5 (ix3 0 2 k)) k := by
  unfold out0_8
  rw [View.canon_unit_zero (S := S1x512x1024) (by decide), View.ld_unit_zero (S := S1x512x1024) (by decide),
    View.ld_unit_zero (S := S1024x1024) (by decide), View.ld_unit_zero (S := S1x512x1024) (by decide),
    View.ld_unit_zero (S := S1024x1024) (by decide), View.ld_unit_zero (S := S1x512x1024) (by decide), View.ld_unit_zero (S := S1x1024) (by decide)]
  pointwise [k0_pay1, k0_pay2, k0_pay4, k0_pay5, k0_pay6]
  rfl

variable (m : (ℓ : Loc nD τ sig) → Buf (Elt Ideal) ℓ) (c : Dev nD)

/-- The batch entry of a grid point. -/
def batchOf (t : Fin cfg0.N) : Fin 16 := ⟨(grid0.coords t 0).val, (grid0.coords t 0).isLt⟩

/-- The tile of rows of a grid point. -/
def tileOf (t : Fin cfg0.N) : Fin 4 := ⟨(grid0.coords t 1).val, (grid0.coords t 1).isLt⟩

/-- The block of the state-space mixer's output at a grid point. -/
theorem index0 : ∀ t : Fin cfg0.N, win0_0.index t = ![(grid0.coords t 0).val, (grid0.coords t 1).val, 0] :=
  (by decide +kernel : ∀ t : Fin grid0.N, _)
/-- The block of the recurrent mixer's output at a grid point. -/
theorem index1 : ∀ t : Fin cfg0.N, win0_1.index t = ![(grid0.coords t 0).val, (grid0.coords t 1).val, 0] :=
  (by decide +kernel : ∀ t : Fin grid0.N, _)
/-- The block of the weights' upper half at a grid point. -/
theorem index2 : ∀ t : Fin cfg0.N, win0_2.index t = ![0, 0] := (by decide +kernel : ∀ t : Fin grid0.N, _)
/-- The block of the weights' lower half at a grid point. -/
theorem index3 : ∀ t : Fin cfg0.N, win0_3.index t = ![0, 0] := (by decide +kernel : ∀ t : Fin grid0.N, _)
/-- The block of latents at a grid point. -/
theorem index4 : ∀ t : Fin cfg0.N, win0_4.index t = ![(grid0.coords t 0).val, (grid0.coords t 1).val, 0] :=
  (by decide +kernel : ∀ t : Fin grid0.N, _)
/-- The block of modulations at a grid point. -/
theorem index5 : ∀ t : Fin cfg0.N, win0_5.index t = ![(grid0.coords t 0).val, 0, 0] := (by decide +kernel : ∀ t : Fin grid0.N, _)
/-- The block of gains at a grid point. -/
theorem index6 : ∀ t : Fin cfg0.N, win0_6.index t = ![0, 0] := (by decide +kernel : ∀ t : Fin grid0.N, _)
/-- The block of new latents at a grid point. -/
theorem index7 : ∀ t : Fin cfg0.N, win0_7.index t = ![(grid0.coords t 0).val, (grid0.coords t 1).val, 0] :=
  (by decide +kernel : ∀ t : Fin grid0.N, _)
/-- The block of the next input at a grid point. -/
theorem index8 : ∀ t : Fin cfg0.N, win0_8.index t = ![(grid0.coords t 0).val, (grid0.coords t 1).val, 0] :=
  (by decide +kernel : ∀ t : Fin grid0.N, _)

/-- The state-space mixer's output as a grid point reads it. -/
theorem blk0_at (t : Fin cfg0.N) (s : Fin 512) (k : Fin 1024) :
    iblk m c 0 t (ix3 0 s k : S1x512x1024.Idx) = m ((c : Thread nD τ).loc main_arg0) (ix3 (batchOf t) (rowIn (tileOf t) s) k : S16x2048x1024.Idx) := by
  refine (congrFun (V_main_arg0 m c) _).trans (congrArg (m ((c : Thread nD τ).loc main_arg0)) ?_)
  blk_ext [index0] <;> rfl

/-- The recurrent mixer's output as a grid point reads it. -/
theorem blk1_at (t : Fin cfg0.N) (s : Fin 512) (k : Fin 1024) :
    iblk m c 1 t (ix3 0 s k : S1x512x1024.Idx) = m ((c : Thread nD τ).loc main_arg1) (ix3 (batchOf t) (rowIn (tileOf t) s) k : S16x2048x1024.Idx) := by
  refine (congrFun (V_main_arg1 m c) _).trans (congrArg (m ((c : Thread nD τ).loc main_arg1)) ?_)
  blk_ext [index1] <;> rfl

/-- The weights' upper half as a grid point reads it, the change of format being the identity. -/
theorem blk2_at (t : Fin cfg0.N) (j k : Fin 1024) :
    iblk m c 2 t (ix2 j k : S1024x1024.Idx) = upper (m ((c : Thread nD τ).loc main_arg2)) j k := by
  have he : (win0_2.blk t).view.emb (ix2 j k : S1024x1024.Idx) = (ix2 j k : S1024x1024.Idx) := by blk_ext [index2]
  refine (congrArg (Gen.V m c main_v1) he).trans ?_
  unfold Gen.V
  after_reads_at
  rfl

/-- The weights' lower half as a grid point reads it. -/
theorem blk3_at (t : Fin cfg0.N) (j k : Fin 1024) :
    iblk m c 3 t (ix2 j k : S1024x1024.Idx) = lower (m ((c : Thread nD τ).loc main_arg2)) j k := by
  have he : (win0_3.blk t).view.emb (ix2 j k : S1024x1024.Idx) = (ix2 j k : S1024x1024.Idx) := by blk_ext [index3]
  refine (congrArg (Gen.V m c main_v2) he).trans ?_
  unfold Gen.V
  after_reads_at
  rfl

/-- The latents as a grid point reads them. -/
theorem blk4_at (t : Fin cfg0.N) (s : Fin 512) (k : Fin 1024) :
    iblk m c 4 t (ix3 0 s k : S1x512x1024.Idx) = m ((c : Thread nD τ).loc main_arg3) (ix3 (batchOf t) (rowIn (tileOf t) s) k : S16x2048x1024.Idx) := by
  refine (congrFun (V_main_arg3 m c) _).trans (congrArg (m ((c : Thread nD τ).loc main_arg3)) ?_)
  blk_ext [index4] <;> rfl

/-- The modulations as a grid point reads them. -/
theorem blk5_at (t : Fin cfg0.N) (s : Fin 3) (k : Fin 1024) :
    iblk m c 5 t (ix3 0 s k : S1x3x1024.Idx) = m ((c : Thread nD τ).loc main_arg4) (ix3 (batchOf t) s k : S16x3x1024.Idx) := by
  refine (congrFun (V_main_arg4 m c) _).trans (congrArg (m ((c : Thread nD τ).loc main_arg4)) ?_)
  blk_ext [index5]
  rfl

/-- The gains as a grid point reads them. -/
theorem blk6_at (t : Fin cfg0.N) (k : Fin 1024) :
    iblk m c 6 t (ix2 0 k : S1x1024.Idx) = m ((c : Thread nD τ).loc main_arg5) (ix2 0 k : S1x1024.Idx) := by
  refine (congrFun (V_main_arg5 m c) _).trans (congrArg (m ((c : Thread nD τ).loc main_arg5)) ?_)
  blk_ext [index6]

/-- An index of a block of rows. -/
theorem block_index (y : S1x512x1024.Idx) : y = ix3 0 (y 1) (y 2) := funext fun a => match a with
  | ⟨0, _⟩ => Fin.ext (by have h : (y 0).val < 1 := (y 0).isLt; show (y 0).val = 0; omega)
  | ⟨1, _⟩ => rfl
  | ⟨2, _⟩ => rfl

/-- The new latents' row `s` of batch entry `b`, of the arguments at launch. -/
abbrev latentOf (b : Fin 16) (s : Fin 2048) : Fin 1024 → EReal :=
  latent (fun k => m ((c : Thread nD τ).loc main_arg3) (ix3 b s k : S16x2048x1024.Idx))
    (fun k => m ((c : Thread nD τ).loc main_arg4) (ix3 b 0 k : S16x3x1024.Idx))
    (fun k => m ((c : Thread nD τ).loc main_arg0) (ix3 b s k : S16x2048x1024.Idx))
    (fun k => m ((c : Thread nD τ).loc main_arg1) (ix3 b s k : S16x2048x1024.Idx))
    (fun j k => upper (m ((c : Thread nD τ).loc main_arg2)) j k) (fun j k => lower (m ((c : Thread nD τ).loc main_arg2)) j k)

/-- The new latents after the run. -/
theorem latent_array : (dats m 0 c).arrAt 7 cfg0.N = fun i : S16x2048x1024.Idx => latentOf m c (i 0) (i 1) (i 2) := by
  refine (dats m 0 c).arrAt_eq_of_covers 7 _ (by decide +kernel) fun t hf y => ?_
  blk_simp
  rw [after0_7]
  obtain ⟨s, k, rfl⟩ : ∃ (s : Fin 512) (k : Fin 1024), y = (ix3 0 s k : S1x512x1024.Idx) := ⟨_, _, block_index y⟩
  have he : (win0_7.blk t).view.emb (ix3 0 s k : S1x512x1024.Idx) = (ix3 (batchOf t) (rowIn (tileOf t) s) k : S16x2048x1024.Idx) := by
    blk_ext [index7] <;> rfl
  rw [he]
  refine (latentBlock_at _ _ _ _ _ _ _ s k).trans ?_
  simp only [blk0_at, blk1_at, blk2_at, blk3_at, blk4_at, blk5_at]
  rfl

/-- The next sub-layer's input after the run. -/
theorem input_array : (dats m 0 c).arrAt 8 cfg0.N = fun i : S16x2048x1024.Idx =>
    rms (latentOf m c (i 0) (i 1)) (fun k => m ((c : Thread nD τ).loc main_arg5) (ix2 0 k : S1x1024.Idx))
      (fun k => m ((c : Thread nD τ).loc main_arg4) (ix3 (i 0) 1 k : S16x3x1024.Idx))
      (fun k => m ((c : Thread nD τ).loc main_arg4) (ix3 (i 0) 2 k : S16x3x1024.Idx)) (i 2) := by
  refine (dats m 0 c).arrAt_eq_of_covers 8 _ (by decide +kernel) fun t hf y => ?_
  blk_simp
  rw [after0_8]
  obtain ⟨s, k, rfl⟩ : ∃ (s : Fin 512) (k : Fin 1024), y = (ix3 0 s k : S1x512x1024.Idx) := ⟨_, _, block_index y⟩
  have he : (win0_8.blk t).view.emb (ix3 0 s k : S1x512x1024.Idx) = (ix3 (batchOf t) (rowIn (tileOf t) s) k : S16x2048x1024.Idx) := by
    blk_ext [index8] <;> rfl
  rw [he]
  refine (inputBlock_at _ _ _ _ _ _ _ s k).trans ?_
  simp only [blk0_at, blk1_at, blk2_at, blk3_at, blk4_at, blk5_at, blk6_at]
  rfl

end Cert.Kernel4Ideal.LIN

namespace Cert.Reference4Ideal.LIN

open Cert.LIN Cert.Reference4Ideal Cert.Reference4Ideal.Read Cert.Kernel4Ideal.LIN Idealize.ShloMosaic

variable (x0 x1 : Vec Ideal S16x2048x1024 .bf16) (x2 : Vec Ideal S2048x1024 .f32) (x3 : Vec Ideal S16x2048x1024 .f32)
  (x4 : Vec Ideal S16x3x1024 .f32) (x5 : Vec Ideal S1x1024 .f32) (b : Fin 16) (s : Fin 2048) (k : Fin 1024)

/-- The reference's new latents: its one product over the joined outputs is the sum of one over each. -/
theorem latent_at : val_main_v7 (F := Ideal) x0 x1 x2 x3 x4 (ix3 b s k)
    = latent (fun k => x3 (ix3 b s k)) (fun k => x4 (ix3 b 0 k)) (fun k => x0 (ix3 b s k)) (fun k => x1 (ix3 b s k)) (upper x2) (lower x2) k := by
  pointwise [val_main_v0, val_main_v1, val_main_v2, val_main_v3, val_main_v4, val_main_v5, val_main_v6, val_main_v7]
  rfl

/-- The reference's next sub-layer's input. -/
theorem input_at : val_main_v30 (F := Ideal) x0 x1 x2 x3 x4 x5 (ix3 b s k)
    = rms (latent (fun k => x3 (ix3 b s k)) (fun k => x4 (ix3 b 0 k)) (fun k => x0 (ix3 b s k)) (fun k => x1 (ix3 b s k)) (upper x2) (lower x2))
        (fun k => x5 (ix2 0 k)) (fun k => x4 (ix3 b 1 k)) (fun k => x4 (ix3 b 2 k)) k := by
  pointwise [val_main_v0, val_main_v1, val_main_v2, val_main_v3, val_main_v4, val_main_v5, val_main_v6, val_main_v7, val_main_cst,
    val_main_v8, val_main_v9, val_main_cst_0, val_main_v10, val_main_v11, val_main_cst_1, val_main_v12, val_main_v13, val_main_v14,
    val_main_v15, val_main_v16, val_main_v17, val_main_v18, val_main_v19, val_main_v20, val_main_v21, val_main_cst_2, val_main_v22,
    val_main_v23, val_main_v24, val_main_v25, val_main_v26, val_main_v27, val_main_v28, val_main_v29, val_main_v30]
  rfl

end Cert.Reference4Ideal.LIN

namespace Cert.Proof.LIN

open Idealize.ShloMosaic Idealize.ShloMosaic.StableHlo Idealize.SL.Sem Cert.Kernel4Ideal

/-- The out-projection reference's frame: its run keeps the arguments, and it declares no semaphore. -/
theorem frame_reference4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- An argument array of the out-projection's kernel on a device. -/
abbrev arg4 (m : (ℓ : Loc nD τ sig) → Buf (Elt Ideal) ℓ) (c : Dev nD) (b : Ref sig .tc) := m ((c.tc : Thread nD τ).loc b)

/-- The even out-projection's kernel and its reference end equal. -/
theorem algebraic4 : Cert.algebraic_Kernel4Ideal_Reference4Ideal := by
  intro m g m' g' _ ha
  refine ⟨fun c => Cert.Reference4Ideal.Read.val_main_v7 (F := Ideal) (arg4 m c main_arg0) (arg4 m c main_arg1) (arg4 m c main_arg2) (arg4 m c main_arg3)
      (arg4 m c main_arg4),
    fun c => Cert.Reference4Ideal.Read.val_main_v30 (F := Ideal) (arg4 m c main_arg0) (arg4 m c main_arg1) (arg4 m c main_arg2) (arg4 m c main_arg3)
      (arg4 m c main_arg4) (arg4 m c main_arg5), ?_, ?_⟩
  · refine (θ_run Cert.Kernel4Ideal.defs _ _).mono (fun r h c => ⟨(h c).1.trans ?_, (h c).2.1.trans ?_, (h c).2.2⟩)
      (Cert.Kernel4Ideal.Value.run_blocks (F := Ideal) m g)
    · exact (Cert.Kernel4Ideal.LIN.latent_array m c).trans (funext fun i =>
        ((congrArg _ (eq_ix3 i)).trans (Cert.Reference4Ideal.LIN.latent_at _ _ _ _ _ _ _ _)).symm)
    · exact (Cert.Kernel4Ideal.LIN.input_array m c).trans (funext fun i =>
        ((congrArg _ (eq_ix3 i)).trans (Cert.Reference4Ideal.LIN.input_at _ _ _ _ _ _ _ _ _)).symm)
  · refine (θ_run Cert.Reference4Ideal.defs _ _).mono (fun r h c => ⟨(h c).1.trans ?_, (h c).2.1.trans ?_, (h c).2.2⟩)
      (Cert.Reference4Ideal.Value.run (F := Ideal) m' g')
    · obtain ⟨e0, e1, e2, e3, e4, e5⟩ := ha c
      refine (Cert.Reference4Ideal.Read.val_main_v7_eq (F := Ideal) _ _ _ _ _).trans ?_
      exact congr (congr (congr (congr (congrArg (Cert.Reference4Ideal.Read.val_main_v7 (F := Ideal)) e0) e1) e2) e3) e4
    · obtain ⟨e0, e1, e2, e3, e4, e5⟩ := ha c
      refine (Cert.Reference4Ideal.Read.val_main_v30_eq (F := Ideal) _ _ _ _ _ _).trans ?_
      exact congr (congr (congr (congr (congr (congrArg (Cert.Reference4Ideal.Read.val_main_v30 (F := Ideal)) e0) e1) e2) e3) e4) e5

end Cert.Proof.LIN
-- ==== Proof.LIN.Odd5.lean ====
/- The odd layers' out-projection: what its kernel's result arrays hold after the run, what its reference's hold, and
   that the two are equal. -/
module

public import proofs.«01_k».proof.Defs
public import proofs.«01_k».proof.Proof.Gen.Kernel5Ideal.Value
public import proofs.«01_k».proof.Proof.Gen.Reference5Ideal.Read
public import proofs.«01_k».proof.Proof.LIN.Spec

@[expose] public section

set_option maxRecDepth 16384
noncomputable section

namespace Cert.Kernel5Ideal.LIN

open Idealize.ShloMosaic Idealize.ShloMosaic.TcCoe Idealize.SL.Sem Idealize.ShloMosaic.Tactic
open Cert.LIN Cert.Kernel5Ideal Cert.Kernel5Ideal.Gen
open Idealize.ShloMosaic.Pipeline (Dat)

/-- A row of latents after the projection of the attention's output `o` by the weights `w`, gated by `gate`. -/
def latent (x gate o : Fin 1024 → EReal) (w : Fin 1024 → Fin 1024 → EReal) (k : Fin 1024) : EReal := x k + gate k * ∑ j, o j * w j k

/-- The block of new latents. -/
theorem latentBlock_at (x0 : Vec Ideal S1x512x1024 .bf16) (x1 : Vec Ideal S1024x1024 .bf16) (x2 : Vec Ideal S1x512x1024 .f32)
    (x3 : Vec Ideal S1x3x1024 .f32) (x4 : Vec Ideal S1x1024 .f32) (s : Fin 512) (k : Fin 1024) :
    out0_5 (F := Ideal) x0 x1 x2 x3 x4 (ix3 0 s k)
      = latent (fun k => x2 (ix3 0 s k)) (fun k => x3 (ix3 0 0 k)) (fun k => x0 (ix3 0 s k)) (fun j k => x1 (ix2 j k)) k := by
  unfold out0_5
  rw [View.canon_unit_zero (S := S1x512x1024) (by decide), View.ld_unit_zero (S := S1x512x1024) (by decide),
    View.ld_unit_zero (S := S1024x1024) (by decide), View.ld_unit_zero (S := S1x512x1024) (by decide)]
  pointwise [k0_pay2, k0_pay3]
  rfl

/-- The block of the next sub-layer's input. -/
theorem inputBlock_at (x0 : Vec Ideal S1x512x1024 .bf16) (x1 : Vec Ideal S1024x1024 .bf16) (x2 : Vec Ideal S1x512x1024 .f32)
    (x3 : Vec Ideal S1x3x1024 .f32) (x4 : Vec Ideal S1x1024 .f32) (s : Fin 512) (k : Fin 1024) :
    out0_6 (F := Ideal) x0 x1 x2 x3 x4 (ix3 0 s k)
      = rms (latent (fun k => x2 (ix3 0 s k)) (fun k => x3 (ix3 0 0 k)) (fun k => x0 (ix3 0 s k)) (fun j k => x1 (ix2 j k)))
          (fun k => x4 (ix2 0 k)) (fun k => x3 (ix3 0 1 k)) (fun k => x3 (ix3 0 2 k)) k := by
  unfold out0_6
  rw [View.canon_unit_zero (S := S1x512x1024) (by decide), View.ld_unit_zero (S := S1x512x1024) (by decide),
    View.ld_unit_zero (S := S1024x1024) (by decide), View.ld_unit_zero (S := S1x512x1024) (by decide), View.ld_unit_zero (S := S1x1024) (by decide)]
  pointwise [k0_pay1, k0_pay2, k0_pay4, k0_pay5, k0_pay6, k0_pay7]
  rfl

variable (m : (ℓ : Loc nD τ sig) → Buf (Elt Ideal) ℓ) (c : Dev nD)

/-- The batch entry of a grid point. -/
def batchOf (t : Fin cfg0.N) : Fin 16 := ⟨(grid0.coords t 0).val, (grid0.coords t 0).isLt⟩

/-- The tile of rows of a grid point. -/
def tileOf (t : Fin cfg0.N) : Fin 4 := ⟨(grid0.coords t 1).val, (grid0.coords t 1).isLt⟩

/-- The block of the attention's output at a grid point. -/
theorem index0 : ∀ t : Fin cfg0.N, win0_0.index t = ![(grid0.coords t 0).val, (grid0.coords t 1).val, 0] :=
  (by decide +kernel : ∀ t : Fin grid0.N, _)
/-- The block of weights at a grid point. -/
theorem index1 : ∀ t : Fin cfg0.N, win0_1.index t = ![0, 0] := (by decide +kernel : ∀ t : Fin grid0.N, _)
/-- The block of latents at a grid point. -/
theorem index2 : ∀ t : Fin cfg0.N, win0_2.index t = ![(grid0.coords t 0).val, (grid0.coords t 1).val, 0] :=
  (by decide +kernel : ∀ t : Fin grid0.N, _)
/-- The block of modulations at a grid point. -/
theorem index3 : ∀ t : Fin cfg0.N, win0_3.index t = ![(grid0.coords t 0).val, 0, 0] := (by decide +kernel : ∀ t : Fin grid0.N, _)
/-- The block of gains at a grid point. -/
theorem index4 : ∀ t : Fin cfg0.N, win0_4.index t = ![0, 0] := (by decide +kernel : ∀ t : Fin grid0.N, _)
/-- The block of new latents at a grid point. -/
theorem index5 : ∀ t : Fin cfg0.N, win0_5.index t = ![(grid0.coords t 0).val, (grid0.coords t 1).val, 0] :=
  (by decide +kernel : ∀ t : Fin grid0.N, _)
/-- The block of the next input at a grid point. -/
theorem index6 : ∀ t : Fin cfg0.N, win0_6.index t = ![(grid0.coords t 0).val, (grid0.coords t 1).val, 0] :=
  (by decide +kernel : ∀ t : Fin grid0.N, _)

/-- The attention's output as a grid point reads it. -/
theorem blk0_at (t : Fin cfg0.N) (s : Fin 512) (k : Fin 1024) :
    iblk m c 0 t (ix3 0 s k : S1x512x1024.Idx) = m ((c : Thread nD τ).loc main_arg0) (ix3 (batchOf t) (rowIn (tileOf t) s) k : S16x2048x1024.Idx) := by
  refine (congrFun (V_main_arg0 m c) _).trans (congrArg (m ((c : Thread nD τ).loc main_arg0)) ?_)
  blk_ext [index0] <;> rfl

/-- The latents as a grid point reads them. -/
theorem blk2_at (t : Fin cfg0.N) (s : Fin 512) (k : Fin 1024) :
    iblk m c 2 t (ix3 0 s k : S1x512x1024.Idx) = m ((c : Thread nD τ).loc main_arg2) (ix3 (batchOf t) (rowIn (tileOf t) s) k : S16x2048x1024.Idx) := by
  refine (congrFun (V_main_arg2 m c) _).trans (congrArg (m ((c : Thread nD τ).loc main_arg2)) ?_)
  blk_ext [index2] <;> rfl

/-- The weights as a grid point reads them: the argument's, the change of format being the identity. -/
theorem blk1_at (t : Fin cfg0.N) (j k : Fin 1024) :
    iblk m c 1 t (ix2 j k : S1024x1024.Idx) = m ((c : Thread nD τ).loc main_arg1) (ix2 j k : S1024x1024.Idx) := by
  have he : (win0_1.blk t).view.emb (ix2 j k : S1024x1024.Idx) = (ix2 j k : S1024x1024.Idx) := by blk_ext [index1]
  refine (congrArg (Gen.V m c main_v0) he).trans ?_
  unfold Gen.V
  after_reads_at

/-- The modulations as a grid point reads them. -/
theorem blk3_at (t : Fin cfg0.N) (s : Fin 3) (k : Fin 1024) :
    iblk m c 3 t (ix3 0 s k : S1x3x1024.Idx) = m ((c : Thread nD τ).loc main_arg3) (ix3 (batchOf t) s k : S16x3x1024.Idx) := by
  refine (congrFun (V_main_arg3 m c) _).trans (congrArg (m ((c : Thread nD τ).loc main_arg3)) ?_)
  blk_ext [index3]
  rfl

/-- The gains as a grid point reads them. -/
theorem blk4_at (t : Fin cfg0.N) (k : Fin 1024) :
    iblk m c 4 t (ix2 0 k : S1x1024.Idx) = m ((c : Thread nD τ).loc main_arg4) (ix2 0 k : S1x1024.Idx) := by
  refine (congrFun (V_main_arg4 m c) _).trans (congrArg (m ((c : Thread nD τ).loc main_arg4)) ?_)
  blk_ext [index4]

/-- An index of a block of rows. -/
theorem block_index (y : S1x512x1024.Idx) : y = ix3 0 (y 1) (y 2) := funext fun a => match a with
  | ⟨0, _⟩ => Fin.ext (by have h : (y 0).val < 1 := (y 0).isLt; show (y 0).val = 0; omega)
  | ⟨1, _⟩ => rfl
  | ⟨2, _⟩ => rfl

/-- The new latents' row `s` of batch entry `b`, of the arguments at launch. -/
abbrev latentOf (b : Fin 16) (s : Fin 2048) : Fin 1024 → EReal :=
  latent (fun k => m ((c : Thread nD τ).loc main_arg2) (ix3 b s k : S16x2048x1024.Idx))
    (fun k => m ((c : Thread nD τ).loc main_arg3) (ix3 b 0 k : S16x3x1024.Idx))
    (fun k => m ((c : Thread nD τ).loc main_arg0) (ix3 b s k : S16x2048x1024.Idx))
    (fun j k => m ((c : Thread nD τ).loc main_arg1) (ix2 j k : S1024x1024.Idx))

/-- The new latents after the run. -/
theorem latent_array : (dats m 0 c).arrAt 5 cfg0.N = fun i : S16x2048x1024.Idx => latentOf m c (i 0) (i 1) (i 2) := by
  refine (dats m 0 c).arrAt_eq_of_covers 5 _ (by decide +kernel) fun t hf y => ?_
  blk_simp
  rw [after0_5]
  obtain ⟨s, k, rfl⟩ : ∃ (s : Fin 512) (k : Fin 1024), y = (ix3 0 s k : S1x512x1024.Idx) := ⟨_, _, block_index y⟩
  have he : (win0_5.blk t).view.emb (ix3 0 s k : S1x512x1024.Idx) = (ix3 (batchOf t) (rowIn (tileOf t) s) k : S16x2048x1024.Idx) := by
    blk_ext [index5] <;> rfl
  rw [he]
  refine (latentBlock_at _ _ _ _ _ s k).trans ?_
  simp only [blk0_at, blk1_at, blk2_at, blk3_at]
  rfl

/-- The next sub-layer's input after the run. -/
theorem input_array : (dats m 0 c).arrAt 6 cfg0.N = fun i : S16x2048x1024.Idx =>
    rms (latentOf m c (i 0) (i 1)) (fun k => m ((c : Thread nD τ).loc main_arg4) (ix2 0 k : S1x1024.Idx))
      (fun k => m ((c : Thread nD τ).loc main_arg3) (ix3 (i 0) 1 k : S16x3x1024.Idx))
      (fun k => m ((c : Thread nD τ).loc main_arg3) (ix3 (i 0) 2 k : S16x3x1024.Idx)) (i 2) := by
  refine (dats m 0 c).arrAt_eq_of_covers 6 _ (by decide +kernel) fun t hf y => ?_
  blk_simp
  rw [after0_6]
  obtain ⟨s, k, rfl⟩ : ∃ (s : Fin 512) (k : Fin 1024), y = (ix3 0 s k : S1x512x1024.Idx) := ⟨_, _, block_index y⟩
  have he : (win0_6.blk t).view.emb (ix3 0 s k : S1x512x1024.Idx) = (ix3 (batchOf t) (rowIn (tileOf t) s) k : S16x2048x1024.Idx) := by
    blk_ext [index6] <;> rfl
  rw [he]
  refine (inputBlock_at _ _ _ _ _ s k).trans ?_
  simp only [blk0_at, blk1_at, blk2_at, blk3_at, blk4_at]
  rfl

end Cert.Kernel5Ideal.LIN

namespace Cert.Reference5Ideal.LIN

open Cert.LIN Cert.Reference5Ideal Cert.Reference5Ideal.Read Cert.Kernel5Ideal.LIN Idealize.ShloMosaic

variable (x0 : Vec Ideal S16x2048x1024 .bf16) (x1 : Vec Ideal S1024x1024 .f32) (x2 : Vec Ideal S16x2048x1024 .f32)
  (x3 : Vec Ideal S16x3x1024 .f32) (x4 : Vec Ideal S1x1024 .f32) (b : Fin 16) (s : Fin 2048) (k : Fin 1024)

/-- The reference's new latents. -/
theorem latent_at : val_main_v5 (F := Ideal) x0 x1 x2 x3 (ix3 b s k)
    = latent (fun k => x2 (ix3 b s k)) (fun k => x3 (ix3 b 0 k)) (fun k => x0 (ix3 b s k)) (fun j k => x1 (ix2 j k)) k := by
  pointwise [val_main_v0, val_main_v1, val_main_v2, val_main_v3, val_main_v4, val_main_v5]
  rfl

/-- The reference's next sub-layer's input. -/
theorem input_at : val_main_v28 (F := Ideal) x0 x1 x2 x3 x4 (ix3 b s k)
    = rms (latent (fun k => x2 (ix3 b s k)) (fun k => x3 (ix3 b 0 k)) (fun k => x0 (ix3 b s k)) (fun j k => x1 (ix2 j k)))
        (fun k => x4 (ix2 0 k)) (fun k => x3 (ix3 b 1 k)) (fun k => x3 (ix3 b 2 k)) k := by
  pointwise [val_main_v0, val_main_v1, val_main_v2, val_main_v3, val_main_v4, val_main_v5, val_main_v6, val_main_v7, val_main_cst,
    val_main_v8, val_main_v9, val_main_cst_0, val_main_v10, val_main_v11, val_main_cst_1, val_main_v12, val_main_v13, val_main_v14,
    val_main_v15, val_main_v16, val_main_v17, val_main_v18, val_main_v19, val_main_v20, val_main_v21, val_main_cst_2, val_main_v22,
    val_main_v23, val_main_v24, val_main_v25, val_main_v26, val_main_v27, val_main_v28]
  rfl

end Cert.Reference5Ideal.LIN

namespace Cert.Proof.LIN

open Idealize.ShloMosaic Idealize.ShloMosaic.StableHlo Idealize.SL.Sem Cert.Kernel5Ideal

/-- The out-projection reference's frame: its run keeps the arguments, and it declares no semaphore. -/
theorem frame_reference5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

/-- An argument array of the out-projection's kernel on a device. -/
abbrev arg5 (m : (ℓ : Loc nD τ sig) → Buf (Elt Ideal) ℓ) (c : Dev nD) (b : Ref sig .tc) := m ((c.tc : Thread nD τ).loc b)

/-- The odd out-projection's kernel and its reference end equal. -/
theorem algebraic5 : Cert.algebraic_Kernel5Ideal_Reference5Ideal := by
  intro m g m' g' _ ha
  refine ⟨fun c => Cert.Reference5Ideal.Read.val_main_v5 (F := Ideal) (arg5 m c main_arg0) (arg5 m c main_arg1) (arg5 m c main_arg2) (arg5 m c main_arg3),
    fun c => Cert.Reference5Ideal.Read.val_main_v28 (F := Ideal) (arg5 m c main_arg0) (arg5 m c main_arg1) (arg5 m c main_arg2) (arg5 m c main_arg3)
      (arg5 m c main_arg4), ?_, ?_⟩
  · refine (θ_run Cert.Kernel5Ideal.defs _ _).mono (fun r h c => ⟨(h c).1.trans ?_, (h c).2.1.trans ?_, (h c).2.2⟩)
      (Cert.Kernel5Ideal.Value.run_blocks (F := Ideal) m g)
    · exact (Cert.Kernel5Ideal.LIN.latent_array m c).trans (funext fun i =>
        ((congrArg _ (eq_ix3 i)).trans (Cert.Reference5Ideal.LIN.latent_at _ _ _ _ _ _ _)).symm)
    · exact (Cert.Kernel5Ideal.LIN.input_array m c).trans (funext fun i =>
        ((congrArg _ (eq_ix3 i)).trans (Cert.Reference5Ideal.LIN.input_at _ _ _ _ _ _ _ _)).symm)
  · refine (θ_run Cert.Reference5Ideal.defs _ _).mono (fun r h c => ⟨(h c).1.trans ?_, (h c).2.1.trans ?_, (h c).2.2⟩)
      (Cert.Reference5Ideal.Value.run (F := Ideal) m' g')
    · obtain ⟨e0, e1, e2, e3, e4⟩ := ha c
      refine (Cert.Reference5Ideal.Read.val_main_v5_eq (F := Ideal) _ _ _ _).trans ?_
      exact congr (congr (congr (congrArg (Cert.Reference5Ideal.Read.val_main_v5 (F := Ideal)) e0) e1) e2) e3
    · obtain ⟨e0, e1, e2, e3, e4⟩ := ha c
      refine (Cert.Reference5Ideal.Read.val_main_v28_eq (F := Ideal) _ _ _ _ _).trans ?_
      exact congr (congr (congr (congr (congrArg (Cert.Reference5Ideal.Read.val_main_v28 (F := Ideal)) e0) e1) e2) e3) e4

end Cert.Proof.LIN
-- ==== Proof.RT.Offsets.lean ====
/- Where the retrieval reads and writes at each turn of its loop, in closed form. -/
module

public import proofs.«01_k».proof.Proof.Gen.Kernel6Ideal.Loops
public import proofs.«01_k».proof.Proof.Gen.Kernel6Ideal.Frame

@[expose] public section

set_option maxRecDepth 16384

noncomputable section

namespace Cert.Kernel6Ideal.Route

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The loop's turn `k` writes the results of unit `k` and the scores of unit `k + 1`; the last unit follows the loop. -/

theorem off6_eq : ∀ k : Fin k0_t1_loop.trips, k0_off6 k = ![k.val % 2, 0, 0, 0] := by decide
theorem off7_eq : ∀ k : Fin k0_t1_loop.trips, k0_off7 k = ![k.val % 2, 1, 0, 0] := by decide
theorem off8_eq : ∀ k : Fin k0_t1_loop.trips, k0_off8 k = ![0, (k.val + 1) % 4 * 256, 0] := by decide
theorem off9_eq : ∀ k : Fin k0_t1_loop.trips, k0_off9 k = ![(k.val + 1) / 4, 0, 0] := by decide
theorem off10_eq : ∀ k : Fin k0_t1_loop.trips, k0_off10 k 1#32 = ![2 * ((k.val + 1) / 4) + 1, 0, 0] := by decide
theorem off11_eq : ∀ k : Fin k0_t1_loop.trips, k0_off11 k = ![(k.val + 1) % 2, 0, 0, 0] := by decide
theorem off12_eq : ∀ k : Fin k0_t1_loop.trips, k0_off12 k = ![(k.val + 1) % 2, 1, 0, 0] := by decide
theorem off13_eq : ∀ k : Fin k0_t1_loop.trips, k0_off13 k = ![0, 0, k.val / 4 * 8, k.val % 4 * 256] := by decide
theorem off14_eq : ∀ k : Fin k0_t1_loop.trips, k0_off14 k = ![0, 1, k.val / 4 * 8, k.val % 4 * 256] := by decide
theorem off15_eq : ∀ k : Fin k0_t1_loop.trips, k0_off15 k = ![0, 2, k.val / 4 * 8, k.val % 4 * 256] := by decide
theorem off16_eq : ∀ k : Fin k0_t1_loop.trips, k0_off16 k = ![0, 3, k.val / 4 * 8, k.val % 4 * 256] := by decide
theorem off17_eq : ∀ k : Fin k0_t1_loop.trips, k0_off17 k = ![0, 4, k.val / 4 * 8, k.val % 4 * 256] := by decide
theorem off18_eq : ∀ k : Fin k0_t1_loop.trips, k0_off18 k = ![0, 5, k.val / 4 * 8, k.val % 4 * 256] := by decide
theorem off19_eq : ∀ k : Fin k0_t1_loop.trips, k0_off19 k = ![0, 6, k.val / 4 * 8, k.val % 4 * 256] := by decide
theorem off20_eq : ∀ k : Fin k0_t1_loop.trips, k0_off20 k = ![0, 7, k.val / 4 * 8, k.val % 4 * 256] := by decide
theorem off21_eq : ∀ k : Fin k0_t1_loop.trips, k0_off21 k = ![0, 8, k.val / 4 * 8, k.val % 4 * 256] := by decide
theorem off22_eq : ∀ k : Fin k0_t1_loop.trips, k0_off22 k = ![0, 9, k.val / 4 * 8, k.val % 4 * 256] := by decide
theorem off23_eq : ∀ k : Fin k0_t1_loop.trips, k0_off23 k = ![0, 10, k.val / 4 * 8, k.val % 4 * 256] := by decide
theorem off24_eq : ∀ k : Fin k0_t1_loop.trips, k0_off24 k = ![0, 11, k.val / 4 * 8, k.val % 4 * 256] := by decide
theorem off25_eq : ∀ k : Fin k0_t1_loop.trips, k0_off25 k = ![0, 12, k.val / 4 * 8, k.val % 4 * 256] := by decide
theorem off26_eq : ∀ k : Fin k0_t1_loop.trips, k0_off26 k = ![0, 13, k.val / 4 * 8, k.val % 4 * 256] := by decide
theorem off27_eq : ∀ k : Fin k0_t1_loop.trips, k0_off27 k = ![0, 14, k.val / 4 * 8, k.val % 4 * 256] := by decide
theorem off28_eq : ∀ k : Fin k0_t1_loop.trips, k0_off28 k = ![0, 15, k.val / 4 * 8, k.val % 4 * 256] := by decide
theorem off29_eq : ∀ k : Fin k0_t1_loop.trips, k0_off29 k = ![0, k.val / 4 * 128, k.val % 4 * 256] := by decide
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off9 k) := ⟨_, off9_eq k⟩
instance (k : Fin k0_t1_loop.trips) : ClosedOff (k0_off11 k) := ⟨_, off11_eq k⟩
instance (k : Fin k0_t1_loop.trips) : ClosedOff (k0_off12 k) := ⟨_, off12_eq k⟩
instance (k : Fin k0_t1_loop.trips) : ClosedOff (k0_off13 k) := ⟨_, off13_eq k⟩
instance (k : Fin k0_t1_loop.trips) : ClosedOff (k0_off14 k) := ⟨_, off14_eq k⟩
instance (k : Fin k0_t1_loop.trips) : ClosedOff (k0_off15 k) := ⟨_, off15_eq k⟩
instance (k : Fin k0_t1_loop.trips) : ClosedOff (k0_off16 k) := ⟨_, off16_eq k⟩
instance (k : Fin k0_t1_loop.trips) : ClosedOff (k0_off17 k) := ⟨_, off17_eq k⟩
instance (k : Fin k0_t1_loop.trips) : ClosedOff (k0_off18 k) := ⟨_, off18_eq k⟩
instance (k : Fin k0_t1_loop.trips) : ClosedOff (k0_off19 k) := ⟨_, off19_eq k⟩
instance (k : Fin k0_t1_loop.trips) : ClosedOff (k0_off20 k) := ⟨_, off20_eq k⟩
instance (k : Fin k0_t1_loop.trips) : ClosedOff (k0_off21 k) := ⟨_, off21_eq k⟩
instance (k : Fin k0_t1_loop.trips) : ClosedOff (k0_off22 k) := ⟨_, off22_eq k⟩
instance (k : Fin k0_t1_loop.trips) : ClosedOff (k0_off23 k) := ⟨_, off23_eq k⟩
instance (k : Fin k0_t1_loop.trips) : ClosedOff (k0_off24 k) := ⟨_, off24_eq k⟩
instance (k : Fin k0_t1_loop.trips) : ClosedOff (k0_off25 k) := ⟨_, off25_eq k⟩
instance (k : Fin k0_t1_loop.trips) : ClosedOff (k0_off26 k) := ⟨_, off26_eq k⟩
instance (k : Fin k0_t1_loop.trips) : ClosedOff (k0_off27 k) := ⟨_, off27_eq k⟩
instance (k : Fin k0_t1_loop.trips) : ClosedOff (k0_off28 k) := ⟨_, off28_eq k⟩
instance (k : Fin k0_t1_loop.trips) : ClosedOff (k0_off29 k) := ⟨_, off29_eq k⟩

theorem off1_eq : k0_off1 = ![0, 0, 0] := by decide
instance : ClosedOff k0_off1 := ⟨_, off1_eq⟩
theorem off2_eq : k0_off2 = ![0, 0, 0] := by decide
instance : ClosedOff k0_off2 := ⟨_, off2_eq⟩
theorem off30_eq : k0_off30 = ![0, 0, 56, 768] := by decide
instance : ClosedOff k0_off30 := ⟨_, off30_eq⟩
theorem off31_eq : k0_off31 = ![0, 1, 56, 768] := by decide
instance : ClosedOff k0_off31 := ⟨_, off31_eq⟩
theorem off32_eq : k0_off32 = ![0, 2, 56, 768] := by decide
instance : ClosedOff k0_off32 := ⟨_, off32_eq⟩
theorem off33_eq : k0_off33 = ![0, 3, 56, 768] := by decide
instance : ClosedOff k0_off33 := ⟨_, off33_eq⟩
theorem off34_eq : k0_off34 = ![0, 4, 56, 768] := by decide
instance : ClosedOff k0_off34 := ⟨_, off34_eq⟩
theorem off35_eq : k0_off35 = ![0, 5, 56, 768] := by decide
instance : ClosedOff k0_off35 := ⟨_, off35_eq⟩
theorem off36_eq : k0_off36 = ![0, 6, 56, 768] := by decide
instance : ClosedOff k0_off36 := ⟨_, off36_eq⟩
theorem off37_eq : k0_off37 = ![0, 7, 56, 768] := by decide
instance : ClosedOff k0_off37 := ⟨_, off37_eq⟩
theorem off38_eq : k0_off38 = ![0, 8, 56, 768] := by decide
instance : ClosedOff k0_off38 := ⟨_, off38_eq⟩
theorem off39_eq : k0_off39 = ![0, 9, 56, 768] := by decide
instance : ClosedOff k0_off39 := ⟨_, off39_eq⟩
theorem off40_eq : k0_off40 = ![0, 10, 56, 768] := by decide
instance : ClosedOff k0_off40 := ⟨_, off40_eq⟩
theorem off41_eq : k0_off41 = ![0, 11, 56, 768] := by decide
instance : ClosedOff k0_off41 := ⟨_, off41_eq⟩
theorem off42_eq : k0_off42 = ![0, 12, 56, 768] := by decide
instance : ClosedOff k0_off42 := ⟨_, off42_eq⟩
theorem off43_eq : k0_off43 = ![0, 13, 56, 768] := by decide
instance : ClosedOff k0_off43 := ⟨_, off43_eq⟩
theorem off44_eq : k0_off44 = ![0, 14, 56, 768] := by decide
instance : ClosedOff k0_off44 := ⟨_, off44_eq⟩
theorem off45_eq : k0_off45 = ![0, 15, 56, 768] := by decide
instance : ClosedOff k0_off45 := ⟨_, off45_eq⟩
theorem off46_eq : k0_off46 = ![0, 896, 768] := by decide
instance : ClosedOff k0_off46 := ⟨_, off46_eq⟩

/-- A buffer held whole at its contents. -/
abbrev held (c : Dev nD) {S : Shape} {e : EltTy} (M : Memref sig .tc .vmem S e)
    (f : BufTy.Contents (Elt F) M.view.ty) : sProp 𝕄 :=
  M.view.loc (c : Thread nD τ) ↦[M.view.set]{fullShare} f

end Cert.Kernel6Ideal.Route

end
-- ==== Proof.RT.Run.lean ====
/- The retrieval's body run once, at any carrier: it stores within its buffers and ends. -/
module

public import proofs.«01_k».proof.Proof.RT.Offsets
public import proofs.«01_k».proof.Proof.Gen.Kernel6.Loops
public import proofs.«01_k».proof.Proof.Gen.Kernel6.Frame

@[expose] public section

set_option maxRecDepth 16384

noncomputable section

namespace Cert.Kernel6.Route

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The offsets are those of the program read at the extended reals. -/

instance (k : Fin k0_t1_loop.trips) : ClosedOff (k0_off6 k) := ⟨_, Cert.Kernel6Ideal.Route.off6_eq k⟩
instance (k : Fin k0_t1_loop.trips) : ClosedOff (k0_off7 k) := ⟨_, Cert.Kernel6Ideal.Route.off7_eq k⟩
instance (k : Fin k0_t1_loop.trips) : ClosedOff (k0_off8 k) := ⟨_, Cert.Kernel6Ideal.Route.off8_eq k⟩
instance (k : Fin k0_t1_loop.trips) : ClosedOff (k0_off9 k) := ⟨_, Cert.Kernel6Ideal.Route.off9_eq k⟩
instance (k : Fin k0_t1_loop.trips) : ClosedOff (k0_off11 k) := ⟨_, Cert.Kernel6Ideal.Route.off11_eq k⟩
instance (k : Fin k0_t1_loop.trips) : ClosedOff (k0_off12 k) := ⟨_, Cert.Kernel6Ideal.Route.off12_eq k⟩
instance (k : Fin k0_t1_loop.trips) : ClosedOff (k0_off13 k) := ⟨_, Cert.Kernel6Ideal.Route.off13_eq k⟩
instance (k : Fin k0_t1_loop.trips) : ClosedOff (k0_off14 k) := ⟨_, Cert.Kernel6Ideal.Route.off14_eq k⟩
instance (k : Fin k0_t1_loop.trips) : ClosedOff (k0_off15 k) := ⟨_, Cert.Kernel6Ideal.Route.off15_eq k⟩
instance (k : Fin k0_t1_loop.trips) : ClosedOff (k0_off16 k) := ⟨_, Cert.Kernel6Ideal.Route.off16_eq k⟩
instance (k : Fin k0_t1_loop.trips) : ClosedOff (k0_off17 k) := ⟨_, Cert.Kernel6Ideal.Route.off17_eq k⟩
instance (k : Fin k0_t1_loop.trips) : ClosedOff (k0_off18 k) := ⟨_, Cert.Kernel6Ideal.Route.off18_eq k⟩
instance (k : Fin k0_t1_loop.trips) : ClosedOff (k0_off19 k) := ⟨_, Cert.Kernel6Ideal.Route.off19_eq k⟩
instance (k : Fin k0_t1_loop.trips) : ClosedOff (k0_off20 k) := ⟨_, Cert.Kernel6Ideal.Route.off20_eq k⟩
instance (k : Fin k0_t1_loop.trips) : ClosedOff (k0_off21 k) := ⟨_, Cert.Kernel6Ideal.Route.off21_eq k⟩
instance (k : Fin k0_t1_loop.trips) : ClosedOff (k0_off22 k) := ⟨_, Cert.Kernel6Ideal.Route.off22_eq k⟩
instance (k : Fin k0_t1_loop.trips) : ClosedOff (k0_off23 k) := ⟨_, Cert.Kernel6Ideal.Route.off23_eq k⟩
instance (k : Fin k0_t1_loop.trips) : ClosedOff (k0_off24 k) := ⟨_, Cert.Kernel6Ideal.Route.off24_eq k⟩
instance (k : Fin k0_t1_loop.trips) : ClosedOff (k0_off25 k) := ⟨_, Cert.Kernel6Ideal.Route.off25_eq k⟩
instance (k : Fin k0_t1_loop.trips) : ClosedOff (k0_off26 k) := ⟨_, Cert.Kernel6Ideal.Route.off26_eq k⟩
instance (k : Fin k0_t1_loop.trips) : ClosedOff (k0_off27 k) := ⟨_, Cert.Kernel6Ideal.Route.off27_eq k⟩
instance (k : Fin k0_t1_loop.trips) : ClosedOff (k0_off28 k) := ⟨_, Cert.Kernel6Ideal.Route.off28_eq k⟩
instance (k : Fin k0_t1_loop.trips) : ClosedOff (k0_off29 k) := ⟨_, Cert.Kernel6Ideal.Route.off29_eq k⟩
instance : ClosedOff k0_off1 := ⟨_, Cert.Kernel6Ideal.Route.off1_eq⟩
instance : ClosedOff k0_off2 := ⟨_, Cert.Kernel6Ideal.Route.off2_eq⟩
instance : ClosedOff k0_off30 := ⟨_, Cert.Kernel6Ideal.Route.off30_eq⟩
instance : ClosedOff k0_off31 := ⟨_, Cert.Kernel6Ideal.Route.off31_eq⟩
instance : ClosedOff k0_off32 := ⟨_, Cert.Kernel6Ideal.Route.off32_eq⟩
instance : ClosedOff k0_off33 := ⟨_, Cert.Kernel6Ideal.Route.off33_eq⟩
instance : ClosedOff k0_off34 := ⟨_, Cert.Kernel6Ideal.Route.off34_eq⟩
instance : ClosedOff k0_off35 := ⟨_, Cert.Kernel6Ideal.Route.off35_eq⟩
instance : ClosedOff k0_off36 := ⟨_, Cert.Kernel6Ideal.Route.off36_eq⟩
instance : ClosedOff k0_off37 := ⟨_, Cert.Kernel6Ideal.Route.off37_eq⟩
instance : ClosedOff k0_off38 := ⟨_, Cert.Kernel6Ideal.Route.off38_eq⟩
instance : ClosedOff k0_off39 := ⟨_, Cert.Kernel6Ideal.Route.off39_eq⟩
instance : ClosedOff k0_off40 := ⟨_, Cert.Kernel6Ideal.Route.off40_eq⟩
instance : ClosedOff k0_off41 := ⟨_, Cert.Kernel6Ideal.Route.off41_eq⟩
instance : ClosedOff k0_off42 := ⟨_, Cert.Kernel6Ideal.Route.off42_eq⟩
instance : ClosedOff k0_off43 := ⟨_, Cert.Kernel6Ideal.Route.off43_eq⟩
instance : ClosedOff k0_off44 := ⟨_, Cert.Kernel6Ideal.Route.off44_eq⟩
instance : ClosedOff k0_off45 := ⟨_, Cert.Kernel6Ideal.Route.off45_eq⟩
instance : ClosedOff k0_off46 := ⟨_, Cert.Kernel6Ideal.Route.off46_eq⟩

/-- A buffer held whole at its contents. -/
abbrev held (c : Dev nD) {S : Shape} {e : EltTy} (M : Memref sig .tc .vmem S e)
    (f : BufTy.Contents (Elt F) M.view.ty) : sProp 𝕄 :=
  M.view.loc (c : Thread nD τ) ↦[M.view.set]{fullShare} f

set_option maxHeartbeats 4000000

set_option warn.classDefReducibility false in
/-- Before every turn each buffer is held, at whatever it then holds. -/
@[sl_loop] def loopInv (𝒱 : Variants) (c : Dev nD) (bd : Option 𝒱.V) (E : Set ℕ) (i : grid0.Coords) (arg2 : Memref sig .tc .vmem S1x1024x1024 .bf16) (harg2 : arg2.IsWhole) (arg3 : Memref sig .tc .vmem S8x1024x256 .bf16) (harg3 : arg3.IsWhole) (arg4 : Memref sig .tc .vmem S16x128x128 .bf16) (harg4 : arg4.IsWhole) (arg5 : Memref sig .tc .vmem S1x16x64x1024 .f32) (harg5 : arg5.IsWhole) (arg6 : Memref sig .tc .vmem S1x1024x1024 .bf16) (harg6 : arg6.IsWhole) (arg7 : Memref sig .tc .vmem S1x16x64x1024 .f32) (harg7 : arg7.IsWhole) (arg8 : Memref sig .tc .vmem S1x1024x1024 .bf16) (harg8 : arg8.IsWhole) (arg9 : Memref sig .tc .vmem S2x2x128x256 .f32) (harg9 : arg9.IsWhole) (arg10 : Memref sig .tc .vmem S2x16x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole)
    (v64 : FVec F S128x256 .f32) (v66 : BitVec 32) (v67 : BitVec 32) (v68 : BitVec 1) (v69 : BitVec 1)
    (X2 : BufTy.Contents (Elt F) arg2.view.ty) (X3 : BufTy.Contents (Elt F) arg3.view.ty) (X4 : BufTy.Contents (Elt F) arg4.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v64 v66 v67 v68 v69 where
  inv _ _ := iprop(held c arg2 X2 ∗ held c arg3 X3 ∗ held c arg4 X4 ∗ ∃ f5 : BufTy.Contents (Elt F) arg5.view.ty, ∃ f6 : BufTy.Contents (Elt F) arg6.view.ty, ∃ f7 : BufTy.Contents (Elt F) arg7.view.ty, ∃ f8 : BufTy.Contents (Elt F) arg8.view.ty, ∃ f9 : BufTy.Contents (Elt F) arg9.view.ty, ∃ f10 : BufTy.Contents (Elt F) arg10.view.ty, ∃ f11 : BufTy.Contents (Elt F) arg11.view.ty, ∃ f12 : BufTy.Contents (Elt F) arg12.view.ty, ∃ f13 : BufTy.Contents (Elt F) arg13.view.ty,
    held c arg5 f5 ∗ held c arg6 f6 ∗ held c arg7 f7 ∗ held c arg8 f8 ∗ held c arg9 f9 ∗ held c arg10 f10 ∗ held c arg11 f11 ∗ held c arg12 f12 ∗ held c arg13 f13)
  step k acc := by
    iintro ⟨H2, H3, H4, %f5, %f6, %f7, %f8, %f9, %f10, %f11, %f12, %f13, H5, H6, H7, H8, H9, H10, H11, H12, H13⟩
    sl_unfold [k0_t1_body]
    sl_exec
    sl_step
    isplitl [H2]; · iexact H2
    isplitl [H3]; · iexact H3
    isplitl [H4]; · iexact H4
    iexists _, _, _, _, _, _, _, _, _
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The whole body. -/
theorem run (c : Dev nD) (i : grid0.Coords) (arg2 : Memref sig .tc .vmem S1x1024x1024 .bf16) (harg2 : arg2.IsWhole) (arg3 : Memref sig .tc .vmem S8x1024x256 .bf16) (harg3 : arg3.IsWhole) (arg4 : Memref sig .tc .vmem S16x128x128 .bf16) (harg4 : arg4.IsWhole) (arg5 : Memref sig .tc .vmem S1x16x64x1024 .f32) (harg5 : arg5.IsWhole) (arg6 : Memref sig .tc .vmem S1x1024x1024 .bf16) (harg6 : arg6.IsWhole) (arg7 : Memref sig .tc .vmem S1x16x64x1024 .f32) (harg7 : arg7.IsWhole) (arg8 : Memref sig .tc .vmem S1x1024x1024 .bf16) (harg8 : arg8.IsWhole) (arg9 : Memref sig .tc .vmem S2x2x128x256 .f32) (harg9 : arg9.IsWhole) (arg10 : Memref sig .tc .vmem S2x16x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole)
    (x2 : Vec F S1x1024x1024 .bf16) (x3 : Vec F S8x1024x256 .bf16) (x4 : Vec F S16x128x128 .bf16) (K : PUnit → sProp 𝕄) :
    iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_peer_route i arg2 harg2 arg3 harg3 arg4 harg4 arg5 harg5 arg6 harg6 arg7 harg7 arg8 harg8 arg9 harg9 arg10 harg10 arg11 harg11 arg12 harg12 arg13 harg13) K := by
  simp only [cc0_peer_route_eq_skeleton]; unfold cc0_peer_route_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Kernel6.Route

end
-- ==== Proof.RT.Frame.lean ====
/- The retrieval's launch at any carrier: its results are let go, and its frame is kept. -/
module

public import proofs.«01_k».proof.Proof.RT.Run
public import Idealize.ShloMosaic.Lib.Pipeline.Frame

@[expose] public section

set_option maxRecDepth 16384

noncomputable section

namespace Cert.Kernel6.Route

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four results, of which nothing is kept. -/
def forgets0 : Fin 7 → Bool := ![false, false, false, true, true, true, true]

/-- What each window's staging buffer holds after a point: an operand's its block, a result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What the loop may use and need not describe: the five scratch buffers and the generator's register. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ ∃ r, prngReg c r) := by
  unfold Pipeline.ΦA
  rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq, after0_0, after0_1, after0_2]
  iintro ⟨⟨⟨S0, S1, S2, S3, S4⟩, Hg⟩, Ho, ⟨%d0, H0⟩, ⟨%d1, H1⟩, ⟨%d2, H2⟩, H3, H4, H5, H6⟩
  iapply (run c (grid0.coords t) _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body's obligation, the results let go. -/
theorem body_obligation (c : Dev nD) :
    BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every run ends, with the arrays behind the windows as they are described. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends, with the arguments and the counters as they were. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(((dats m 0 c).toRForget_arrAt_iff (fgt := forgets0) (w := 0) rfl _ _).1 ((h.1 c).1 0)).trans
        (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel6.Route

end
-- ==== Proof.RT.Scores.lean ====
/- What one unit of the retrieval's work computes at one index: the scores of a head's keys for a strip of tokens, the
   largest of them, and the exponentials of the differences. -/
module

public import proofs.«01_k».proof.Proof.Gen.Kernel6Ideal.Skeleton
public import Idealize.ShloMosaic.Lib.Pointwise
public import Idealize.ShloMosaic.Lib.Pipeline.ValueKit
public import Idealize.ShloMosaic.Lib.WritesUnit
public import proofs.«01_k».proof.Proof.NA.Real

@[expose] public section

set_option maxRecDepth 16384

noncomputable section

namespace Cert.Kernel6Ideal.Route

open Cert.Kernel6Ideal Cert.Kernel6Ideal.Gen Idealize.ShloMosaic Idealize.ShloMosaic.TcCoe Idealize.SL.Sem Idealize.ShloMosaic.Tactic

/-- The numbers of the rows. -/
abbrev io : IVec S16x256 32 := iota .tc S16x256 32 [0] iota_S16x256_d0_w32

/-- The accumulator a search starts from. -/
abbrev zeros : FVec Ideal S16x256 .f32 := k0_pay66

/-- A row other than the first, put in its place, leaves the first. -/
theorem keep (n : BitVec 32) (hn : n ≠ 0#32) (A B : FVec Ideal S16x256 .f32) (c : Fin 256) :
    select (cmpi .eq io (broadcast S16x256 n)) A B (ix2 0 c) = B (ix2 0 c) := by
  pointwise []
  have h : (0#32 == n) = false := beq_eq_false_iff_ne.2 hn.symm
  simp [IntOp.cmpi, Scalar.select, h]

/-- The first row's place. -/
theorem base (s : FVec Ideal S128x256 .f32) (c : Fin 256) :
    select (cmpi .eq io (broadcast S16x256 0#32))
      (broadcastTo S16x256 (shapeCast S1x256 (k0_pay68 s) shapeCasts_S1x256_S1x256) broadcasts_S1x256_S16x256) zeros (ix2 0 c)
      = Finset.univ.sup fun j => s (ix2 j c) := by
  pointwise [k0_pay68]
  rw [show Ideal.ofBits .f32 4286578688#32 = ⊥ from Cert.NA.ofBits_bot_f32]
  rfl

/-- The stored form of a table of sixteen rows. -/
theorem cast_row (A : FVec Ideal S16x256 .f32) (c : Fin 256) : shapeCast S1x16x256 A shapeCasts_S16x256_S1x16x256 (ix3 0 0 c) = A (ix2 0 c) := by
  pointwise []

/-- The first row of the trip's largest scores, as the search without ties stores it. -/
theorem fast_top (s : FVec Ideal S128x256 .f32) {x1 : FVec Ideal S128x256 .f32} {x2 : FVec Ideal S256 .f32} {x3 : FVec Ideal S128x256 .f32} {x4 : IVec S128x256 1} {x5 : FVec Ideal S128x256 .f32} {x6 : FVec Ideal S1x256 .f32} {x7 : FVec Ideal S128x256 .f32} {x8 : IVec S128x256 1} {x9 : FVec Ideal S1x256 .f32} (c : Fin 256) :
    (k0_pay311 (k0_pay280 io (k0_pay274 io x7 x8 (k0_pay264 io (k0_pay249 io x3 x4 (k0_pay239 io (k0_pay223 s) x1 x2)) x5 x6)) x9) : FVec Ideal S1x16x256 .f32) (ix3 0 0 c) = Finset.univ.sup fun j => s (ix2 j c) := by
  rw [k0_pay311]
  refine (cast_row _ c).trans ?_
  simp only [k0_pay280, k0_pay274, k0_pay264, k0_pay249, k0_pay239, k0_pay223]
  simp only [keep 1#32 (by decide), keep 2#32 (by decide), keep 3#32 (by decide), keep 4#32 (by decide), keep 5#32 (by decide), keep 6#32 (by decide), keep 7#32 (by decide), keep 8#32 (by decide), keep 9#32 (by decide), keep 10#32 (by decide), keep 11#32 (by decide), keep 12#32 (by decide), keep 13#32 (by decide), keep 14#32 (by decide), keep 15#32 (by decide)]
  exact base _ c

/-- The same for the search with ties. -/
theorem exact_top (s : FVec Ideal S128x256 .f32) {x1 : FVec Ideal S128x256 .f32} {x2 : FVec Ideal S128x256 .f32} {x3 : FVec Ideal S128x256 .f32} {x4 : FVec Ideal S128x256 .f32} {x5 : IVec S128x256 1} {x6 : FVec Ideal S128x256 .f32} {x7 : FVec Ideal S128x256 .f32} {x8 : FVec Ideal S1x256 .f32} {x9 : FVec Ideal S128x256 .f32} {x10 : FVec Ideal S128x256 .f32} {x11 : FVec Ideal S128x256 .f32} {x12 : FVec Ideal S1x256 .f32} {x13 : IVec S128x256 1} {x14 : FVec Ideal S128x256 .f32} {x15 : FVec Ideal S128x256 .f32} {x16 : IVec S128x256 1} {x17 : FVec Ideal S128x256 .f32} {x18 : FVec Ideal S128x256 .f32} {x19 : FVec Ideal S128x256 .f32} {x20 : FVec Ideal S1x256 .f32} {x21 : FVec Ideal S128x256 .f32} {x22 : FVec Ideal S128x256 .f32} {x23 : IVec S128x256 1} (c : Fin 256) :
    (k0_pay317 (k0_pay130 io x22 x23 (k0_pay127 io x18 (k0_pay114 io x14 x15 x16 (k0_pay105 io x10 (k0_pay94 io x6 (k0_pay85 io x3 x4 x5 (k0_pay78 s io x1 zeros (k0_pay68 s) x2)) x7 x8 x9) x11 x12 x13 7#32) x17) x19 x20 x21)) : FVec Ideal S1x16x256 .f32) (ix3 0 0 c) = Finset.univ.sup fun j => s (ix2 j c) := by
  rw [k0_pay317]
  refine (cast_row _ c).trans ?_
  simp only [k0_pay130, k0_pay127, k0_pay114, k0_pay105, k0_pay94, k0_pay85, k0_pay78]
  simp only [keep 1#32 (by decide), keep 2#32 (by decide), keep 3#32 (by decide), keep 4#32 (by decide), keep 5#32 (by decide), keep 6#32 (by decide), keep 7#32 (by decide), keep 8#32 (by decide), keep 9#32 (by decide), keep 10#32 (by decide), keep 11#32 (by decide), keep 12#32 (by decide), keep 13#32 (by decide), keep 14#32 (by decide), keep 15#32 (by decide)]
  exact base _ c

/-- The same for the last unit, without ties. -/
theorem fastLast_top (s : FVec Ideal S128x256 .f32) {x1 : IVec S128x256 1} {x2 : FVec Ideal S128x256 .f32} {x3 : IVec S128x256 1} {x4 : Ideal .f32} {x5 : FVec Ideal S128x256 .f32} {x6 : FVec Ideal S1x256 .f32} {x7 : IVec S128x256 1} {x8 : FVec Ideal S128x256 .f32} {x9 : IVec S128x256 1} {x10 : FVec Ideal S128x256 .f32} {x11 : FVec Ideal S128x256 .f32} {x12 : FVec Ideal S1x256 .f32} {x13 : IVec S128x256 1} (c : Fin 256) :
    (k0_pay678 (k0_pay639 io (k0_pay630 io x8 x9 (k0_pay618 io (k0_pay603 io x2 x3 (k0_pay592 s io zeros (k0_pay68 s) x1 0#32) x4) x5 x6 x7 k0_pay608) x10) x11 x12 x13 (k0_pay635 io)) : FVec Ideal S1x16x256 .f32) (ix3 0 0 c) = Finset.univ.sup fun j => s (ix2 j c) := by
  rw [k0_pay678]
  refine (cast_row _ c).trans ?_
  simp only [k0_pay639, k0_pay630, k0_pay618, k0_pay603, k0_pay592, k0_pay608, k0_pay635]
  simp only [keep 1#32 (by decide), keep 2#32 (by decide), keep 3#32 (by decide), keep 4#32 (by decide), keep 5#32 (by decide), keep 6#32 (by decide), keep 7#32 (by decide), keep 8#32 (by decide), keep 9#32 (by decide), keep 10#32 (by decide), keep 11#32 (by decide), keep 12#32 (by decide), keep 13#32 (by decide), keep 14#32 (by decide), keep 15#32 (by decide)]
  exact base _ c

/-- The same for the last unit, with ties. -/
theorem exactLast_top (s : FVec Ideal S128x256 .f32) {x1 : FVec Ideal S128x256 .f32} {x2 : FVec Ideal S128x256 .f32} {x3 : FVec Ideal S128x256 .f32} {x4 : FVec Ideal S128x256 .f32} {x5 : IVec S128x256 1} {x6 : FVec Ideal S128x256 .f32} {x7 : FVec Ideal S128x256 .f32} {x8 : FVec Ideal S1x256 .f32} {x9 : FVec Ideal S128x256 .f32} {x10 : FVec Ideal S128x256 .f32} {x11 : FVec Ideal S128x256 .f32} {x12 : FVec Ideal S1x256 .f32} {x13 : IVec S128x256 1} {x14 : FVec Ideal S128x256 .f32} {x15 : FVec Ideal S128x256 .f32} {x16 : IVec S128x256 1} {x17 : FVec Ideal S128x256 .f32} {x18 : FVec Ideal S128x256 .f32} {x19 : FVec Ideal S128x256 .f32} {x20 : FVec Ideal S1x256 .f32} {x21 : FVec Ideal S128x256 .f32} {x22 : FVec Ideal S128x256 .f32} {x23 : IVec S128x256 1} (c : Fin 256) :
    (k0_pay684 (k0_pay487 io x22 x23 (k0_pay484 io x18 (k0_pay471 io x14 x15 x16 (k0_pay462 io x10 (k0_pay451 io x6 (k0_pay442 io x3 x4 x5 (k0_pay435 s io x1 zeros (k0_pay68 s) x2)) x7 x8 x9) x11 x12 x13 7#32) x17) x19 x20 x21)) : FVec Ideal S1x16x256 .f32) (ix3 0 0 c) = Finset.univ.sup fun j => s (ix2 j c) := by
  rw [k0_pay684]
  refine (cast_row _ c).trans ?_
  simp only [k0_pay487, k0_pay484, k0_pay471, k0_pay462, k0_pay451, k0_pay442, k0_pay435]
  simp only [keep 1#32 (by decide), keep 2#32 (by decide), keep 3#32 (by decide), keep 4#32 (by decide), keep 5#32 (by decide), keep 6#32 (by decide), keep 7#32 (by decide), keep 8#32 (by decide), keep 9#32 (by decide), keep 10#32 (by decide), keep 11#32 (by decide), keep 12#32 (by decide), keep 13#32 (by decide), keep 14#32 (by decide), keep 15#32 (by decide)]
  exact base _ c

/-- A head's scores for a strip of tokens: the keys' products with the tokens' queries. -/
theorem scores_at (a : Vec Ideal S1x256x1024 .bf16) (b : Vec Ideal S1x1024x256 .bf16) (kk : Vec Ideal S1x128x128 .bf16) (j : Fin 128) (c : Fin 256) :
    k0_pay177 (F := Ideal) (k0_pay174 a b) kk (ix4 0 0 j c)
      = ∑ d : Fin 128, kk (ix3 0 j d) * ∑ e : Fin 1024, a (ix3 0 c e) * b (ix3 0 e ⟨128 + d.val, by omega⟩) := by
  pointwise [k0_pay177, k0_pay174]

/-- The first unit's scores are computed as the others'. -/
theorem scores_first (a : Vec Ideal S1x256x1024 .bf16) (b : Vec Ideal S1x1024x256 .bf16) (kk : Vec Ideal S1x128x128 .bf16) :
    k0_pay532 (F := Ideal) (k0_pay531 (k0_pay529 a b) kk) = k0_pay177 (k0_pay174 a b) kk := rfl

/-- The exponentials of the differences from the row `v`. -/
theorem exp_at (s : FVec Ideal S128x256 .f32) (v : Vec Ideal S1x1x256 .f32) (j : Fin 128) (c : Fin 256) :
    k0_pay534 (F := Ideal) s v (ix3 0 j c) = Ideal.exp (s (ix2 j c) - v (ix3 0 0 c)) := by
  pointwise [k0_pay534]

/-- The last unit's are computed as the others'. -/
theorem exp_last (s : FVec Ideal S128x256 .f32) (v : Vec Ideal S1x1x256 .f32) :
    k0_pay725 (F := Ideal) s v = k0_pay534 s v := rfl

/-! ## The tables of one unit of work

Unit `u` is head `u / 4` and the strip `u % 4` of 256 tokens. -/

variable (x2 : Vec Ideal S1x1024x1024 .bf16) (x3 : Vec Ideal S8x1024x256 .bf16) (x4 : Vec Ideal S16x128x128 .bf16)

/-- The score of key `j` of the second half for token `c` of unit `u`. -/
def score (u : Fin 32) (j : Fin 128) (c : Fin 256) : EReal :=
  ∑ d : Fin 128, x4 (ix3 ⟨2 * (u.val / 4) + 1, by omega⟩ j d)
    * ∑ e : Fin 1024, x2 (ix3 0 ⟨u.val % 4 * 256 + c.val, by omega⟩ e) * x3 (ix3 ⟨u.val / 4, by omega⟩ e ⟨128 + d.val, by omega⟩)

/-- The exponential of a score less the token's largest. -/
def expo (u : Fin 32) (j : Fin 128) (c : Fin 256) : EReal :=
  Ideal.exp (score x2 x3 x4 u j c - Finset.univ.sup fun j => score x2 x3 x4 u j c)

/-- The slot of unit `u` holds its scores of the second half. -/
def Scored (u : Fin 32) (g : Vec Ideal S2x2x128x256 .f32) : Prop :=
  ∀ j c, g (ix4 (⟨u.val % 2, by omega⟩ : Fin 2) 1 j c) = score x2 x3 x4 u j c

/-- The units before `n` are in the output block. -/
def Done (n : ℕ) (g : Vec Ideal S1x1024x1024 .bf16) : Prop :=
  ∀ u : Fin 32, u.val < n → ∀ j c,
    g (ix3 0 (⟨u.val / 4 * 128 + j.val, by omega⟩ : Fin 1024) (⟨u.val % 4 * 256 + c.val, by omega⟩ : Fin 1024)) = expo x2 x3 x4 u j c

variable {x2 x3 x4}

/-- A unit's block stored after the earlier ones'. -/
theorem done_step (M : Memref sig .tc .vmem S1x1024x1024 .bf16) (f : BufTy.Contents (Elt Ideal) M.view.ty) (u : Fin 32)
    (h : Done x2 x3 x4 u.val (M.view.read (Elt Ideal) f)) {off : Fin 3 → ℕ} (ho : off = ![0, u.val / 4 * 128, u.val % 4 * 256])
    (inb : ∀ a, off a + S1x128x256.size a ≤ S1x1024x1024.size a) (w : Vec Ideal S1x128x256 .bf16)
    (hw : ∀ j c, w (ix3 0 j c) = expo x2 x3 x4 u j c) :
    Done x2 x3 x4 (u.val + 1) (M.view.read (Elt Ideal) (M.view.writes (Elt Ideal) f [⟨Rect.unit (s := S1x1024x1024) off S1x128x256.size inb, w⟩])) := by
  intro u' hu' j c
  by_cases he : u' = u
  · subst he
    refine (View.read_writes_cons_unit_of_mem (M.view) f inb w [] _ (ix3 0 j c : S1x128x256.Idx) ho fun a => ?_).trans (hw j c)
    match a with
    | ⟨0, _⟩ => rfl
    | ⟨1, _⟩ => rfl
    | ⟨2, _⟩ => rfl
  · have hne : u'.val ≠ u.val := fun e => he (Fin.ext e)
    have hr : u'.val / 4 ≠ u.val / 4 ∨ u'.val % 4 ≠ u.val % 4 := by omega
    rcases hr with hr | hr
    · refine (View.read_writes_cons_unit_of_not_mem M.view f inb w [] _ ho (1 : Fin 3) ?_).trans (h u' (by omega) j c)
      show u'.val / 4 * 128 + j.val < u.val / 4 * 128 ∨ u.val / 4 * 128 + 128 ≤ u'.val / 4 * 128 + j.val
      omega
    · refine (View.read_writes_cons_unit_of_not_mem M.view f inb w [] _ ho (2 : Fin 3) ?_).trans (h u' (by omega) j c)
      show u'.val % 4 * 256 + c.val < u.val % 4 * 256 ∨ u.val % 4 * 256 + 256 ≤ u'.val % 4 * 256 + c.val
      omega

/-- A unit's scores stored in its slot. -/
theorem scored_step (M : Memref sig .tc .vmem S2x2x128x256 .f32) (f : BufTy.Contents (Elt Ideal) M.view.ty) (u : Fin 32)
    {off : Fin 4 → ℕ} (ho : off = ![u.val % 2, 1, 0, 0]) (inb : ∀ a, off a + S1x1x128x256.size a ≤ S2x2x128x256.size a)
    (w : Vec Ideal S1x1x128x256 .f32) (L : List (View.Piece (Elt Ideal) S2x2x128x256 .f32))
    (hw : ∀ j c, w (ix4 0 0 j c) = score x2 x3 x4 u j c) :
    Scored x2 x3 x4 u (M.view.read (Elt Ideal) (M.view.writes (Elt Ideal) f (⟨Rect.unit (s := S2x2x128x256) off S1x1x128x256.size inb, w⟩ :: L))) := by
  intro j c
  refine (View.read_writes_cons_unit_of_mem (M.view) f inb w L _ (ix4 0 0 j c : S1x1x128x256.Idx) ho fun a => ?_).trans (hw j c)
  match a with
  | ⟨0, _⟩ => rfl
  | ⟨1, _⟩ => rfl
  | ⟨2, _⟩ => exact (Nat.zero_add _).symm
  | ⟨3, _⟩ => exact (Nat.zero_add _).symm

/-- A slot's half seen as a table. -/
theorem cast_slot (g : FVec Ideal S1x1x128x256 .f32) (j : Fin 128) (c : Fin 256) :
    (shapeCast S128x256 g shapeCasts_S1x1x128x256_S128x256 : FVec Ideal S128x256 .f32) (ix2 j c) = g (ix4 0 0 j c) := by
  pointwise []

/-- A unit's scores read back from its slot. -/
theorem scored_read (M : Memref sig .tc .vmem S2x2x128x256 .f32) (f : BufTy.Contents (Elt Ideal) M.view.ty) (u : Fin 32)
    (h : Scored x2 x3 x4 u (M.view.read (Elt Ideal) f))
    {off : Fin 4 → ℕ} (ho : off = ![u.val % 2, 1, 0, 0]) (inb : ∀ a, off a + S1x1x128x256.size a ≤ S2x2x128x256.size a) (j : Fin 128) (c : Fin 256) :
    (shapeCast S128x256 (M.view.readAt (Elt Ideal) (Rect.unit (s := S2x2x128x256) off S1x1x128x256.size inb) f : Vec Ideal S1x1x128x256 .f32)
      shapeCasts_S1x1x128x256_S128x256 : FVec Ideal S128x256 .f32) (ix2 j c) = score x2 x3 x4 u j c := by
  refine (cast_slot _ j c).trans ?_
  rw [View.readAt_eq_ld]
  refine (View.ld_unit_apply_of _ off _ inb _ (ix4 (⟨u.val % 2, by omega⟩ : Fin 2) 1 j c) fun a => ?_).trans (h j c)
  subst ho
  match a with
  | ⟨0, _⟩ => rfl
  | ⟨1, _⟩ => rfl
  | ⟨2, _⟩ => exact (Nat.zero_add _).symm
  | ⟨3, _⟩ => exact (Nat.zero_add _).symm

/-- The first row of the second table, whichever of the two searches stored it. -/
theorem row_read (M : Memref sig .tc .vmem S2x16x256 .f32) (f : BufTy.Contents (Elt Ideal) M.view.ty) (P : Prop) [Decidable P]
    (A B : Vec Ideal S1x16x256 .f32) (L L' : List (View.Piece (Elt Ideal) S2x16x256 .f32))
    (inb : ∀ a, (![1, 0, 0] : Fin 3 → ℕ) a + S1x16x256.size a ≤ S2x16x256.size a)
    (inb' : ∀ a, (![1, 0, 0] : Fin 3 → ℕ) a + S1x1x256.size a ≤ S2x16x256.size a) (c : Fin 256) (m : EReal)
    (hA : A (ix3 0 0 c) = m) (hB : B (ix3 0 0 c) = m) :
    M.view.readAt (Elt Ideal) (Rect.unit (s := S2x16x256) ![1, 0, 0] S1x1x256.size inb')
      (if _ : P then M.view.writes (Elt Ideal) f (⟨Rect.unit (s := S2x16x256) ![1, 0, 0] S1x16x256.size inb, A⟩ :: L)
        else M.view.writes (Elt Ideal) f (⟨Rect.unit (s := S2x16x256) ![1, 0, 0] S1x16x256.size inb, B⟩ :: L')) (ix3 0 0 c : S1x1x256.Idx) = m := by
  have key : ∀ (W : Vec Ideal S1x16x256 .f32) (K : List (View.Piece (Elt Ideal) S2x16x256 .f32)), W (ix3 0 0 c) = m →
      M.view.readAt (Elt Ideal) (Rect.unit (s := S2x16x256) ![1, 0, 0] S1x1x256.size inb')
        (M.view.writes (Elt Ideal) f (⟨Rect.unit (s := S2x16x256) ![1, 0, 0] S1x16x256.size inb, W⟩ :: K)) (ix3 0 0 c : S1x1x256.Idx) = m := by
    intro W K hW
    rw [View.readAt_eq_ld]
    refine (View.ld_unit_apply_of _ _ _ inb' _ (ix3 1 0 c : S2x16x256.Idx) fun a => ?_).trans ?_
    · match a with
      | ⟨0, _⟩ => rfl
      | ⟨1, _⟩ => rfl
      | ⟨2, _⟩ => exact (Nat.zero_add _).symm
    · refine (View.read_writes_cons_unit_of_mem M.view f inb W K _ (ix3 0 0 c : S1x16x256.Idx) rfl fun a => ?_).trans hW
      match a with
      | ⟨0, _⟩ => rfl
      | ⟨1, _⟩ => rfl
      | ⟨2, _⟩ => exact (Nat.zero_add _).symm
  split
  · exact key A L hA
  · exact key B L' hB

/-- A unit's scores as the kernel computes them from its operands' blocks. -/
theorem scores_read (M2 : Memref sig .tc .vmem S1x1024x1024 .bf16) (h2 : M2.IsWhole) (M3 : Memref sig .tc .vmem S8x1024x256 .bf16) (h3 : M3.IsWhole)
    (M4 : Memref sig .tc .vmem S16x128x128 .bf16) (h4 : M4.IsWhole) (u : Fin 32) {o2 o3 o4 : Fin 3 → ℕ}
    (e2 : o2 = ![0, u.val % 4 * 256, 0]) (e3 : o3 = ![u.val / 4, 0, 0]) (e4 : o4 = ![2 * (u.val / 4) + 1, 0, 0])
    (i2 : ∀ a, o2 a + S1x256x1024.size a ≤ S1x1024x1024.size a) (i3 : ∀ a, o3 a + S1x1024x256.size a ≤ S8x1024x256.size a)
    (i4 : ∀ a, o4 a + S1x128x128.size a ≤ S16x128x128.size a) (j : Fin 128) (c : Fin 256) :
    k0_pay177 (F := Ideal) (k0_pay174 (M2.view.readAt (Elt Ideal) (Rect.unit (s := S1x1024x1024) o2 S1x256x1024.size i2) (h2.unread x2))
        (M3.view.readAt (Elt Ideal) (Rect.unit (s := S8x1024x256) o3 S1x1024x256.size i3) (h3.unread x3)))
      (M4.view.readAt (Elt Ideal) (Rect.unit (s := S16x128x128) o4 S1x128x128.size i4) (h4.unread x4)) (ix4 0 0 j c) = score x2 x3 x4 u j c := by
  refine (scores_at _ _ _ j c).trans ?_
  simp only [View.readAt_eq_ld, Memref.IsWhole.read_unread]
  subst e2 e3 e4
  refine Finset.sum_congr rfl fun d _ => congrArg₂ HMul.hMul ?_ (Finset.sum_congr rfl fun e _ => congrArg₂ HMul.hMul ?_ ?_)
  · refine View.ld_unit_apply_of _ _ _ i4 _ _ fun a => ?_
    match a with
    | ⟨0, _⟩ => rfl
    | ⟨1, _⟩ => exact (Nat.zero_add _).symm
    | ⟨2, _⟩ => exact (Nat.zero_add _).symm
  · refine View.ld_unit_apply_of _ _ _ i2 _ _ fun a => ?_
    match a with
    | ⟨0, _⟩ => rfl
    | ⟨1, _⟩ => rfl
    | ⟨2, _⟩ => exact (Nat.zero_add _).symm
  · refine View.ld_unit_apply_of _ _ _ i3 _ _ fun a => ?_
    match a with
    | ⟨0, _⟩ => rfl
    | ⟨1, _⟩ => exact (Nat.zero_add _).symm
    | ⟨2, _⟩ => exact (Nat.zero_add _).symm

end Cert.Kernel6Ideal.Route

end
-- ==== Proof.RT.Trip.lean ====
/- The retrieval's body run once at the extended reals: the scores' exponentials it leaves in the last result's block. -/
module

public import proofs.«01_k».proof.Proof.RT.Offsets
public import proofs.«01_k».proof.Proof.RT.Scores

@[expose] public section

set_option maxRecDepth 16384

noncomputable section

namespace Cert.Kernel6Ideal.Route

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 4000000

/-- What the loop keeps: the next unit's scores in their slot, and the results of the units already done. -/
structure Ready (x2 : Vec Ideal S1x1024x1024 .bf16) (x3 : Vec Ideal S8x1024x256 .bf16) (x4 : Vec Ideal S16x128x128 .bf16) (k : ℕ)
    (g8 : Vec Ideal S1x1024x1024 .bf16) (g9 : Vec Ideal S2x2x128x256 .f32) : Prop where
  scored : ∀ u : Fin 32, u.val = k → Scored x2 x3 x4 u g9
  done : Done x2 x3 x4 k g8

set_option warn.classDefReducibility false in
/-- Before every turn the operands' blocks are held as they came, and what the loop keeps holds. -/
@[sl_loop] def tripInv (𝒱 : Variants) (c : Dev nD) (bd : Option 𝒱.V) (E : Set ℕ) (i : grid0.Coords) (arg2 : Memref sig .tc .vmem S1x1024x1024 .bf16) (harg2 : arg2.IsWhole) (arg3 : Memref sig .tc .vmem S8x1024x256 .bf16) (harg3 : arg3.IsWhole) (arg4 : Memref sig .tc .vmem S16x128x128 .bf16) (harg4 : arg4.IsWhole) (arg5 : Memref sig .tc .vmem S1x16x64x1024 .f32) (harg5 : arg5.IsWhole) (arg6 : Memref sig .tc .vmem S1x1024x1024 .bf16) (harg6 : arg6.IsWhole) (arg7 : Memref sig .tc .vmem S1x16x64x1024 .f32) (harg7 : arg7.IsWhole) (arg8 : Memref sig .tc .vmem S1x1024x1024 .bf16) (harg8 : arg8.IsWhole) (arg9 : Memref sig .tc .vmem S2x2x128x256 .f32) (harg9 : arg9.IsWhole) (arg10 : Memref sig .tc .vmem S2x16x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole)
    (v64 : FVec Ideal S128x256 .f32) (v66 : BitVec 32) (v67 : BitVec 32) (v68 : BitVec 1) (v69 : BitVec 1)
    (x2 : Vec Ideal S1x1024x1024 .bf16) (x3 : Vec Ideal S8x1024x256 .bf16) (x4 : Vec Ideal S16x128x128 .bf16) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v64 v66 v67 v68 v69 where
  inv k _ := iprop(held c arg2 (harg2.unread x2) ∗ held c arg3 (harg3.unread x3) ∗ held c arg4 (harg4.unread x4) ∗ ∃ f5 : BufTy.Contents (Elt Ideal) arg5.view.ty, ∃ f6 : BufTy.Contents (Elt Ideal) arg6.view.ty, ∃ f7 : BufTy.Contents (Elt Ideal) arg7.view.ty, ∃ f8 : BufTy.Contents (Elt Ideal) arg8.view.ty, ∃ f9 : BufTy.Contents (Elt Ideal) arg9.view.ty, ∃ f10 : BufTy.Contents (Elt Ideal) arg10.view.ty, ∃ f11 : BufTy.Contents (Elt Ideal) arg11.view.ty, ∃ f12 : BufTy.Contents (Elt Ideal) arg12.view.ty, ∃ f13 : BufTy.Contents (Elt Ideal) arg13.view.ty,
    ⌜Ready x2 x3 x4 k (arg8.view.read (Elt Ideal) f8) (arg9.view.read (Elt Ideal) f9)⌝ ∗ held c arg5 f5 ∗ held c arg6 f6 ∗ held c arg7 f7 ∗ held c arg8 f8 ∗ held c arg9 f9 ∗ held c arg10 f10 ∗ held c arg11 f11 ∗ held c arg12 f12 ∗ held c arg13 f13)
  step k acc := by
    iintro ⟨H2, H3, H4, %f5, %f6, %f7, %f8, %f9, %f10, %f11, %f12, %f13, %hP, H5, H6, H7, H8, H9, H10, H11, H12, H13⟩
    sl_unfold [k0_t1_body]
    sl_exec
    sl_step
    isplitl [H2]; · iexact H2
    isplitl [H3]; · iexact H3
    isplitl [H4]; · iexact H4
    iexists _, _, _, _, _, _, _, _, _
    isplitr; swap
    · isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ipureintro
    have hk : k.val < 31 := lt_of_lt_of_eq k.isLt (by decide : k0_t1_loop.trips = 31)
    have hs := fun j c => scored_read arg9 f9 ⟨k.val, by omega⟩ (hP.scored ⟨k.val, by omega⟩ rfl) (off7_eq k) (k0_off7_inb k) j c
    refine ⟨fun u hu => scored_step arg9 f9 u ((off12_eq k).trans (by rw [hu])) _ _ _
      (scores_read arg2 harg2 arg3 harg3 arg4 harg4 u ((off8_eq k).trans (by rw [hu])) ((off9_eq k).trans (by rw [hu]))
        ((off10_eq k).trans (by rw [hu])) _ _ _), ?_⟩
    refine done_step arg8 f8 ⟨k.val, by omega⟩ hP.done (off29_eq k) _ _ fun j c => ?_
    refine (exp_at _ _ j c).trans (congrArg₂ (fun a b => Ideal.exp (a - b)) (hs j c) ?_)
    exact row_read arg10 _ _ _ _ _ _ _ _ c _ ((exact_top _ c).trans (congrArg (Finset.sup Finset.univ) (funext fun j => hs j c)))
      ((fast_top _ c).trans (congrArg (Finset.sup Finset.univ) (funext fun j => hs j c)))

/-- The whole body, with what it leaves of the last result. -/
theorem run_value (c : Dev nD) (i : grid0.Coords) (arg2 : Memref sig .tc .vmem S1x1024x1024 .bf16) (harg2 : arg2.IsWhole) (arg3 : Memref sig .tc .vmem S8x1024x256 .bf16) (harg3 : arg3.IsWhole) (arg4 : Memref sig .tc .vmem S16x128x128 .bf16) (harg4 : arg4.IsWhole) (arg5 : Memref sig .tc .vmem S1x16x64x1024 .f32) (harg5 : arg5.IsWhole) (arg6 : Memref sig .tc .vmem S1x1024x1024 .bf16) (harg6 : arg6.IsWhole) (arg7 : Memref sig .tc .vmem S1x16x64x1024 .f32) (harg7 : arg7.IsWhole) (arg8 : Memref sig .tc .vmem S1x1024x1024 .bf16) (harg8 : arg8.IsWhole) (arg9 : Memref sig .tc .vmem S2x2x128x256 .f32) (harg9 : arg9.IsWhole) (arg10 : Memref sig .tc .vmem S2x16x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole)
    (x2 : Vec Ideal S1x1024x1024 .bf16) (x3 : Vec Ideal S8x1024x256 .bf16) (x4 : Vec Ideal S16x128x128 .bf16) (K : PUnit → sProp 𝕄) :
    iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ d, owns (c : Thread nD τ) arg6 fullShare d) ∗ (∃ d, owns (c : Thread nD τ) arg7 fullShare d) ∗ (∃ d, ⌜Done x2 x3 x4 32 d⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ (cc0_peer_route i arg2 harg2 arg3 harg3 arg4 harg4 arg5 harg5 arg6 harg6 arg7 harg7 arg8 harg8 arg9 harg9 arg10 harg10 arg11 harg11 arg12 harg12 arg13 harg13) K := by
  simp only [cc0_peer_route_eq_skeleton]; unfold cc0_peer_route_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4
  have h0 : Ready x2 x3 x4 0 (arg8.view.read (Elt Ideal) f8) (arg9.view.read (Elt Ideal) (arg9.view.writes (Elt Ideal) f9
      [⟨Rect.unit (s := S2x2x128x256) ![0, 1, 0, 0] S1x1x128x256.size (by decide), k0_pay532 (k0_pay531 (k0_pay529
          (arg2.view.readAt (Elt Ideal) (Rect.unit (s := S1x1024x1024) ![0, 0, 0] S1x256x1024.size (by decide)).toLoadRect (harg2.unread x2))
          (arg3.view.readAt (Elt Ideal) (Rect.unit (s := S8x1024x256) ![0, 0, 0] S1x1024x256.size (by decide)).toLoadRect (harg3.unread x3)))
          (arg4.view.readAt (Elt Ideal) (Rect.unit (s := S16x128x128) ![1, 0, 0] S1x128x128.size (by decide)).toLoadRect (harg4.unread x4)))⟩,
        ⟨Rect.unit (s := S2x2x128x256) ![0, 0, 0, 0] S1x1x128x256.size (by decide), k0_pay530 (k0_pay529
          (arg2.view.readAt (Elt Ideal) (Rect.unit (s := S1x1024x1024) ![0, 0, 0] S1x256x1024.size (by decide)).toLoadRect (harg2.unread x2))
          (arg3.view.readAt (Elt Ideal) (Rect.unit (s := S8x1024x256) ![0, 0, 0] S1x1024x256.size (by decide)).toLoadRect (harg3.unread x3)))
          (arg4.view.readAt (Elt Ideal) (Rect.unit (s := S16x128x128) ![0, 0, 0] S1x128x128.size (by decide)).toLoadRect (harg4.unread x4))⟩])) := by
    refine ⟨fun u hu => scored_step arg9 f9 u (by rw [hu]) _ _ _ (fun j c => (congrFun (scores_first _ _ _) _).trans
      (scores_read arg2 harg2 arg3 harg3 arg4 harg4 u (by rw [hu]) (by rw [hu]) (by rw [hu]) _ _ _ j c)), fun u hu => absurd hu (Nat.not_lt_zero _)⟩
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _
    isplitr; swap; · iexists _; isplitr; swap; · iexact H8
                     ipureintro; rfl
    ipureintro
    rw [(by decide : Scf.trips k0_t1_loop.lb k0_t1_loop.ub k0_t1_loop.st = 31)] at hL3
    have hs := fun j c => scored_read arg9 f9L4 31 (hL3.scored 31 rfl) (off := ![1, 1, 0, 0]) rfl (by decide) j c
    refine done_step arg8 f8L3 31 hL3.done off46_eq _ _ fun j c => ?_
    refine (exp_at _ _ j c).trans (congrArg₂ (fun a b => Ideal.exp (a - b)) (hs j c) ?_)
    exact row_read arg10 _ _ _ _ _ _ _ _ c _ ((exactLast_top _ c).trans (congrArg (Finset.sup Finset.univ) (funext fun j => hs j c)))
      ((fastLast_top _ c).trans (congrArg (Finset.sup Finset.univ) (funext fun j => hs j c)))
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Kernel6Ideal.Route

end
-- ==== Proof.RT.Launch.lean ====
/- The retrieval's launch at the extended reals: the first three results are let go, and the last is kept block by block. -/
module

public import proofs.«01_k».proof.Proof.RT.Trip
public import Idealize.ShloMosaic.Lib.Pipeline.Frame

@[expose] public section

set_option maxRecDepth 16384

noncomputable section

namespace Cert.Kernel6Ideal.Route

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The last result's block: at a key of a head and a token, the exponential of the key's score less the largest. -/
def block (x2 : Vec Ideal S1x1024x1024 .bf16) (x3 : Vec Ideal S8x1024x256 .bf16) (x4 : Vec Ideal S16x128x128 .bf16) : Vec Ideal S1x1024x1024 .bf16 :=
  fun y => expo x2 x3 x4 ⟨(y 1).val / 128 * 4 + (y 2).val / 256, by have h1 : (y 1).val < 1024 := (y 1).isLt; have h2 : (y 2).val < 1024 := (y 2).isLt; omega⟩
    ⟨(y 1).val % 128, Nat.mod_lt _ (by decide)⟩ ⟨(y 2).val % 256, Nat.mod_lt _ (by decide)⟩

/-- Once every unit is done, the block is whole. -/
theorem block_of_done {x2 : Vec Ideal S1x1024x1024 .bf16} {x3 : Vec Ideal S8x1024x256 .bf16} {x4 : Vec Ideal S16x128x128 .bf16}
    {d : Vec Ideal S1x1024x1024 .bf16} (h : Done x2 x3 x4 32 d) : d = block x2 x3 x4 := by
  funext y
  have h0 : (y 0).val < 1 := (y 0).isLt
  have h1 : (y 1).val < 1024 := (y 1).isLt
  have h2 : (y 2).val < 1024 := (y 2).isLt
  refine (congrArg d ?_).trans (h ⟨(y 1).val / 128 * 4 + (y 2).val / 256, by omega⟩ (by show _ < 32; omega)
    ⟨(y 1).val % 128, Nat.mod_lt _ (by decide)⟩ ⟨(y 2).val % 256, Nat.mod_lt _ (by decide)⟩)
  funext a
  match a with
  | ⟨0, _⟩ => exact Fin.ext (by show (y 0).val = 0; omega)
  | ⟨1, _⟩ => exact Fin.ext (by show (y 1).val = ((y 1).val / 128 * 4 + (y 2).val / 256) / 4 * 128 + (y 1).val % 128; omega)
  | ⟨2, _⟩ => exact Fin.ext (by show (y 2).val = ((y 1).val / 128 * 4 + (y 2).val / 256) % 4 * 256 + (y 2).val % 256; omega)

variable (m : (ℓ : Loc nD τ sig) → Buf (Elt Ideal) ℓ) (ρ : Dev nD → PrngReg)

/-- The three results of which nothing is kept. -/
def forgets0 : Fin 7 → Bool := ![false, false, false, true, true, true, false]

/-- What each window's staging buffer holds after a point: an operand's its block, the last result's the block of exponentials. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => block (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_6 (c : Dev nD) (t : Fin cfg0.N) : (dats m 0 c).after 6 t = block (iblk m c 0 t) (iblk m c 1 t) (iblk m c 2 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What the loop may use and need not describe: the five scratch buffers and the generator's register. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ ∃ r, prngReg c r) := by
  unfold Pipeline.ΦA
  rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ owns (c : Thread nD τ) (st0_6 t) fullShare ((dats m 0 c).after 6 t))

/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq, after0_0, after0_1, after0_2, after0_6]
  iintro ⟨⟨⟨S0, S1, S2, S3, S4⟩, Hg⟩, Ho, ⟨%d0, H0⟩, ⟨%d1, H1⟩, ⟨%d2, H2⟩, H3, H4, H5, ⟨%d6, H6⟩⟩
  iapply (run_value c (grid0.coords t) _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, H4, H5, ⟨%d, %hd, H6⟩, S0, S1, S2, S3, S4⟩
  obtain rfl := block_of_done hd
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) : defs₀ (F := Ideal) .tc cfg0.body (cfg0.bodyArgs t (cfg0.slots t)) = bodyAt0 t := by
  unfold defs₀; rw [Defs.onTc_tc]

/-- The body's obligation, the three results let go. -/
theorem body_obligation (c : Dev nD) :
    BodyObligation (dats m 0 c) (defs₀ (F := Ideal)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every run ends, with the last result's array as its blocks make it. -/
theorem run_main :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run: the last result's array, the arguments, and the counters. -/
theorem run_result :
    θ_run defs (onTc (τ := τ) (main (F := Ideal))) (s₀ m ρ) (fun r => (∀ c : Dev nD,
      r.2.mem ((c.tc : Thread nD τ).loc main_v5_3) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((dats m 0 c).toRForget_arrAt_iff (fgt := forgets0) (w := 6) rfl _ _).1 ((h.1 c).1 6),
      (((dats m 0 c).toRForget_arrAt_iff (fgt := forgets0) (w := 0) rfl _ _).1 ((h.1 c).1 0)).trans
        (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel6Ideal.Route

end
-- ==== Proof.RT.Retrieve.lean ====
/- The retrieval's last result: what its kernel's array holds after the run, what its reference's holds, and that the two
   are equal. -/
module

public import proofs.«01_k».proof.Defs
public import proofs.«01_k».proof.Proof.Gen.Reference6Ideal.Read
public import proofs.«01_k».proof.Proof.RT.Launch
public import Idealize.ShloMosaic.Lib.StableHlo.ReadAt

@[expose] public section

set_option maxRecDepth 16384
noncomputable section

namespace Cert.Kernel6Ideal.Route

open Idealize.ShloMosaic Idealize.ShloMosaic.TcCoe Idealize.SL.Sem Idealize.ShloMosaic.Tactic
open Cert.Kernel6Ideal Cert.Kernel6Ideal.Gen
open Idealize.ShloMosaic.Pipeline (Dat)

/-- The score of key `j` of head `h`'s second half for token `s` of batch entry `b`, of the call's arguments. -/
def keyScore (x0 : Vec Ideal S16x2048x1024 .bf16) (x1 : Vec Ideal S1024x2048 .f32) (x2 : Vec Ideal S8x2x128x128 .f32)
    (b : Fin 16) (s : Fin 2048) (h : Fin 8) (j : Fin 128) : EReal :=
  ∑ d : Fin 128, x2 (ix4 h 1 j d) * ∑ e : Fin 1024, x0 (ix3 b s e) * x1 (ix2 e ⟨h.val * 256 + 128 + d.val, by omega⟩)

/-- The last result at row `r`, a key of a head. -/
def keyExp (x0 : Vec Ideal S16x2048x1024 .bf16) (x1 : Vec Ideal S1024x2048 .f32) (x2 : Vec Ideal S8x2x128x128 .f32)
    (b : Fin 16) (r : Fin 1024) (s : Fin 2048) : EReal :=
  Ideal.exp (keyScore x0 x1 x2 b s ⟨r.val / 128, by omega⟩ ⟨r.val % 128, Nat.mod_lt _ (by decide)⟩
    - Finset.univ.sup fun j => keyScore x0 x1 x2 b s ⟨r.val / 128, by omega⟩ j)

variable (m : (ℓ : Loc nD τ sig) → Buf (Elt Ideal) ℓ) (c : Dev nD)

/-- The batch entry of a grid point. -/
def batchOf (t : Fin cfg0.N) : Fin 16 := ⟨(grid0.coords t 0).val, (grid0.coords t 0).isLt⟩

/-- The token of a grid point's tile. -/
def tokenOf (t : Fin cfg0.N) (s : Fin 1024) : Fin 2048 :=
  ⟨(grid0.coords t 1).val * 1024 + s.val, by have h : (grid0.coords t 1).val < 2 := (grid0.coords t 1).isLt; omega⟩

/-- The block of tokens at a grid point. -/
theorem index0 : ∀ t : Fin cfg0.N, win0_0.index t = ![(grid0.coords t 0).val, (grid0.coords t 1).val, 0] :=
  (by decide +kernel : ∀ t : Fin grid0.N, _)
/-- The block of query weights at a grid point. -/
theorem index1 : ∀ t : Fin cfg0.N, win0_1.index t = ![0, 0, 0] := (by decide +kernel : ∀ t : Fin grid0.N, _)
/-- The block of keys at a grid point. -/
theorem index2 : ∀ t : Fin cfg0.N, win0_2.index t = ![0, 0, 0] := (by decide +kernel : ∀ t : Fin grid0.N, _)
/-- The block of the last result at a grid point. -/
theorem index6 : ∀ t : Fin cfg0.N, win0_6.index t = ![(grid0.coords t 0).val, 0, (grid0.coords t 1).val] :=
  (by decide +kernel : ∀ t : Fin grid0.N, _)

/-- The tokens as a grid point reads them. -/
theorem blk0_at (t : Fin cfg0.N) (s k : Fin 1024) :
    iblk m c 0 t (ix3 0 s k : S1x1024x1024.Idx) = m ((c : Thread nD τ).loc main_arg0) (ix3 (batchOf t) (tokenOf t s) k : S16x2048x1024.Idx) := by
  refine (congrFun (V_main_arg0 m c) _).trans (congrArg (m ((c : Thread nD τ).loc main_arg0)) ?_)
  blk_ext [index0] <;> rfl

/-- The query weights as a grid point reads them. -/
theorem blk1_at (t : Fin cfg0.N) (h : Fin 8) (e : Fin 1024) (k : Fin 256) :
    iblk m c 1 t (ix3 h e k : S8x1024x256.Idx) = m ((c : Thread nD τ).loc main_arg1) (ix2 e ⟨h.val * 256 + k.val, by omega⟩ : S1024x2048.Idx) := by
  have he : (win0_1.blk t).view.emb (ix3 h e k : S8x1024x256.Idx) = (ix3 h e k : S8x1024x256.Idx) := by blk_ext [index1]
  refine (congrArg (Gen.V m c main_v2) he).trans ?_
  unfold Gen.V
  after_reads_at

/-- The keys as a grid point reads them. -/
theorem blk2_at (t : Fin cfg0.N) (p : Fin 16) (j d : Fin 128) :
    iblk m c 2 t (ix3 p j d : S16x128x128.Idx)
      = m ((c : Thread nD τ).loc main_arg2) (ix4 ⟨p.val / 2, by omega⟩ ⟨p.val % 2, by omega⟩ j d : S8x2x128x128.Idx) := by
  have he : (win0_2.blk t).view.emb (ix3 p j d : S16x128x128.Idx) = (ix3 p j d : S16x128x128.Idx) := by blk_ext [index2]
  refine (congrArg (Gen.V m c main_v4) he).trans ?_
  unfold Gen.V
  after_reads_at

/-- A unit's scores in the call's arguments. -/
theorem score_eq (t : Fin cfg0.N) (u : Fin 32) (j : Fin 128) (s : Fin 256) :
    score (iblk m c 0 t) (iblk m c 1 t) (iblk m c 2 t) u j s
      = keyScore (m ((c : Thread nD τ).loc main_arg0)) (m ((c : Thread nD τ).loc main_arg1)) (m ((c : Thread nD τ).loc main_arg2))
          (batchOf t) (tokenOf t ⟨u.val % 4 * 256 + s.val, by omega⟩) ⟨u.val / 4, by omega⟩ j := by
  unfold score keyScore
  refine Finset.sum_congr rfl fun d _ => congrArg₂ HMul.hMul ((blk2_at m c t _ j d).trans (congrArg (m ((c : Thread nD τ).loc main_arg2)) ?_))
    (Finset.sum_congr rfl fun e _ => congrArg₂ HMul.hMul (blk0_at m c t _ e) ((blk1_at m c t _ e _).trans (congrArg (m ((c : Thread nD τ).loc main_arg1)) ?_)))
  · funext a
    match a with
    | ⟨0, _⟩ => exact Fin.ext (by show (2 * (u.val / 4) + 1) / 2 = u.val / 4; omega)
    | ⟨1, _⟩ => exact Fin.ext (by show (2 * (u.val / 4) + 1) % 2 = 1; omega)
    | ⟨2, _⟩ => rfl
    | ⟨3, _⟩ => rfl
  · funext a
    match a with
    | ⟨0, _⟩ => rfl
    | ⟨1, _⟩ => exact Fin.ext (by show u.val / 4 * 256 + (128 + d.val) = u.val / 4 * 256 + 128 + d.val; omega)

/-- An index of a result's block. -/
theorem block_index (y : S1x1024x1024.Idx) : y = ix3 0 (y 1) (y 2) := funext fun a => match a with
  | ⟨0, _⟩ => Fin.ext (by have h : (y 0).val < 1 := (y 0).isLt; show (y 0).val = 0; omega)
  | ⟨1, _⟩ => rfl
  | ⟨2, _⟩ => rfl

/-- The block of the last result in the call's arguments. -/
theorem block_at (t : Fin cfg0.N) (r s : Fin 1024) :
    block (iblk m c 0 t) (iblk m c 1 t) (iblk m c 2 t) (ix3 0 r s)
      = keyExp (m ((c : Thread nD τ).loc main_arg0)) (m ((c : Thread nD τ).loc main_arg1)) (m ((c : Thread nD τ).loc main_arg2))
          (batchOf t) r (tokenOf t s) := by
  have hs : ∀ h : r.val / 128 * 4 + s.val / 256 < 32, ∀ j, score (iblk m c 0 t) (iblk m c 1 t) (iblk m c 2 t) ⟨r.val / 128 * 4 + s.val / 256, h⟩ j ⟨s.val % 256, Nat.mod_lt _ (by decide)⟩
      = keyScore (m ((c : Thread nD τ).loc main_arg0)) (m ((c : Thread nD τ).loc main_arg1)) (m ((c : Thread nD τ).loc main_arg2))
          (batchOf t) (tokenOf t s) ⟨r.val / 128, by omega⟩ j := fun h j => by
    refine (score_eq m c t _ j _).trans (congr (congrArg (keyScore _ _ _ (batchOf t)) (congrArg (tokenOf t) (Fin.ext ?_))) (Fin.ext ?_) |> (congrFun · j))
    · show (r.val / 128 * 4 + s.val / 256) % 4 * 256 + s.val % 256 = s.val; omega
    · show (r.val / 128 * 4 + s.val / 256) / 4 = r.val / 128; omega
  exact congrArg₂ (fun a b => Ideal.exp (a - b)) (hs _ _) (congrArg (Finset.sup Finset.univ) (funext fun j => hs _ j))

/-- The last result after the run. -/
theorem result_array : (dats m 0 c).arrAt 6 cfg0.N = fun i : S16x1024x2048.Idx =>
    keyExp (m ((c : Thread nD τ).loc main_arg0)) (m ((c : Thread nD τ).loc main_arg1)) (m ((c : Thread nD τ).loc main_arg2)) (i 0) (i 1) (i 2) := by
  refine (dats m 0 c).arrAt_eq_of_covers 6 _ (by decide +kernel) fun t hf y => ?_
  blk_simp
  rw [after0_6]
  obtain ⟨r, s, rfl⟩ : ∃ r s : Fin 1024, y = (ix3 0 r s : S1x1024x1024.Idx) := ⟨_, _, block_index y⟩
  have he : (win0_6.blk t).view.emb (ix3 0 r s : S1x1024x1024.Idx) = (ix3 (batchOf t) r (tokenOf t s) : S16x1024x2048.Idx) := by
    blk_ext [index6] <;> rfl
  rw [he]
  exact block_at m c t r s

end Cert.Kernel6Ideal.Route

namespace Cert.Reference6Ideal.Route

open Cert.Reference6Ideal Cert.Reference6Ideal.Read Cert.Reference6Ideal.Gen Cert.Kernel6Ideal.Route Idealize.ShloMosaic

variable (x0 : Vec Ideal S16x2048x1024 .bf16) (x1 : Vec Ideal S1024x2048 .f32) (x2 : Vec Ideal S8x2x128x128 .f32)

/-- The reference's query at a token, a head, a half and a coordinate. -/
theorem query_at (n : Fin 32768) (h : Fin 8) (d : Fin 128) : val_main_v3 (F := Ideal) x0 x1 (ix4 n h 1 d)
    = ∑ e : Fin 1024, x0 (ix3 ⟨n.val / 2048, by omega⟩ ⟨n.val % 2048, by omega⟩ e) * x1 (ix2 e ⟨h.val * 256 + 128 + d.val, by omega⟩) := by
  rw [val_main_v3_apply, val_main_v2_apply]
  refine Finset.sum_congr rfl fun e _ => congrArg₂ HMul.hMul ?_ (congrArg x1 ?_)
  · rw [val_main_v1_apply, val_main_v0_apply]
    refine congrArg x0 (funext fun a => ?_)
    match a with
    | ⟨0, _⟩ => exact Fin.ext (by show ((((n.val * 8 + h.val) * 2 + 1) * 128 + d.val) / 2048 * 1024 + e.val) / 2097152 = n.val / 2048; omega)
    | ⟨1, _⟩ => exact Fin.ext (by show ((((n.val * 8 + h.val) * 2 + 1) * 128 + d.val) / 2048 * 1024 + e.val) / 1024 % 2048 = n.val % 2048; omega)
    | ⟨2, _⟩ => exact Fin.ext (by show ((((n.val * 8 + h.val) * 2 + 1) * 128 + d.val) / 2048 * 1024 + e.val) % 1024 = e.val; omega)
  · funext a
    match a with
    | ⟨0, _⟩ => rfl
    | ⟨1, _⟩ => exact Fin.ext (by show (((n.val * 8 + h.val) * 2 + 1) * 128 + d.val) % 2048 = h.val * 256 + 128 + d.val; omega)

/-- The reference's score. -/
theorem score_at (n : Fin 32768) (h : Fin 8) (j : Fin 128) : val_main_v7 (F := Ideal) x0 x1 x2 (ix3 n h j)
    = keyScore x0 x1 x2 ⟨n.val / 2048, by omega⟩ ⟨n.val % 2048, by omega⟩ h j := by
  rw [val_main_v7_apply, val_main_v6_apply, val_main_v5_apply, val_main_v4_apply]
  refine Finset.sum_congr rfl fun d _ => congrArg₂ HMul.hMul (congrArg x2 (funext fun a => ?_)) (Eq.trans (congrArg _ (funext fun a => ?_)) (query_at x0 x1 n h d))
  · match a with
    | ⟨0, _⟩ => exact Fin.ext (by show ((n.val * 8 + h.val) * 128 + j.val) / 128 % 8 = h.val; omega)
    | ⟨1, _⟩ => rfl
    | ⟨2, _⟩ => exact Fin.ext (by show ((n.val * 8 + h.val) * 128 + j.val) % 128 = j.val; omega)
    | ⟨3, _⟩ => rfl
  · match a with
    | ⟨0, _⟩ => exact Fin.ext (by show ((n.val * 8 + h.val) * 128 + j.val) / 1024 = n.val; omega)
    | ⟨1, _⟩ => exact Fin.ext (by show ((n.val * 8 + h.val) * 128 + j.val) / 128 % 8 = h.val; omega)
    | ⟨2, _⟩ => rfl
    | ⟨3, _⟩ => rfl

/-- The largest along a row, from the least value. -/
theorem top_at (y : Vec Ideal S32768x8x128 .f32) (n : Fin 32768) (h : Fin 8) :
    (Host.reduce FloatOps.maximumf y (constant S_ .f32 0xFF800000#32) reducesTo_S32768x8x128_S32768x8_d2 h_S_ : FVec Ideal S32768x8 .f32) (ix2 n h)
      = Finset.univ.sup fun j => y (ix3 n h j) := by
  pointwise []
  rfl

/-- The reference's last result. -/
theorem result_at (b : Fin 16) (r : Fin 1024) (s : Fin 2048) : val_main_v15 (F := Ideal) x0 x1 x2 (ix3 b r s) = keyExp x0 x1 x2 b r s := by
  rw [val_main_v15_apply, val_main_v14_apply, val_main_v13_apply, val_main_v12_apply, val_main_v11_apply, val_main_v10_apply, val_main_v9_apply]
  have hn : b.val * 2048 + s.val < 32768 := by omega
  have hi : idx_main_v13 (idx_main_v14 (ix3 b r s)) = (ix3 ⟨b.val * 2048 + s.val, hn⟩ ⟨r.val / 128, by omega⟩ ⟨r.val % 128, Nat.mod_lt _ (by decide)⟩ : S32768x8x128.Idx) := by
    funext a
    match a with
    | ⟨0, _⟩ => exact Fin.ext (by show ((b.val * 2048 + s.val) * 1024 + r.val) / 1024 = b.val * 2048 + s.val; omega)
    | ⟨1, _⟩ => exact Fin.ext (by show ((b.val * 2048 + s.val) * 1024 + r.val) / 128 % 8 = r.val / 128; omega)
    | ⟨2, _⟩ => exact Fin.ext (by show ((b.val * 2048 + s.val) * 1024 + r.val) % 128 = r.val % 128; omega)
  rw [hi]
  have hs : ∀ j, val_main_v7 (F := Ideal) x0 x1 x2 (ix3 ⟨b.val * 2048 + s.val, hn⟩ ⟨r.val / 128, by omega⟩ j)
      = keyScore x0 x1 x2 b s ⟨r.val / 128, by omega⟩ j := fun j =>
    (score_at x0 x1 x2 _ _ j).trans (congrFun (congrFun (congr (congrArg (keyScore x0 x1 x2)
      (Fin.ext (by show (b.val * 2048 + s.val) / 2048 = b.val; omega))) (Fin.ext (by show (b.val * 2048 + s.val) % 2048 = s.val; omega))) _) j)
  refine congrArg₂ (fun a b => Ideal.exp (a - b)) (hs _) ?_
  refine Eq.trans (congrArg _ ?_) ((top_at (val_main_v7 (F := Ideal) x0 x1 x2) ⟨b.val * 2048 + s.val, hn⟩ ⟨r.val / 128, by omega⟩).trans
    (congrArg (Finset.sup Finset.univ) (funext hs)))
  funext a
  match a with
  | ⟨0, _⟩ => rfl
  | ⟨1, _⟩ => rfl

end Cert.Reference6Ideal.Route

namespace Cert.Proof.Route

open Idealize.ShloMosaic Idealize.ShloMosaic.StableHlo Idealize.SL.Sem Cert.Kernel6Ideal

/-- The retrieval reference's frame: its run keeps the arguments, and it declares no semaphore. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The retrieval's frame. -/
theorem frame_kernel6Ideal : Cert.quiescent_Kernel6Ideal := fun m ρ _ =>
  (θ_run Cert.Kernel6Ideal.defs _ _).mono (fun r h => ⟨fun c => (h.1 c).2, h.2⟩) (Cert.Kernel6Ideal.Route.run_result m ρ)

/-- An argument array of the retrieval's kernel on a device. -/
abbrev arg6 (m : (ℓ : Loc nD τ sig) → Buf (Elt Ideal) ℓ) (c : Dev nD) (b : Ref sig .tc) := m ((c.tc : Thread nD τ).loc b)

/-- The retrieval's kernel and its reference end equal in the last result. -/
theorem algebraic6 : Cert.algebraic_Kernel6Ideal_Reference6Ideal := by
  intro m g m' g' _ ha
  refine ⟨fun c => Cert.Reference6Ideal.Read.val_main_v15 (F := Ideal) (arg6 m c main_arg0) (arg6 m c main_arg1) (arg6 m c main_arg2), ?_, ?_⟩
  · refine (θ_run Cert.Kernel6Ideal.defs _ _).mono (fun r h c => ⟨(h.1 c).1.trans ?_, (h.1 c).2⟩) (Cert.Kernel6Ideal.Route.run_result m g)
    exact (Cert.Kernel6Ideal.Route.result_array m c).trans (funext fun i =>
      ((congrArg _ (eq_ix3 i)).trans (Cert.Reference6Ideal.Route.result_at _ _ _ _ _ _)).symm)
  · refine (θ_run Cert.Reference6Ideal.defs _ _).mono (fun r h c => ⟨(h c).1.trans ?_, (h c).2⟩) (Cert.Reference6Ideal.Value.run (F := Ideal) m' g')
    obtain ⟨e0, e1, e2⟩ := ha c
    refine (Cert.Reference6Ideal.Read.val_main_v15_eq (F := Ideal) _ _ _).trans ?_
    exact congr (congr (congrArg (Cert.Reference6Ideal.Read.val_main_v15 (F := Ideal)) e0) e1) e2

end Cert.Proof.Route
-- ==== Proof.lean ====
/- The claims about the attention, about the projections before and after the mixers, and about the retrieval. The frames of
   the calls are the generated ones, save the retrieval's; it, the frames of the references and the value claims are proved
   in NA/, LIN/ and RT/. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel6.Skeleton
public import proofs.«01_k».proof.Proof.Gen.Kernel6.Loops
public import proofs.«01_k».proof.Proof.Gen.Kernel6Ideal.Frame
public import proofs.«01_k».proof.Proof.Gen.Kernel6Ideal.Skeleton
public import proofs.«01_k».proof.Proof.Gen.Kernel6Ideal.Loops
public import proofs.«01_k».proof.Proof.Gen.Reference6Ideal.Read
public import proofs.«01_k».proof.Proof.Gen.Pre_attention_inputs
public import proofs.«01_k».proof.Proof.NA.Claims
public import proofs.«01_k».proof.Proof.LIN.Even2
public import proofs.«01_k».proof.Proof.LIN.Odd3
public import proofs.«01_k».proof.Proof.LIN.Even4
public import proofs.«01_k».proof.Proof.LIN.Odd5
public import proofs.«01_k».proof.Proof.RT.Frame
public import proofs.«01_k».proof.Proof.RT.Retrieve

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_attention_inputs.Gen.facts,
    fun m ρ _ => Cert.Kernel.Gen.frame m ρ, fun m ρ _ => Cert.KernelIdeal.Gen.frame m ρ, fun m ρ _ => Cert.KernelIdeal.Gen.frame m ρ,
    NA.frame_reference, fun m ρ _ => NA.frame_reference m ρ trivial,
    fun m ρ _ => Cert.Kernel2.Gen.frame m ρ, fun m ρ _ => Cert.Kernel2Ideal.Gen.frame m ρ, LIN.frame_reference2,
    fun m ρ _ => Cert.Kernel3.Gen.frame m ρ, fun m ρ _ => Cert.Kernel3Ideal.Gen.frame m ρ, LIN.frame_reference3,
    fun m ρ _ => Cert.Kernel4.Gen.frame m ρ, fun m ρ _ => Cert.Kernel4Ideal.Gen.frame m ρ, LIN.frame_reference4,
    fun m ρ _ => Cert.Kernel5.Gen.frame m ρ, fun m ρ _ => Cert.Kernel5Ideal.Gen.frame m ρ, LIN.frame_reference5,
    fun m ρ _ => Cert.Kernel6.Route.run_frame m ρ, Route.frame_kernel6Ideal, Route.frame_reference6,
    IdealRules.named_const.statement Cert.KernelIdeal.κ "mask" .f32 0xF149F2CA#32 ⊥ rfl, NA.algebraic,
    trivial, LIN.algebraic2,
    trivial, LIN.algebraic3,
    trivial, LIN.algebraic4,
    trivial, LIN.algebraic5,
    trivial, Route.algebraic6⟩

end Cert.Proof

end
